-- ==== Defs.lean ====
def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_MemAttend (m : (ℓ : Loc Cert.MemAttend.nD Cert.MemAttend.τ Cert.MemAttend.sig) → Buf (Elt Bits) ℓ) : Prop :=
  True

def Pre_MemAttendIdeal (m : (ℓ : Loc Cert.MemAttendIdeal.nD Cert.MemAttendIdeal.τ Cert.MemAttendIdeal.sig) → Buf (Elt Ideal) ℓ) : Prop :=
  True

def Pre_MemAttendRefIdeal (m : (ℓ : Loc Cert.MemAttendRefIdeal.nD Cert.MemAttendRefIdeal.τ Cert.MemAttendRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateIdeal_forget_gates_open [hPre_forget_gates_open : Cert.Pre_forget_gates_open.Facts] (m : (ℓ : Loc Cert.StateIdeal.nD Cert.StateIdeal.τ Cert.StateIdeal.sig) → Buf (Elt Ideal) ℓ) : Prop :=
  ∀ c : Dev Cert.StateIdeal.nD,
    (Cert.Pre_forget_gates_open.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2))) = (fun _ => 1#1)

def Pre_StateRefIdeal (m : (ℓ : Loc Cert.StateRefIdeal.nD Cert.StateRefIdeal.τ Cert.StateRefIdeal.sig) → Buf (Elt Ideal) ℓ) : Prop :=
  True

def Pre_StateRefIdeal_forget_gates_open [hPre_forget_gates_open : Cert.Pre_forget_gates_open.Facts] (m : (ℓ : Loc Cert.StateRefIdeal.nD Cert.StateRefIdeal.τ Cert.StateRefIdeal.sig) → Buf (Elt Ideal) ℓ) : Prop :=
  ∀ c : Dev Cert.StateRefIdeal.nD,
    (Cert.Pre_forget_gates_open.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1)) (m ((c.tc : Thread Cert.StateRefIdeal.nD Cert.StateRefIdeal.τ).loc Cert.StateRefIdeal.main_arg2))) = (fun _ => 1#1)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2)
      ∧ r.2.mem ((c.tc : Thread Cert.InA.nD Cert.InA.τ).loc Cert.InA.main_arg3) = m ((c.tc : Thread Cert.InA.nD Cert.InA.τ).loc Cert.InA.main_arg3)
      ∧ r.2.mem ((c.tc : Thread Cert.InA.nD Cert.InA.τ).loc Cert.InA.main_arg4) = m ((c.tc : Thread Cert.InA.nD Cert.InA.τ).loc Cert.InA.main_arg4)
      ∧ r.2.mem ((c.tc : Thread Cert.InA.nD Cert.InA.τ).loc Cert.InA.main_arg5) = m ((c.tc : Thread Cert.InA.nD Cert.InA.τ).loc Cert.InA.main_arg5))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
      ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
      ∧ r.2.mem ((c.tc : Thread Cert.InAIdeal.nD Cert.InAIdeal.τ).loc Cert.InAIdeal.main_arg5) = m ((c.tc : Thread Cert.InAIdeal.nD Cert.InAIdeal.τ).loc Cert.InAIdeal.main_arg5))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2)
      ∧ r.2.mem ((c.tc : Thread Cert.InARefIdeal.nD Cert.InARefIdeal.τ).loc Cert.InARefIdeal.main_arg3) = m ((c.tc : Thread Cert.InARefIdeal.nD Cert.InARefIdeal.τ).loc Cert.InARefIdeal.main_arg3)
      ∧ r.2.mem ((c.tc : Thread Cert.InARefIdeal.nD Cert.InARefIdeal.τ).loc Cert.InARefIdeal.main_arg4) = m ((c.tc : Thread Cert.InARefIdeal.nD Cert.InARefIdeal.τ).loc Cert.InARefIdeal.main_arg4)
      ∧ r.2.mem ((c.tc : Thread Cert.InARefIdeal.nD Cert.InARefIdeal.τ).loc Cert.InARefIdeal.main_arg5) = m ((c.tc : Thread Cert.InARefIdeal.nD Cert.InARefIdeal.τ).loc Cert.InARefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3)
      ∧ r.2.mem ((c.tc : Thread Cert.SharedRefIdeal.nD Cert.SharedRefIdeal.τ).loc Cert.SharedRefIdeal.main_arg4) = m ((c.tc : Thread Cert.SharedRefIdeal.nD Cert.SharedRefIdeal.τ).loc Cert.SharedRefIdeal.main_arg4)
      ∧ r.2.mem ((c.tc : Thread Cert.SharedRefIdeal.nD Cert.SharedRefIdeal.τ).loc Cert.SharedRefIdeal.main_arg5) = m ((c.tc : Thread Cert.SharedRefIdeal.nD Cert.SharedRefIdeal.τ).loc Cert.SharedRefIdeal.main_arg5))
      ∧ r.2.sem = fun _ => 0)

def quiescent_MemAttend [hMemAttend : Cert.MemAttend.Facts] : Prop :=
  ∀ (m : (ℓ : Loc Cert.MemAttend.nD Cert.MemAttend.τ Cert.MemAttend.sig) → Buf (Elt Bits) ℓ) (g : Dev Cert.MemAttend.nD → PrngReg), Pre_MemAttend m →
    θ_run (Cert.MemAttend.defs (F := Bits)) (onTc (τ := Cert.MemAttend.τ) (Cert.MemAttend.main (F := Bits))) ⟨m, fun _ => 0, g⟩ (fun r => (∀ c : Dev Cert.MemAttend.nD,
      r.2.mem ((c.tc : Thread Cert.MemAttend.nD Cert.MemAttend.τ).loc Cert.MemAttend.main_arg0) = m ((c.tc : Thread Cert.MemAttend.nD Cert.MemAttend.τ).loc Cert.MemAttend.main_arg0)
      ∧ r.2.mem ((c.tc : Thread Cert.MemAttend.nD Cert.MemAttend.τ).loc Cert.MemAttend.main_arg1) = m ((c.tc : Thread Cert.MemAttend.nD Cert.MemAttend.τ).loc Cert.MemAttend.main_arg1)
      ∧ r.2.mem ((c.tc : Thread Cert.MemAttend.nD Cert.MemAttend.τ).loc Cert.MemAttend.main_arg2) = m ((c.tc : Thread Cert.MemAttend.nD Cert.MemAttend.τ).loc Cert.MemAttend.main_arg2))
      ∧ r.2.sem = fun _ => 0)

def quiescent_MemAttendIdeal [hMemAttendIdeal : Cert.MemAttendIdeal.Facts] : Prop :=
  ∀ (m : (ℓ : Loc Cert.MemAttendIdeal.nD Cert.MemAttendIdeal.τ Cert.MemAttendIdeal.sig) → Buf (Elt Ideal) ℓ) (g : Dev Cert.MemAttendIdeal.nD → PrngReg), Pre_MemAttendIdeal m →
    θ_run (Cert.MemAttendIdeal.defs (F := Ideal)) (onTc (τ := Cert.MemAttendIdeal.τ) (Cert.MemAttendIdeal.main (F := Ideal))) ⟨m, fun _ => 0, g⟩ (fun r => (∀ c : Dev Cert.MemAttendIdeal.nD,
      r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
      ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1)
      ∧ r.2.mem ((c.tc : Thread Cert.MemAttendIdeal.nD Cert.MemAttendIdeal.τ).loc Cert.MemAttendIdeal.main_arg2) = m ((c.tc : Thread Cert.MemAttendIdeal.nD Cert.MemAttendIdeal.τ).loc Cert.MemAttendIdeal.main_arg2))
      ∧ r.2.sem = fun _ => 0)

def quiescent_MemAttendRefIdeal [hMemAttendRefIdeal : Cert.MemAttendRefIdeal.Facts] : Prop :=
  ∀ (m : (ℓ : Loc Cert.MemAttendRefIdeal.nD Cert.MemAttendRefIdeal.τ Cert.MemAttendRefIdeal.sig) → Buf (Elt Ideal) ℓ) (g : Dev Cert.MemAttendRefIdeal.nD → PrngReg), Pre_MemAttendRefIdeal m →
    θ_run (Cert.MemAttendRefIdeal.defs (F := Ideal)) (onTc (τ := Cert.MemAttendRefIdeal.τ) (Cert.MemAttendRefIdeal.main (F := Ideal))) ⟨m, fun _ => 0, g⟩ (fun r => (∀ c : Dev Cert.MemAttendRefIdeal.nD,
      r.2.mem ((c.tc : Thread Cert.MemAttendRefIdeal.nD Cert.MemAttendRefIdeal.τ).loc Cert.MemAttendRefIdeal.main_arg0) = m ((c.tc : Thread Cert.MemAttendRefIdeal.nD Cert.MemAttendRefIdeal.τ).loc Cert.MemAttendRefIdeal.main_arg0)
      ∧ r.2.mem ((c.tc : Thread Cert.MemAttendRefIdeal.nD Cert.MemAttendRefIdeal.τ).loc Cert.MemAttendRefIdeal.main_arg1) = m ((c.tc : Thread Cert.MemAttendRefIdeal.nD Cert.MemAttendRefIdeal.τ).loc Cert.MemAttendRefIdeal.main_arg1)
      ∧ r.2.mem ((c.tc : Thread Cert.MemAttendRefIdeal.nD Cert.MemAttendRefIdeal.τ).loc Cert.MemAttendRefIdeal.main_arg2) = m ((c.tc : Thread Cert.MemAttendRefIdeal.nD Cert.MemAttendRefIdeal.τ).loc Cert.MemAttendRefIdeal.main_arg2))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ r.2.sem = fun _ => 0)

def quiescent_StateIdeal_pre_forget_gates_open [hStateIdeal : Cert.StateIdeal.Facts] [hPre_forget_gates_open : Cert.Pre_forget_gates_open.Facts] : Prop :=
  ∀ (m : (ℓ : Loc Cert.StateIdeal.nD Cert.StateIdeal.τ Cert.StateIdeal.sig) → Buf (Elt Ideal) ℓ) (g : Dev Cert.StateIdeal.nD → PrngReg), Pre_StateIdeal_forget_gates_open m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2))
      ∧ r.2.sem = fun _ => 0)

def quiescent_StateRefIdeal_pre_forget_gates_open [hStateRefIdeal : Cert.StateRefIdeal.Facts] [hPre_forget_gates_open : Cert.Pre_forget_gates_open.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal_forget_gates_open m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2))
      ∧ r.2.sem = fun _ => 0)

def preserves_Mlstm_MlstmIdeal : Prop :=
  IdealRules.named_const.Statement Cert.MlstmIdeal.κ "neg_big" .f32 0xF149F2CA#32 ⊥
  ∧ IdealRules.named_const.Statement Cert.MlstmIdeal.κ "pos_big" .f32 0x7149F2CA#32 ⊤

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)) →
    ∃ (v0 : (c : Dev Cert.MlstmIdeal.nD) → Buf (Elt Ideal) ((c.tc : Thread Cert.MlstmIdeal.nD Cert.MlstmIdeal.τ).loc Cert.MlstmIdeal.main_v7_0)) (v1 : (c : Dev Cert.MlstmIdeal.nD) → Buf (Elt Ideal) ((c.tc : Thread Cert.MlstmIdeal.nD Cert.MlstmIdeal.τ).loc Cert.MlstmIdeal.main_v7_1)) (v2 : (c : Dev Cert.MlstmIdeal.nD) → Buf (Elt Ideal) ((c.tc : Thread Cert.MlstmIdeal.nD Cert.MlstmIdeal.τ).loc Cert.MlstmIdeal.main_v7_2)) (v3 : (c : Dev Cert.MlstmIdeal.nD) → Buf (Elt Ideal) ((c.tc : Thread Cert.MlstmIdeal.nD Cert.MlstmIdeal.τ).loc Cert.MlstmIdeal.main_v7_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v7_0) = v0 c
          ∧ r.2.mem ((c.tc : Thread Cert.MlstmIdeal.nD Cert.MlstmIdeal.τ).loc Cert.MlstmIdeal.main_v7_1) = v1 c
          ∧ r.2.mem ((c.tc : Thread Cert.MlstmIdeal.nD Cert.MlstmIdeal.τ).loc Cert.MlstmIdeal.main_v7_2) = v2 c
          ∧ r.2.mem ((c.tc : Thread Cert.MlstmIdeal.nD Cert.MlstmIdeal.τ).loc Cert.MlstmIdeal.main_v7_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v108) = v0 c
          ∧ r.2.mem ((c.tc : Thread Cert.MlstmRefIdeal.nD Cert.MlstmRefIdeal.τ).loc Cert.MlstmRefIdeal.main_v91) = v1 c
          ∧ r.2.mem ((c.tc : Thread Cert.MlstmRefIdeal.nD Cert.MlstmRefIdeal.τ).loc Cert.MlstmRefIdeal.main_v109) = v2 c
          ∧ r.2.mem ((c.tc : Thread Cert.MlstmRefIdeal.nD Cert.MlstmRefIdeal.τ).loc Cert.MlstmRefIdeal.main_v111) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v20)) (v1 : (c : Dev Cert.MemKvIdeal.nD) → Buf (Elt Ideal) ((c.tc : Thread Cert.MemKvIdeal.nD Cert.MemKvIdeal.τ).loc Cert.MemKvIdeal.main_v21)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v20) = v0 c
          ∧ r.2.mem ((c.tc : Thread Cert.MemKvIdeal.nD Cert.MemKvIdeal.τ).loc Cert.MemKvIdeal.main_v21) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v12) = v0 c
          ∧ r.2.mem ((c.tc : Thread Cert.MemKvRefIdeal.nD Cert.MemKvRefIdeal.τ).loc Cert.MemKvRefIdeal.main_v19) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_InA_InAIdeal : Prop :=
  IdealRules.named_const.Statement Cert.InAIdeal.κ "neg_big" .f32 0xF149F2CA#32 ⊥
  ∧ IdealRules.named_const.Statement Cert.InAIdeal.κ "pos_big" .f32 0x7149F2CA#32 ⊤

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)
      ∧ m' ((c.tc : Thread Cert.InARefIdeal.nD Cert.InARefIdeal.τ).loc Cert.InARefIdeal.main_arg3) = m ((c.tc : Thread Cert.InAIdeal.nD Cert.InAIdeal.τ).loc Cert.InAIdeal.main_arg3)
      ∧ m' ((c.tc : Thread Cert.InARefIdeal.nD Cert.InARefIdeal.τ).loc Cert.InARefIdeal.main_arg4) = m ((c.tc : Thread Cert.InAIdeal.nD Cert.InAIdeal.τ).loc Cert.InAIdeal.main_arg4)
      ∧ m' ((c.tc : Thread Cert.InARefIdeal.nD Cert.InARefIdeal.τ).loc Cert.InARefIdeal.main_arg5) = m ((c.tc : Thread Cert.InAIdeal.nD Cert.InAIdeal.τ).loc Cert.InAIdeal.main_arg5)) →
    ∃ (v0 : (c : Dev Cert.InAIdeal.nD) → Buf (Elt Ideal) ((c.tc : Thread Cert.InAIdeal.nD Cert.InAIdeal.τ).loc Cert.InAIdeal.main_v28_0)) (v1 : (c : Dev Cert.InAIdeal.nD) → Buf (Elt Ideal) ((c.tc : Thread Cert.InAIdeal.nD Cert.InAIdeal.τ).loc Cert.InAIdeal.main_v17)) (v2 : (c : Dev Cert.InAIdeal.nD) → Buf (Elt Ideal) ((c.tc : Thread Cert.InAIdeal.nD Cert.InAIdeal.τ).loc Cert.InAIdeal.main_v29)) (v3 : (c : Dev Cert.InAIdeal.nD) → Buf (Elt Ideal) ((c.tc : Thread Cert.InAIdeal.nD Cert.InAIdeal.τ).loc Cert.InAIdeal.main_v31)) (v4 : (c : Dev Cert.InAIdeal.nD) → Buf (Elt Ideal) ((c.tc : Thread Cert.InAIdeal.nD Cert.InAIdeal.τ).loc Cert.InAIdeal.main_v34)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v28_0) = v0 c
          ∧ r.2.mem ((c.tc : Thread Cert.InAIdeal.nD Cert.InAIdeal.τ).loc Cert.InAIdeal.main_v17) = v1 c
          ∧ r.2.mem ((c.tc : Thread Cert.InAIdeal.nD Cert.InAIdeal.τ).loc Cert.InAIdeal.main_v29) = v2 c
          ∧ r.2.mem ((c.tc : Thread Cert.InAIdeal.nD Cert.InAIdeal.τ).loc Cert.InAIdeal.main_v31) = v3 c
          ∧ r.2.mem ((c.tc : Thread Cert.InAIdeal.nD Cert.InAIdeal.τ).loc Cert.InAIdeal.main_v34) = v4 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
          ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
          ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
          ∧ r.2.mem ((c.tc : Thread Cert.InAIdeal.nD Cert.InAIdeal.τ).loc Cert.InAIdeal.main_arg5) = m ((c.tc : Thread Cert.InAIdeal.nD Cert.InAIdeal.τ).loc Cert.InAIdeal.main_arg5))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v118) = v0 c
          ∧ r.2.mem ((c.tc : Thread Cert.InARefIdeal.nD Cert.InARefIdeal.τ).loc Cert.InARefIdeal.main_v119) = v1 c
          ∧ r.2.mem ((c.tc : Thread Cert.InARefIdeal.nD Cert.InARefIdeal.τ).loc Cert.InARefIdeal.main_v120) = v2 c
          ∧ r.2.mem ((c.tc : Thread Cert.InARefIdeal.nD Cert.InARefIdeal.τ).loc Cert.InARefIdeal.main_v121) = v3 c
          ∧ r.2.mem ((c.tc : Thread Cert.InARefIdeal.nD Cert.InARefIdeal.τ).loc Cert.InARefIdeal.main_v122) = v4 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2)
          ∧ r.2.mem ((c.tc : Thread Cert.InARefIdeal.nD Cert.InARefIdeal.τ).loc Cert.InARefIdeal.main_arg3) = m' ((c.tc : Thread Cert.InARefIdeal.nD Cert.InARefIdeal.τ).loc Cert.InARefIdeal.main_arg3)
          ∧ r.2.mem ((c.tc : Thread Cert.InARefIdeal.nD Cert.InARefIdeal.τ).loc Cert.InARefIdeal.main_arg4) = m' ((c.tc : Thread Cert.InARefIdeal.nD Cert.InARefIdeal.τ).loc Cert.InARefIdeal.main_arg4)
          ∧ r.2.mem ((c.tc : Thread Cert.InARefIdeal.nD Cert.InARefIdeal.τ).loc Cert.InARefIdeal.main_arg5) = m' ((c.tc : Thread Cert.InARefIdeal.nD Cert.InARefIdeal.τ).loc Cert.InARefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)) →
    ∃ (v0 : (c : Dev Cert.QueryIdeal.nD) → Buf (Elt Ideal) ((c.tc : Thread Cert.QueryIdeal.nD Cert.QueryIdeal.τ).loc Cert.QueryIdeal.main_v6_0)) (v1 : (c : Dev Cert.QueryIdeal.nD) → Buf (Elt Ideal) ((c.tc : Thread Cert.QueryIdeal.nD Cert.QueryIdeal.τ).loc Cert.QueryIdeal.main_v8)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v6_0) = v0 c
          ∧ r.2.mem ((c.tc : Thread Cert.QueryIdeal.nD Cert.QueryIdeal.τ).loc Cert.QueryIdeal.main_v8) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v30) = v0 c
          ∧ r.2.mem ((c.tc : Thread Cert.QueryRefIdeal.nD Cert.QueryRefIdeal.τ).loc Cert.QueryRefIdeal.main_v33) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4))

def preserves_Shared_SharedIdeal : Prop :=
  True

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)
      ∧ m' ((c.tc : Thread Cert.SharedRefIdeal.nD Cert.SharedRefIdeal.τ).loc Cert.SharedRefIdeal.main_arg4) = m ((c.tc : Thread Cert.SharedIdeal.nD Cert.SharedIdeal.τ).loc Cert.SharedIdeal.main_arg4)
      ∧ m' ((c.tc : Thread Cert.SharedRefIdeal.nD Cert.SharedRefIdeal.τ).loc Cert.SharedRefIdeal.main_arg5) = m ((c.tc : Thread Cert.SharedIdeal.nD Cert.SharedIdeal.τ).loc Cert.SharedIdeal.main_arg5)) →
    ∃ (v0 : (c : Dev Cert.SharedIdeal.nD) → Buf (Elt Ideal) ((c.tc : Thread Cert.SharedIdeal.nD Cert.SharedIdeal.τ).loc Cert.SharedIdeal.main_v12_0)) (v1 : (c : Dev Cert.SharedIdeal.nD) → Buf (Elt Ideal) ((c.tc : Thread Cert.SharedIdeal.nD Cert.SharedIdeal.τ).loc Cert.SharedIdeal.main_v13)) (v2 : (c : Dev Cert.SharedIdeal.nD) → Buf (Elt Ideal) ((c.tc : Thread Cert.SharedIdeal.nD Cert.SharedIdeal.τ).loc Cert.SharedIdeal.main_v14)) (v3 : (c : Dev Cert.SharedIdeal.nD) → Buf (Elt Ideal) ((c.tc : Thread Cert.SharedIdeal.nD Cert.SharedIdeal.τ).loc Cert.SharedIdeal.main_v15)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v12_0) = v0 c
          ∧ r.2.mem ((c.tc : Thread Cert.SharedIdeal.nD Cert.SharedIdeal.τ).loc Cert.SharedIdeal.main_v13) = v1 c
          ∧ r.2.mem ((c.tc : Thread Cert.SharedIdeal.nD Cert.SharedIdeal.τ).loc Cert.SharedIdeal.main_v14) = v2 c
          ∧ r.2.mem ((c.tc : Thread Cert.SharedIdeal.nD Cert.SharedIdeal.τ).loc Cert.SharedIdeal.main_v15) = v3 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v31) = v0 c
          ∧ r.2.mem ((c.tc : Thread Cert.SharedRefIdeal.nD Cert.SharedRefIdeal.τ).loc Cert.SharedRefIdeal.main_v33) = v1 c
          ∧ r.2.mem ((c.tc : Thread Cert.SharedRefIdeal.nD Cert.SharedRefIdeal.τ).loc Cert.SharedRefIdeal.main_v34) = v2 c
          ∧ r.2.mem ((c.tc : Thread Cert.SharedRefIdeal.nD Cert.SharedRefIdeal.τ).loc Cert.SharedRefIdeal.main_v36) = v3 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3)
          ∧ r.2.mem ((c.tc : Thread Cert.SharedRefIdeal.nD Cert.SharedRefIdeal.τ).loc Cert.SharedRefIdeal.main_arg4) = m' ((c.tc : Thread Cert.SharedRefIdeal.nD Cert.SharedRefIdeal.τ).loc Cert.SharedRefIdeal.main_arg4)
          ∧ r.2.mem ((c.tc : Thread Cert.SharedRefIdeal.nD Cert.SharedRefIdeal.τ).loc Cert.SharedRefIdeal.main_arg5) = m' ((c.tc : Thread Cert.SharedRefIdeal.nD Cert.SharedRefIdeal.τ).loc Cert.SharedRefIdeal.main_arg5))

def preserves_MemAttend_MemAttendIdeal : Prop :=
  True

def algebraic_MemAttendIdeal_MemAttendRefIdeal [hMemAttendIdeal : Cert.MemAttendIdeal.Facts] [hMemAttendRefIdeal : Cert.MemAttendRefIdeal.Facts] : Prop :=
  ∀ (m : (ℓ : Loc Cert.MemAttendIdeal.nD Cert.MemAttendIdeal.τ Cert.MemAttendIdeal.sig) → Buf (Elt Ideal) ℓ) (g : Dev Cert.MemAttendIdeal.nD → PrngReg)
    (m' : (ℓ : Loc Cert.MemAttendRefIdeal.nD Cert.MemAttendRefIdeal.τ Cert.MemAttendRefIdeal.sig) → Buf (Elt Ideal) ℓ) (g' : Dev Cert.MemAttendRefIdeal.nD → PrngReg), Pre_MemAttendIdeal m →
    (∀ c : Dev Cert.MemAttendIdeal.nD,
      m' ((c.tc : Thread Cert.MemAttendRefIdeal.nD Cert.MemAttendRefIdeal.τ).loc Cert.MemAttendRefIdeal.main_arg0) = m ((c.tc : Thread Cert.MemAttendIdeal.nD Cert.MemAttendIdeal.τ).loc Cert.MemAttendIdeal.main_arg0)
      ∧ m' ((c.tc : Thread Cert.MemAttendRefIdeal.nD Cert.MemAttendRefIdeal.τ).loc Cert.MemAttendRefIdeal.main_arg1) = m ((c.tc : Thread Cert.MemAttendIdeal.nD Cert.MemAttendIdeal.τ).loc Cert.MemAttendIdeal.main_arg1)
      ∧ m' ((c.tc : Thread Cert.MemAttendRefIdeal.nD Cert.MemAttendRefIdeal.τ).loc Cert.MemAttendRefIdeal.main_arg2) = m ((c.tc : Thread Cert.MemAttendIdeal.nD Cert.MemAttendIdeal.τ).loc Cert.MemAttendIdeal.main_arg2)) →
    ∃ (v0 : (c : Dev Cert.MemAttendIdeal.nD) → Buf (Elt Ideal) ((c.tc : Thread Cert.MemAttendIdeal.nD Cert.MemAttendIdeal.τ).loc Cert.MemAttendIdeal.main_v10)),
      θ_run (Cert.MemAttendIdeal.defs (F := Ideal)) (onTc (τ := Cert.MemAttendIdeal.τ) (Cert.MemAttendIdeal.main (F := Ideal))) ⟨m, fun _ => 0, g⟩ (fun r => ∀ c : Dev Cert.MemAttendIdeal.nD,
          r.2.mem ((c.tc : Thread Cert.MemAttendIdeal.nD Cert.MemAttendIdeal.τ).loc Cert.MemAttendIdeal.main_v10) = v0 c
          ∧ r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
          ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1)
          ∧ r.2.mem ((c.tc : Thread Cert.MemAttendIdeal.nD Cert.MemAttendIdeal.τ).loc Cert.MemAttendIdeal.main_arg2) = m ((c.tc : Thread Cert.MemAttendIdeal.nD Cert.MemAttendIdeal.τ).loc Cert.MemAttendIdeal.main_arg2))
      ∧ θ_run (Cert.MemAttendRefIdeal.defs (F := Ideal)) (onTc (τ := Cert.MemAttendRefIdeal.τ) (Cert.MemAttendRefIdeal.main (F := Ideal))) ⟨m', fun _ => 0, g'⟩ (fun r => ∀ c : Dev Cert.MemAttendRefIdeal.nD,
          r.2.mem ((c.tc : Thread Cert.MemAttendRefIdeal.nD Cert.MemAttendRefIdeal.τ).loc Cert.MemAttendRefIdeal.main_v25) = v0 c
          ∧ r.2.mem ((c.tc : Thread Cert.MemAttendRefIdeal.nD Cert.MemAttendRefIdeal.τ).loc Cert.MemAttendRefIdeal.main_arg0) = m' ((c.tc : Thread Cert.MemAttendRefIdeal.nD Cert.MemAttendRefIdeal.τ).loc Cert.MemAttendRefIdeal.main_arg0)
          ∧ r.2.mem ((c.tc : Thread Cert.MemAttendRefIdeal.nD Cert.MemAttendRefIdeal.τ).loc Cert.MemAttendRefIdeal.main_arg1) = m' ((c.tc : Thread Cert.MemAttendRefIdeal.nD Cert.MemAttendRefIdeal.τ).loc Cert.MemAttendRefIdeal.main_arg1)
          ∧ r.2.mem ((c.tc : Thread Cert.MemAttendRefIdeal.nD Cert.MemAttendRefIdeal.τ).loc Cert.MemAttendRefIdeal.main_arg2) = m' ((c.tc : Thread Cert.MemAttendRefIdeal.nD Cert.MemAttendRefIdeal.τ).loc Cert.MemAttendRefIdeal.main_arg2))

def preserves_State_StateIdeal : Prop :=
  True

def algebraic_StateIdeal_StateRefIdeal_pre_forget_gates_open [hStateIdeal : Cert.StateIdeal.Facts] [hStateRefIdeal : Cert.StateRefIdeal.Facts] [hPre_forget_gates_open : Cert.Pre_forget_gates_open.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal_forget_gates_open m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)) →
    ∃ (v0 : (c : Dev Cert.StateIdeal.nD) → Buf (Elt Ideal) ((c.tc : Thread Cert.StateIdeal.nD Cert.StateIdeal.τ).loc Cert.StateIdeal.main_v25)) (v1 : (c : Dev Cert.StateIdeal.nD) → Buf (Elt Ideal) ((c.tc : Thread Cert.StateIdeal.nD Cert.StateIdeal.τ).loc Cert.StateIdeal.main_v27)) (v2 : (c : Dev Cert.StateIdeal.nD) → Buf (Elt Ideal) ((c.tc : Thread Cert.StateIdeal.nD Cert.StateIdeal.τ).loc Cert.StateIdeal.main_v30)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v25) = v0 c
          ∧ r.2.mem ((c.tc : Thread Cert.StateIdeal.nD Cert.StateIdeal.τ).loc Cert.StateIdeal.main_v27) = v1 c
          ∧ r.2.mem ((c.tc : Thread Cert.StateIdeal.nD Cert.StateIdeal.τ).loc Cert.StateIdeal.main_v30) = v2 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v67) = v0 c
          ∧ r.2.mem ((c.tc : Thread Cert.StateRefIdeal.nD Cert.StateRefIdeal.τ).loc Cert.StateRefIdeal.main_v68) = v1 c
          ∧ r.2.mem ((c.tc : Thread Cert.StateRefIdeal.nD Cert.StateRefIdeal.τ).loc Cert.StateRefIdeal.main_v69) = v2 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2))

def Claim : Prop :=
  ∃ (hMlstm : Cert.Mlstm.Facts) (hMlstmIdeal : Cert.MlstmIdeal.Facts) (hMlstmRefIdeal : Cert.MlstmRefIdeal.Facts) (hMemKv : Cert.MemKv.Facts) (hMemKvIdeal : Cert.MemKvIdeal.Facts) (hMemKvRefIdeal : Cert.MemKvRefIdeal.Facts) (hInA : Cert.InA.Facts) (hInAIdeal : Cert.InAIdeal.Facts) (hInARefIdeal : Cert.InARefIdeal.Facts) (hOutProj : Cert.OutProj.Facts) (hOutProjIdeal : Cert.OutProjIdeal.Facts) (hOutProjRefIdeal : Cert.OutProjRefIdeal.Facts) (hQuery : Cert.Query.Facts) (hQueryIdeal : Cert.QueryIdeal.Facts) (hQueryRefIdeal : Cert.QueryRefIdeal.Facts) (hShared : Cert.Shared.Facts) (hSharedIdeal : Cert.SharedIdeal.Facts) (hSharedRefIdeal : Cert.SharedRefIdeal.Facts) (hMemAttend : Cert.MemAttend.Facts) (hMemAttendIdeal : Cert.MemAttendIdeal.Facts) (hMemAttendRefIdeal : Cert.MemAttendRefIdeal.Facts) (hState : Cert.State.Facts) (hStateIdeal : Cert.StateIdeal.Facts) (hStateRefIdeal : Cert.StateRefIdeal.Facts) (hPre_forget_gates_open : Cert.Pre_forget_gates_open.Facts),
    quiescent_Mlstm (hMlstm := hMlstm)
    ∧ quiescent_MlstmIdeal (hMlstmIdeal := hMlstmIdeal)
    ∧ quiescent_MlstmRefIdeal (hMlstmRefIdeal := hMlstmRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_InA (hInA := hInA)
    ∧ quiescent_InAIdeal (hInAIdeal := hInAIdeal)
    ∧ quiescent_InARefIdeal (hInARefIdeal := hInARefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Query (hQuery := hQuery)
    ∧ quiescent_QueryIdeal (hQueryIdeal := hQueryIdeal)
    ∧ quiescent_QueryRefIdeal (hQueryRefIdeal := hQueryRefIdeal)
    ∧ quiescent_Shared (hShared := hShared)
    ∧ quiescent_SharedIdeal (hSharedIdeal := hSharedIdeal)
    ∧ quiescent_SharedRefIdeal (hSharedRefIdeal := hSharedRefIdeal)
    ∧ quiescent_MemAttend (hMemAttend := hMemAttend)
    ∧ quiescent_MemAttendIdeal (hMemAttendIdeal := hMemAttendIdeal)
    ∧ quiescent_MemAttendRefIdeal (hMemAttendRefIdeal := hMemAttendRefIdeal)
    ∧ quiescent_State (hState := hState)
    ∧ quiescent_StateIdeal (hStateIdeal := hStateIdeal)
    ∧ quiescent_StateIdeal_pre_forget_gates_open (hStateIdeal := hStateIdeal) (hPre_forget_gates_open := hPre_forget_gates_open)
    ∧ quiescent_StateRefIdeal (hStateRefIdeal := hStateRefIdeal)
    ∧ quiescent_StateRefIdeal_pre_forget_gates_open (hStateRefIdeal := hStateRefIdeal) (hPre_forget_gates_open := hPre_forget_gates_open)
    ∧ preserves_Mlstm_MlstmIdeal
    ∧ algebraic_MlstmIdeal_MlstmRefIdeal (hMlstmIdeal := hMlstmIdeal) (hMlstmRefIdeal := hMlstmRefIdeal)
    ∧ preserves_MemKv_MemKvIdeal
    ∧ algebraic_MemKvIdeal_MemKvRefIdeal (hMemKvIdeal := hMemKvIdeal) (hMemKvRefIdeal := hMemKvRefIdeal)
    ∧ preserves_InA_InAIdeal
    ∧ algebraic_InAIdeal_InARefIdeal (hInAIdeal := hInAIdeal) (hInARefIdeal := hInARefIdeal)
    ∧ preserves_OutProj_OutProjIdeal
    ∧ algebraic_OutProjIdeal_OutProjRefIdeal (hOutProjIdeal := hOutProjIdeal) (hOutProjRefIdeal := hOutProjRefIdeal)
    ∧ preserves_Query_QueryIdeal
    ∧ algebraic_QueryIdeal_QueryRefIdeal (hQueryIdeal := hQueryIdeal) (hQueryRefIdeal := hQueryRefIdeal)
    ∧ preserves_Shared_SharedIdeal
    ∧ algebraic_SharedIdeal_SharedRefIdeal (hSharedIdeal := hSharedIdeal) (hSharedRefIdeal := hSharedRefIdeal)
    ∧ preserves_MemAttend_MemAttendIdeal
    ∧ algebraic_MemAttendIdeal_MemAttendRefIdeal (hMemAttendIdeal := hMemAttendIdeal) (hMemAttendRefIdeal := hMemAttendRefIdeal)
    ∧ preserves_State_StateIdeal
    ∧ algebraic_StateIdeal_StateRefIdeal_pre_forget_gates_open (hStateIdeal := hStateIdeal) (hStateRefIdeal := hStateRefIdeal) (hPre_forget_gates_open := hPre_forget_gates_open)
-- ==== Pre_forget_gates_open.lean ====
abbrev S4x2048x4096 : Shape := ⟨3, ![4, 2048, 4096]⟩
abbrev S1x4096x10252 : Shape := ⟨3, ![1, 4096, 10252]⟩
abbrev S1x12 : Shape := ⟨2, ![1, 12]⟩
abbrev S1x4096x6 : Shape := ⟨3, ![1, 4096, 6]⟩
abbrev S4096x6 : Shape := ⟨2, ![4096, 6]⟩
abbrev S4x2048x6 : Shape := ⟨3, ![4, 2048, 6]⟩
abbrev S1x6 : Shape := ⟨2, ![1, 6]⟩
abbrev S6 : Shape := ⟨1, ![6]⟩
abbrev S1x1x6 : Shape := ⟨3, ![1, 1, 6]⟩
abbrev S_ : Shape := ⟨0, ![]⟩

class Facts : Prop where
  slices_S1x4096x10252_S1x4096x6_0_0_9222 : S1x4096x10252.Slices ![0, 0, 9222] S1x4096x6
  shapeCasts_S1x4096x6_S4096x6 : S1x4096x6.ShapeCasts S4096x6
  slices_S1x12_S1x6_0_6 : S1x12.Slices ![0, 6] S1x6
  shapeCasts_S1x6_S6 : S1x6.ShapeCasts S6
  bcast_S6_S1x1x6_2 : S6.BroadcastsInDim S1x1x6 (![2] : Fin 1 → Fin S1x1x6.rank)
  bcast_S1x1x6_S4x2048x6_0_1_2 : S1x1x6.BroadcastsInDim S4x2048x6 (![0, 1, 2] : Fin 3 → Fin S4x2048x6.rank)
  bcast_S_S4x2048x6 : S_.BroadcastsInDim S4x2048x6 (![] : Fin 0 → Fin S4x2048x6.rank)
  dot_S4x2048x4096_S4096x6_S4x2048x6_2_0_01_1_n_n_wf : DotDims.WF S4x2048x4096 S4096x6 S4x2048x6 [2] [0] [0, 1] [1] [] []

variable [Facts]

def dot_S4x2048x4096_S4096x6_S4x2048x6_2_0_01_1_n_n : DotDims S4x2048x4096 S4096x6 S4x2048x6 where
  lhsContracting := [2]
  rhsContracting := [0]
  lhsNonContracting := [0, 1]
  rhsNonContracting := [1]
  lhsBatch := []
  rhsBatch := []
  wf := dot_S4x2048x4096_S4096x6_S4x2048x6_2_0_01_1_n_n_wf
def fn {F : FTy → Type} [FloatOps F] (main_arg0 : FVec F S4x2048x4096 .f32) (main_arg1 : FVec F S1x4096x10252 .f32) (main_arg2 : FVec F S1x12 .f32) : IVec S4x2048x6 1 :=
  let main_v0 : FVec F S1x4096x6 .f32 := (extractStridedSlice S1x4096x6 ![0, 0, 9222] · slices_S1x4096x10252_S1x4096x6_0_0_9222) main_arg1
  let main_v1 : FVec F S4096x6 .f32 := shapeCast S4096x6 main_v0 shapeCasts_S1x4096x6_S4096x6
  let main_v2 : FVec F S4x2048x6 .f32 := (fun l r => Host.dotGeneral dot_S4x2048x4096_S4096x6_S4x2048x6_2_0_01_1_n_n none l r) main_arg0 main_v1
  let main_v3 : FVec F S1x6 .f32 := (extractStridedSlice S1x6 ![0, 6] · slices_S1x12_S1x6_0_6) main_arg2
  let main_v4 : FVec F S6 .f32 := shapeCast S6 main_v3 shapeCasts_S1x6_S6
  let main_v5 : FVec F S1x1x6 .f32 := broadcastInDim S1x1x6 ![2] bcast_S6_S1x1x6_2 main_v4
  let main_v6 : FVec F S4x2048x6 .f32 := broadcastInDim S4x2048x6 ![0, 1, 2] bcast_S1x1x6_S4x2048x6_0_1_2 main_v5
  let main_v7 : FVec F S4x2048x6 .f32 := addf main_v2 main_v6
  let main_cst : FVec F S_ .f32 := constant S_ .f32 0xFF800000#32
  let main_v8 : FVec F S4x2048x6 .f32 := broadcastInDim S4x2048x6 ![] bcast_S_S4x2048x6 main_cst
  let main_v9 : IVec S4x2048x6 1 := cmpf .ogt main_v7 main_v8
  main_v9
-- ==== Mlstm.lean ====
abbrev S64x9216 : Shape := ⟨2, ![64, 9216]⟩
abbrev S12x64 : Shape := ⟨2, ![12, 64]⟩
abbrev S12 : Shape := ⟨1, ![12]⟩
abbrev S8x6x256x512 : Shape := ⟨4, ![8, 6, 256, 512]⟩
abbrev S8x6x256 : Shape := ⟨3, ![8, 6, 256]⟩
abbrev S8x6 : Shape := ⟨2, ![8, 6]⟩
abbrev S6x64 : Shape := ⟨2, ![6, 64]⟩
abbrev S6x8x1x8 : Shape := ⟨4, ![6, 8, 1, 8]⟩
abbrev S8x6x1x256 : Shape := ⟨4, ![8, 6, 1, 256]⟩
abbrev S8x6x1x1 : Shape := ⟨4, ![8, 6, 1, 1]⟩
abbrev S8x6x1x128 : Shape := ⟨4, ![8, 6, 1, 128]⟩
abbrev S64x3072 : Shape := ⟨2, ![64, 3072]⟩
abbrev S8x256 : Shape := ⟨2, ![8, 256]⟩
abbrev S8x512 : Shape := ⟨2, ![8, 512]⟩
abbrev S1x1x1x8 : Shape := ⟨4, ![1, 1, 1, 8]⟩
abbrev S1x1x256x512 : Shape := ⟨4, ![1, 1, 256, 512]⟩
abbrev S1x1x1x256 : Shape := ⟨4, ![1, 1, 1, 256]⟩
abbrev S1x1x1x128 : Shape := ⟨4, ![1, 1, 1, 128]⟩
abbrev S120x256 : Shape := ⟨2, ![120, 256]⟩
abbrev S128x256 : Shape := ⟨2, ![128, 256]⟩
abbrev S120x512 : Shape := ⟨2, ![120, 512]⟩
abbrev S128x512 : Shape := ⟨2, ![128, 512]⟩
abbrev S1x8 : Shape := ⟨2, ![1, 8]⟩
abbrev S1x120 : Shape := ⟨2, ![1, 120]⟩
abbrev S1x128 : Shape := ⟨2, ![1, 128]⟩
abbrev S1 : Shape := ⟨1, ![1]⟩
abbrev S128x128 : Shape := ⟨2, ![128, 128]⟩
abbrev S128 : Shape := ⟨1, ![128]⟩
abbrev S128x1 : Shape := ⟨2, ![128, 1]⟩
abbrev S1x1x1x1 : Shape := ⟨4, ![1, 1, 1, 1]⟩
abbrev S1x1 : Shape := ⟨2, ![1, 1]⟩
abbrev S256x512 : Shape := ⟨2, ![256, 512]⟩
abbrev S1x256 : Shape := ⟨2, ![1, 256]⟩
abbrev S256 : Shape := ⟨1, ![256]⟩

abbrev nBuf : Space → Nat
  | .hbm => 17
  | .vmem => 26
  | .smem => 1
  | _ => 0

abbrev bufTy : (tb : Table) → Fin (tcTables nBuf tb) → BufTy
  | .hbm, ⟨0, _⟩ => ⟨S64x9216, .f32⟩
  | .hbm, ⟨1, _⟩ => ⟨S12x64, .f32⟩
  | .hbm, ⟨2, _⟩ => ⟨S12, .f32⟩
  | .hbm, ⟨3, _⟩ => ⟨S8x6x256x512, .f32⟩
  | .hbm, ⟨4, _⟩ => ⟨S8x6x256, .f32⟩
  | .hbm, ⟨5, _⟩ => ⟨S8x6, .f32⟩
  | .hbm, ⟨6, _⟩ => ⟨S6x64, .f32⟩
  | .hbm, ⟨7, _⟩ => ⟨S6x8x1x8, .f32⟩
  | .hbm, ⟨8, _⟩ => ⟨S6x64, .f32⟩
  | .hbm, ⟨9, _⟩ => ⟨S6x8x1x8, .f32⟩
  | .hbm, ⟨10, _⟩ => ⟨S8x6x1x256, .f32⟩
  | .hbm, ⟨11, _⟩ => ⟨S8x6x1x1, .f32⟩
  | .hbm, ⟨12, _⟩ => ⟨S8x6x1x128, .f32⟩
  | .hbm, ⟨13, _⟩ => ⟨S64x3072, .f32⟩
  | .hbm, ⟨14, _⟩ => ⟨S8x6x256x512, .f32⟩
  | .hbm, ⟨15, _⟩ => ⟨S8x6x1x256, .f32⟩
  | .hbm, ⟨16, _⟩ => ⟨S8x6x1x128, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x1x1x8, .f32⟩
  | .local _ .vmem, ⟨9, _⟩ => ⟨S1x1x1x8, .f32⟩
  | .local _ .vmem, ⟨10, _⟩ => ⟨S1x1x1x8, .f32⟩
  | .local _ .vmem, ⟨11, _⟩ => ⟨S1x1x1x8, .f32⟩
  | .local _ .vmem, ⟨12, _⟩ => ⟨S1x1x256x512, .f32⟩
  | .local _ .vmem, ⟨13, _⟩ => ⟨S1x1x256x512, .f32⟩
  | .local _ .vmem, ⟨14, _⟩ => ⟨S1x1x1x256, .f32⟩
  | .local _ .vmem, ⟨15, _⟩ => ⟨S1x1x1x256, .f32⟩
  | .local _ .vmem, ⟨16, _⟩ => ⟨S1x1x1x128, .f32⟩
  | .local _ .vmem, ⟨17, _⟩ => ⟨S1x1x1x128, .f32⟩
  | .local _ .vmem, ⟨18, _⟩ => ⟨S8x512, .f32⟩
  | .local _ .vmem, ⟨19, _⟩ => ⟨S8x512, .f32⟩
  | .local _ .vmem, ⟨20, _⟩ => ⟨S1x1x256x512, .f32⟩
  | .local _ .vmem, ⟨21, _⟩ => ⟨S1x1x256x512, .f32⟩
  | .local _ .vmem, ⟨22, _⟩ => ⟨S1x1x1x256, .f32⟩
  | .local _ .vmem, ⟨23, _⟩ => ⟨S1x1x1x256, .f32⟩
  | .local _ .vmem, ⟨24, _⟩ => ⟨S1x1x1x128, .f32⟩
  | .local _ .vmem, ⟨25, _⟩ => ⟨S1x1x1x128, .f32⟩
  | .local _ .smem, ⟨0, _⟩ => ⟨S12, .f32⟩
  | _, _ => ⟨S64x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![8, 6, 1], ![false, false, false]⟩

def k0_off1 (i : grid0.Coords) : Fin 1 → Nat :=
  let arg1 : BitVec 32 := BitVec.ofNat 32 (i 1).val
  let v19 : Index := Scalar.indexCast arg1
  ![v19.toNat]
def k0_off2 (i : grid0.Coords) : Fin 1 → Nat :=
  let c6_i32 : BitVec 32 := 6#32
  let arg1 : BitVec 32 := BitVec.ofNat 32 (i 1).val
  let v27 : BitVec 32 := Scalar.addi c6_i32 arg1
  let v28 : Index := Scalar.indexCast v27
  ![v28.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== MlstmIdeal.lean ====
variable {F : FTy → Type} [FloatOps F] [Named F]
def κ : String → Option EReal := fun
  | "neg_big" => some ⊥
  | "pos_big" => some ⊤
  | _ => none
-- ==== MlstmRefIdeal.lean ====
abbrev S64x9216 : Shape := ⟨2, ![64, 9216]⟩
abbrev S12x64 : Shape := ⟨2, ![12, 64]⟩
abbrev S12 : Shape := ⟨1, ![12]⟩
abbrev S8x6x256x512 : Shape := ⟨4, ![8, 6, 256, 512]⟩
abbrev S8x6x256 : Shape := ⟨3, ![8, 6, 256]⟩
abbrev S8x6 : Shape := ⟨2, ![8, 6]⟩
abbrev S64x1536 : Shape := ⟨2, ![64, 1536]⟩
abbrev S8x8x6x256 : Shape := ⟨4, ![8, 8, 6, 256]⟩
abbrev S_ : Shape := ⟨0, ![]⟩
abbrev S64x3072 : Shape := ⟨2, ![64, 3072]⟩
abbrev S8x8x6x512 : Shape := ⟨4, ![8, 8, 6, 512]⟩
abbrev S64x12 : Shape := ⟨2, ![64, 12]⟩
abbrev S8x8x12 : Shape := ⟨3, ![8, 8, 12]⟩
abbrev S8x8x6 : Shape := ⟨3, ![8, 8, 6]⟩
abbrev S6 : Shape := ⟨1, ![6]⟩
abbrev S1x1x6 : Shape := ⟨3, ![1, 1, 6]⟩
abbrev S8x6x8x256 : Shape := ⟨4, ![8, 6, 8, 256]⟩
abbrev S8x6x8x512 : Shape := ⟨4, ![8, 6, 8, 512]⟩
abbrev S8x6x8 : Shape := ⟨3, ![8, 6, 8]⟩
abbrev S8x8 : Shape := ⟨2, ![8, 8]⟩
abbrev S8x6x8x1 : Shape := ⟨4, ![8, 6, 8, 1]⟩
abbrev S8x6x1x8 : Shape := ⟨4, ![8, 6, 1, 8]⟩
abbrev S8x6x8x8 : Shape := ⟨4, ![8, 6, 8, 8]⟩
abbrev S8x6x1 : Shape := ⟨3, ![8, 6, 1]⟩
abbrev S8x6x1x1 : Shape := ⟨4, ![8, 6, 1, 1]⟩
abbrev S8x6x1x256 : Shape := ⟨4, ![8, 6, 1, 256]⟩
abbrev S8x6x1x128 : Shape := ⟨4, ![8, 6, 1, 128]⟩

abbrev nBuf : Space → Nat
  | .hbm => 154
  | .vmem => 0
  | .smem => 0
  | _ => 0

abbrev hbmTy0_0 (i : Nat) : BufTy := match i % 128 with
  | 0 => ⟨S64x9216, .f32⟩
  | 1 => ⟨S12x64, .f32⟩
  | 2 => ⟨S12, .f32⟩
  | 3 => ⟨S8x6x256x512, .f32⟩
  | 4 => ⟨S8x6x256, .f32⟩
  | 5 => ⟨S8x6, .f32⟩
  | 6 => ⟨S64x1536, .f32⟩
  | 7 => ⟨S8x8x6x256, .f32⟩
  | 8 => ⟨S64x1536, .f32⟩
  | 9 => ⟨S8x8x6x256, .f32⟩
  | 10 => ⟨S_, .f32⟩
  | 11 => ⟨S8x8x6x256, .f32⟩
  | 12 => ⟨S8x8x6x256, .f32⟩
  | 13 => ⟨S64x3072, .f32⟩
  | 14 => ⟨S8x8x6x512, .f32⟩
  | 15 => ⟨S64x3072, .f32⟩
  | 16 => ⟨S64x12, .f32⟩
  | 17 => ⟨S8x8x12, .f32⟩
  | 18 => ⟨S8x8x6, .f32⟩
  | 19 => ⟨S6, .f32⟩
  | 20 => ⟨S1x1x6, .f32⟩
  | 21 => ⟨S8x8x6, .f32⟩
  | 22 => ⟨S8x8x6, .f32⟩
  | 23 => ⟨S8x8x6, .f32⟩
  | 24 => ⟨S6, .f32⟩
  | 25 => ⟨S1x1x6, .f32⟩
  | 26 => ⟨S8x8x6, .f32⟩
  | 27 => ⟨S8x8x6, .f32⟩
  | 28 => ⟨S8x6x8x256, .f32⟩
  | 29 => ⟨S8x6x8x256, .f32⟩
  | 30 => ⟨S8x6x8x512, .f32⟩
  | 31 => ⟨S8x6x8, .f32⟩
  | 32 => ⟨S8x6x8, .f32⟩
  | 33 => ⟨S_, .i1⟩
  | 34 => ⟨S8x8, .i1⟩
  | 35 => ⟨S8x8, .i32⟩
  | 36 => ⟨S_, .i32⟩
  | 37 => ⟨S8x8, .i32⟩
  | 38 => ⟨S8x8, .i32⟩
  | 39 => ⟨S8x8, .i32⟩
  | 40 => ⟨S8x8, .i1⟩
  | 41 => ⟨S_, .i1⟩
  | 42 => ⟨S8x8, .i1⟩
  | 43 => ⟨S8x8, .i1⟩
  | 44 => ⟨S8x6x8, .f32⟩
  | 45 => ⟨S_, .f32⟩
  | 46 => ⟨S8x6x8, .f32⟩
  | 47 => ⟨S8x6x8, .f32⟩
  | 48 => ⟨S8x6x8, .f32⟩
  | 49 => ⟨S8x6x8, .f32⟩
  | 50 => ⟨S8x6x8, .i1⟩
  | 51 => ⟨S8x6x8, .f32⟩
  | 52 => ⟨S8x6x8, .f32⟩
  | 53 => ⟨S8x6x8, .f32⟩
  | 54 => ⟨S8x6x8, .f32⟩
  | 55 => ⟨S8x6x8, .f32⟩
  | 56 => ⟨S8x6x8, .f32⟩
  | 57 => ⟨S8x6x8, .f32⟩
  | 58 => ⟨S8x6x8, .f32⟩
  | 59 => ⟨S8x6x8, .f32⟩
  | 60 => ⟨S_, .f32⟩
  | 61 => ⟨S_, .f32⟩
  | 62 => ⟨S8x6x8, .f32⟩
  | 63 => ⟨S8x6x8x1, .f32⟩
  | 64 => ⟨S8x6x1x8, .f32⟩
  | 65 => ⟨S8x6x8x8, .f32⟩
  | 66 => ⟨S8x6x8x8, .f32⟩
  | 67 => ⟨S8x6x8x8, .f32⟩
  | 68 => ⟨S8x6x1x8, .f32⟩
  | 69 => ⟨S8x6x8x8, .f32⟩
  | 70 => ⟨S8x6x8x8, .f32⟩
  | 71 => ⟨S_, .f32⟩
  | 72 => ⟨S_, .f32⟩
  | 73 => ⟨S8x6x8x8, .i1⟩
  | 74 => ⟨S8x6x8x8, .f32⟩
  | 75 => ⟨S8x6x8x8, .f32⟩
  | 76 => ⟨S8x6x1, .f32⟩
  | 77 => ⟨S8x6x8, .f32⟩
  | 78 => ⟨S8x6x8, .f32⟩
  | 79 => ⟨S_, .f32⟩
  | 80 => ⟨S8x6x8, .f32⟩
  | 81 => ⟨S8x6x8, .f32⟩
  | 82 => ⟨S8x6x8, .f32⟩
  | 83 => ⟨S8x6x8, .f32⟩
  | 84 => ⟨S8x6x8x8, .f32⟩
  | 85 => ⟨S8x6x8x1, .f32⟩
  | 86 => ⟨S8x6x8x8, .f32⟩
  | 87 => ⟨S8x6x8x8, .f32⟩
  | 88 => ⟨S8x6x8x8, .f32⟩
  | 89 => ⟨S8x6x8x8, .f32⟩
  | 90 => ⟨S8x6x8x512, .f32⟩
  | 91 => ⟨S8x6x8x1, .f32⟩
  | 92 => ⟨S8x6x8x512, .f32⟩
  | 93 => ⟨S8x6x8x512, .f32⟩
  | 94 => ⟨S8x6x8x512, .f32⟩
  | 95 => ⟨S8x6x8x512, .f32⟩
  | 96 => ⟨S_, .f32⟩
  | 97 => ⟨S8x6x8, .f32⟩
  | 98 => ⟨S8x6x8, .f32⟩
  | 99 => ⟨S8x6x8, .f32⟩
  | 100 => ⟨S8x6x8, .f32⟩
  | 101 => ⟨S8x6x8, .f32⟩
  | 102 => ⟨S8x6x8, .f32⟩
  | 103 => ⟨S8x6x8, .f32⟩
  | 104 => ⟨S8x6x8, .f32⟩
  | 105 => ⟨S8x6x8x1, .f32⟩
  | 106 => ⟨S8x6x8x512, .f32⟩
  | 107 => ⟨S8x6x8x512, .f32⟩
  | 108 => ⟨S8x6x1, .f32⟩
  | 109 => ⟨S8x6, .f32⟩
  | 110 => ⟨S8x6x1, .f32⟩
  | 111 => ⟨S8x6x8, .f32⟩
  | 112 => ⟨S8x6x8, .f32⟩
  | 113 => ⟨S8x6x8, .f32⟩
  | 114 => ⟨S8x6x1, .f32⟩
  | 115 => ⟨S8x6x8, .f32⟩
  | 116 => ⟨S8x6x8, .f32⟩
  | 117 => ⟨S8x6x8, .f32⟩
  | 118 => ⟨S8x6x1, .f32⟩
  | 119 => ⟨S8x6, .f32⟩
  | 120 => ⟨S8x6, .f32⟩
  | 121 => ⟨S8x6, .f32⟩
  | 122 => ⟨S8x6, .f32⟩
  | 123 => ⟨S8x6x1x1, .f32⟩
  | 124 => ⟨S8x6x256x512, .f32⟩
  | 125 => ⟨S8x6x256x512, .f32⟩
  | 126 => ⟨S8x6x8x1, .f32⟩
  | 127 => ⟨S8x6x8x256, .f32⟩
  | _ => ⟨S64x9216, .f32⟩

abbrev hbmTy0_1 (i : Nat) : BufTy := match i % 128 with
  | 0 => ⟨S8x6x8x256, .f32⟩
  | 1 => ⟨S8x6x256x512, .f32⟩
  | 2 => ⟨S8x6x256x512, .f32⟩
  | 3 => ⟨S8x6x1, .f32⟩
  | 4 => ⟨S8x6x256, .f32⟩
  | 5 => ⟨S8x6x256, .f32⟩
  | 6 => ⟨S8x6x8x1, .f32⟩
  | 7 => ⟨S8x6x8x256, .f32⟩
  | 8 => ⟨S8x6x8x256, .f32⟩
  | 9 => ⟨S_, .f32⟩
  | 10 => ⟨S8x6x256, .f32⟩
  | 11 => ⟨S8x6x256, .f32⟩
  | 12 => ⟨S8x8x6x512, .f32⟩
  | 13 => ⟨S64x3072, .f32⟩
  | 14 => ⟨S64x3072, .f32⟩
  | 15 => ⟨S64x3072, .f32⟩
  | 16 => ⟨S_, .f32⟩
  | 17 => ⟨S64x3072, .f32⟩
  | 18 => ⟨S64x3072, .f32⟩
  | 19 => ⟨S_, .f32⟩
  | 20 => ⟨S64x3072, .f32⟩
  | 21 => ⟨S64x3072, .f32⟩
  | 22 => ⟨S64x3072, .f32⟩
  | 23 => ⟨S8x6x1x256, .f32⟩
  | 24 => ⟨S8x6x1x1, .f32⟩
  | 25 => ⟨S8x6x1x128, .f32⟩
  | _ => ⟨S64x9216, .f32⟩

abbrev hbmTy (i : Nat) : BufTy := match i / 128 with
  | 0 => hbmTy0_0 i
  | 1 => hbmTy0_1 i
  | _ => ⟨S64x9216, .f32⟩

abbrev bufTy : (tb : Table) → Fin (tcTables nBuf tb) → BufTy
  | .hbm, ⟨i, _⟩ => hbmTy i
  | _, _ => ⟨S64x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_0 : Ref sig .tc := ⟨.hbm, 41, rfl⟩
abbrev main_call0_v5 : Ref sig .tc := ⟨.hbm, 42, rfl⟩
abbrev main_v27 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v28 : Ref sig .tc := ⟨.hbm, 59, rfl⟩
abbrev main_call2_call0_cst : Ref sig .tc := ⟨.hbm, 60, rfl⟩
abbrev main_call2_call0_v0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_0 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_1 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_2 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_3 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_4 : Ref sig .tc := ⟨.hbm, 144, rfl⟩
abbrev main_v104 : Ref sig .tc := ⟨.hbm, 145, rfl⟩
abbrev main_v105 : Ref sig .tc := ⟨.hbm, 146, rfl⟩
abbrev main_cst_5 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]
-- ==== MemKv.lean ====
abbrev S4x256x4096 : Shape := ⟨3, ![4, 256, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S4x256x1024 : Shape := ⟨3, ![4, 256, 1024]⟩
abbrev S1x4x256x1024 : Shape := ⟨4, ![1, 4, 256, 1024]⟩
abbrev S2x4x256x1024 : Shape := ⟨4, ![2, 4, 256, 1024]⟩
abbrev S2x4x256x4x256 : Shape := ⟨5, ![2, 4, 256, 4, 256]⟩

abbrev nBuf : Space → Nat
  | .hbm => 24
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S2x4096x2048, .f32⟩
  | .hbm, ⟨2, _⟩ => ⟨S1x4096x2048, .f32⟩
  | .hbm, ⟨3, _⟩ => ⟨S4096x2048, .f32⟩
  | .hbm, ⟨4, _⟩ => ⟨S1x4096x2048, .f32⟩
  | .hbm, ⟨5, _⟩ => ⟨S4096x2048, .f32⟩
  | .hbm, ⟨6, _⟩ => ⟨S4096x4096, .f32⟩
  | .hbm, ⟨7, _⟩ => ⟨S4096x4096, .bf16⟩
  | .hbm, ⟨8, _⟩ => ⟨S1024x4096, .f32⟩
  | .hbm, ⟨9, _⟩ => ⟨S1024x4096, .bf16⟩
  | .hbm, ⟨10, _⟩ => ⟨S1024x4096, .f32⟩
  | .hbm, ⟨11, _⟩ => ⟨S4x256x4096, .f32⟩
  | .hbm, ⟨12, _⟩ => ⟨S4x256x1024, .f32⟩
  | .hbm, ⟨13, _⟩ => ⟨S4x256x1024, .f32⟩
  | .hbm, ⟨14, _⟩ => ⟨S1x4x256x1024, .f32⟩
  | .hbm, ⟨15, _⟩ => ⟨S1x4x256x1024, .f32⟩
  | .hbm, ⟨16, _⟩ => ⟨S2x4x256x1024, .f32⟩
  | .hbm, ⟨17, _⟩ => ⟨S4x256x1024, .f32⟩
  | .hbm, ⟨18, _⟩ => ⟨S4x256x1024, .f32⟩
  | .hbm, ⟨19, _⟩ => ⟨S1x4x256x1024, .f32⟩
  | .hbm, ⟨20, _⟩ => ⟨S1x4x256x1024, .f32⟩
  | .hbm, ⟨21, _⟩ => ⟨S2x4x256x1024, .f32⟩
  | .hbm, ⟨22, _⟩ => ⟨S2x4x256x4x256, .f32⟩
  | .hbm, ⟨23, _⟩ => ⟨S2x4x256x4x256, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S4x256x4096 : Shape := ⟨3, ![4, 256, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S1x4x256x4x256 : Shape := ⟨5, ![1, 4, 256, 4, 256]⟩
abbrev S2x4x256x4x256 : Shape := ⟨5, ![2, 4, 256, 4, 256]⟩

abbrev nBuf : Space → Nat
  | .hbm => 22
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S2x4096x2048, .f32⟩
  | .hbm, ⟨2, _⟩ => ⟨S1x4096x2048, .f32⟩
  | .hbm, ⟨3, _⟩ => ⟨S4096x2048, .f32⟩
  | .hbm, ⟨4, _⟩ => ⟨S4x256x2048, .f32⟩
  | .hbm, ⟨5, _⟩ => ⟨S1x4096x2048, .f32⟩
  | .hbm, ⟨6, _⟩ => ⟨S4096x2048, .f32⟩
  | .hbm, ⟨7, _⟩ => ⟨S4x256x2048, .f32⟩
  | .hbm, ⟨8, _⟩ => ⟨S4x256x1024, .f32⟩
  | .hbm, ⟨9, _⟩ => ⟨S4x256x4x256, .f32⟩
  | .hbm, ⟨10, _⟩ => ⟨S4x256x1024, .f32⟩
  | .hbm, ⟨11, _⟩ => ⟨S4x256x4x256, .f32⟩
  | .hbm, ⟨12, _⟩ => ⟨S1x4x256x4x256, .f32⟩
  | .hbm, ⟨13, _⟩ => ⟨S1x4x256x4x256, .f32⟩
  | .hbm, ⟨14, _⟩ => ⟨S2x4x256x4x256, .f32⟩
  | .hbm, ⟨15, _⟩ => ⟨S4x256x1024, .f32⟩
  | .hbm, ⟨16, _⟩ => ⟨S4x256x4x256, .f32⟩
  | .hbm, ⟨17, _⟩ => ⟨S4x256x1024, .f32⟩
  | .hbm, ⟨18, _⟩ => ⟨S4x256x4x256, .f32⟩
  | .hbm, ⟨19, _⟩ => ⟨S1x4x256x4x256, .f32⟩
  | .hbm, ⟨20, _⟩ => ⟨S1x4x256x4x256, .f32⟩
  | .hbm, ⟨21, _⟩ => ⟨S2x4x256x4x256, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩

abbrev nD : Nat := 1
abbrev τ : Topo := Topo.v7x

variable {F : FTy → Type} [FloatOps F]
-- ==== InA.lean ====
abbrev S8x8x4096 : Shape := ⟨3, ![8, 8, 4096]⟩
abbrev S1x4096x10252 : Shape := ⟨3, ![1, 4096, 10252]⟩
abbrev S1x12 : Shape := ⟨2, ![1, 12]⟩
abbrev S1x8x6x256x512 : Shape := ⟨5, ![1, 8, 6, 256, 512]⟩
abbrev S1x8x6x256 : Shape := ⟨4, ![1, 8, 6, 256]⟩
abbrev S1x8x6 : Shape := ⟨3, ![1, 8, 6]⟩
abbrev S4096x10252 : Shape := ⟨2, ![4096, 10252]⟩
abbrev S4096x9216 : Shape := ⟨2, ![4096, 9216]⟩
abbrev S9216x4096 : Shape := ⟨2, ![9216, 4096]⟩
abbrev S4096x1024 : Shape := ⟨2, ![4096, 1024]⟩
abbrev S1024x4096 : Shape := ⟨2, ![1024, 4096]⟩
abbrev S4096x12 : Shape := ⟨2, ![4096, 12]⟩
abbrev S12x4096 : Shape := ⟨2, ![12, 4096]⟩
abbrev S_ : Shape := ⟨0, ![]⟩
abbrev S128x4096 : Shape := ⟨2, ![128, 4096]⟩
abbrev S12 : Shape := ⟨1, ![12]⟩
abbrev S8x6x256x512 : Shape := ⟨4, ![8, 6, 256, 512]⟩
abbrev S8x6x256 : Shape := ⟨3, ![8, 6, 256]⟩
abbrev S8x6 : Shape := ⟨2, ![8, 6]⟩
abbrev S64x4096 : Shape := ⟨2, ![64, 4096]⟩
abbrev S64x9216 : Shape := ⟨2, ![64, 9216]⟩
abbrev S512x4096 : Shape := ⟨2, ![512, 4096]⟩
abbrev S64x512 : Shape := ⟨2, ![64, 512]⟩
abbrev S64x1024 : Shape := ⟨2, ![64, 1024]⟩
abbrev S64x128 : Shape := ⟨2, ![64, 128]⟩
abbrev S64x12 : Shape := ⟨2, ![64, 12]⟩
abbrev S12x64 : Shape := ⟨2, ![12, 64]⟩
abbrev S6x64 : Shape := ⟨2, ![6, 64]⟩
abbrev S6x8x1x8 : Shape := ⟨4, ![6, 8, 1, 8]⟩
abbrev S8x6x1x256 : Shape := ⟨4, ![8, 6, 1, 256]⟩
abbrev S8x6x1x1 : Shape := ⟨4, ![8, 6, 1, 1]⟩
abbrev S8x6x1x128 : Shape := ⟨4, ![8, 6, 1, 128]⟩
abbrev S64x3072 : Shape := ⟨2, ![64, 3072]⟩
abbrev S8x256 : Shape := ⟨2, ![8, 256]⟩
abbrev S8x512 : Shape := ⟨2, ![8, 512]⟩
abbrev S1x1x1x8 : Shape := ⟨4, ![1, 1, 1, 8]⟩
abbrev S1x1x256x512 : Shape := ⟨4, ![1, 1, 256, 512]⟩
abbrev S1x1x1x256 : Shape := ⟨4, ![1, 1, 1, 256]⟩
abbrev S1x1x1x128 : Shape := ⟨4, ![1, 1, 1, 128]⟩
abbrev S120x256 : Shape := ⟨2, ![120, 256]⟩
abbrev S128x256 : Shape := ⟨2, ![128, 256]⟩
abbrev S120x512 : Shape := ⟨2, ![120, 512]⟩
abbrev S128x512 : Shape := ⟨2, ![128, 512]⟩
abbrev S1x8 : Shape := ⟨2, ![1, 8]⟩
abbrev S1x120 : Shape := ⟨2, ![1, 120]⟩
abbrev S1x128 : Shape := ⟨2, ![1, 128]⟩
abbrev S1 : Shape := ⟨1, ![1]⟩
abbrev S128x128 : Shape := ⟨2, ![128, 128]⟩
abbrev S128 : Shape := ⟨1, ![128]⟩
abbrev S128x1 : Shape := ⟨2, ![128, 1]⟩
abbrev S1x1x1x1 : Shape := ⟨4, ![1, 1, 1, 1]⟩
abbrev S1x1 : Shape := ⟨2, ![1, 1]⟩
abbrev S256x512 : Shape := ⟨2, ![256, 512]⟩
abbrev S1x256 : Shape := ⟨2, ![1, 256]⟩
abbrev S256 : Shape := ⟨1, ![256]⟩

abbrev nBuf : Space → Nat
  | .hbm => 46
  | .vmem => 39
  | .smem => 1
  | _ => 0

abbrev bufTy : (tb : Table) → Fin (tcTables nBuf tb) → BufTy
  | .hbm, ⟨0, _⟩ => ⟨S8x8x4096, .f32⟩
  | .hbm, ⟨1, _⟩ => ⟨S1x4096x10252, .f32⟩
  | .hbm, ⟨2, _⟩ => ⟨S1x12, .f32⟩
  | .hbm, ⟨3, _⟩ => ⟨S1x8x6x256x512, .f32⟩
  | .hbm, ⟨4, _⟩ => ⟨S1x8x6x256, .f32⟩
  | .hbm, ⟨5, _⟩ => ⟨S1x8x6, .f32⟩
  | .hbm, ⟨6, _⟩ => ⟨S4096x10252, .f32⟩
  | .hbm, ⟨7, _⟩ => ⟨S4096x9216, .f32⟩
  | .hbm, ⟨8, _⟩ => ⟨S9216x4096, .f32⟩
  | .hbm, ⟨9, _⟩ => ⟨S9216x4096, .bf16⟩
  | .hbm, ⟨10, _⟩ => ⟨S4096x1024, .f32⟩
  | .hbm, ⟨11, _⟩ => ⟨S1024x4096, .f32⟩
  | .hbm, ⟨12, _⟩ => ⟨S1024x4096, .bf16⟩
  | .hbm, ⟨13, _⟩ => ⟨S4096x12, .f32⟩
  | .hbm, ⟨14, _⟩ => ⟨S12x4096, .f32⟩
  | .hbm, ⟨15, _⟩ => ⟨S_, .i32⟩
  | .hbm, ⟨16, _⟩ => ⟨S_, .f32⟩
  | .hbm, ⟨17, _⟩ => ⟨S128x4096, .f32⟩
  | .hbm, ⟨18, _⟩ => ⟨S12, .f32⟩
  | .hbm, ⟨19, _⟩ => ⟨S8x6x256x512, .f32⟩
  | .hbm, ⟨20, _⟩ => ⟨S8x6x256, .f32⟩
  | .hbm, ⟨21, _⟩ => ⟨S8x6, .f32⟩
  | .hbm, ⟨22, _⟩ => ⟨S64x4096, .f32⟩
  | .hbm, ⟨23, _⟩ => ⟨S64x4096, .bf16⟩
  | .hbm, ⟨24, _⟩ => ⟨S64x9216, .f32⟩
  | .hbm, ⟨25, _⟩ => ⟨S64x1024, .f32⟩
  | .hbm, ⟨26, _⟩ => ⟨S64x128, .f32⟩
  | .hbm, ⟨27, _⟩ => ⟨S64x12, .f32⟩
  | .hbm, ⟨28, _⟩ => ⟨S12x64, .f32⟩
  | .hbm, ⟨29, _⟩ => ⟨S6x64, .f32⟩
  | .hbm, ⟨30, _⟩ => ⟨S6x8x1x8, .f32⟩
  | .hbm, ⟨31, _⟩ => ⟨S6x64, .f32⟩
  | .hbm, ⟨32, _⟩ => ⟨S6x8x1x8, .f32⟩
  | .hbm, ⟨33, _⟩ => ⟨S8x6x1x256, .f32⟩
  | .hbm, ⟨34, _⟩ => ⟨S8x6x1x1, .f32⟩
  | .hbm, ⟨35, _⟩ => ⟨S8x6x1x128, .f32⟩
  | .hbm, ⟨36, _⟩ => ⟨S64x3072, .f32⟩
  | .hbm, ⟨37, _⟩ => ⟨S8x6x256x512, .f32⟩
  | .hbm, ⟨38, _⟩ => ⟨S8x6x1x256, .f32⟩
  | .hbm, ⟨39, _⟩ => ⟨S8x6x1x128, .f32⟩
  | .hbm, ⟨40, _⟩ => ⟨S1x8x6x256x512, .f32⟩
  | .hbm, ⟨41, _⟩ => ⟨S8x6x256, .f32⟩
  | .hbm, ⟨42, _⟩ => ⟨S1x8x6x256, .f32⟩
  | .hbm, ⟨43, _⟩ => ⟨S8x6x1x1, .f32⟩
  | .hbm, ⟨44, _⟩ => ⟨S8x6, .f32⟩
  | .hbm, ⟨45, _⟩ => ⟨S1x8x6, .f32⟩
  | .local _ .vmem, ⟨0, _⟩ => ⟨S64x4096, .bf16⟩
  | .local _ .vmem, ⟨1, _⟩ => ⟨S512x4096, .bf16⟩
  | .local _ .vmem, ⟨2, _⟩ => ⟨S512x4096, .bf16⟩
  | .local _ .vmem, ⟨3, _⟩ => ⟨S64x512, .f32⟩
  | .local _ .vmem, ⟨4, _⟩ => ⟨S64x512, .f32⟩
  | .local _ .vmem, ⟨5, _⟩ => ⟨S64x4096, .bf16⟩
  | .local _ .vmem, ⟨6, _⟩ => ⟨S512x4096, .bf16⟩
  | .local _ .vmem, ⟨7, _⟩ => ⟨S512x4096, .bf16⟩
  | .local _ .vmem, ⟨8, _⟩ => ⟨S64x512, .f32⟩
  | .local _ .vmem, ⟨9, _⟩ => ⟨S64x512, .f32⟩
  | .local _ .vmem, ⟨10, _⟩ => ⟨S64x4096, .f32⟩
  | .local _ .vmem, ⟨11, _⟩ => ⟨S128x4096, .f32⟩
  | .local _ .vmem, ⟨12, _⟩ => ⟨S64x128, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S1x1x1x8, .f32⟩
  | .local _ .vmem, ⟨22, _⟩ => ⟨S1x1x1x8, .f32⟩
  | .local _ .vmem, ⟨23, _⟩ => ⟨S1x1x1x8, .f32⟩
  | .local _ .vmem, ⟨24, _⟩ => ⟨S1x1x1x8, .f32⟩
  | .local _ .vmem, ⟨25, _⟩ => ⟨S1x1x256x512, .f32⟩
  | .local _ .vmem, ⟨26, _⟩ => ⟨S1x1x256x512, .f32⟩
  | .local _ .vmem, ⟨27, _⟩ => ⟨S1x1x1x256, .f32⟩
  | .local _ .vmem, ⟨28, _⟩ => ⟨S1x1x1x256, .f32⟩
  | .local _ .vmem, ⟨29, _⟩ => ⟨S1x1x1x128, .f32⟩
  | .local _ .vmem, ⟨30, _⟩ => ⟨S1x1x1x128, .f32⟩
  | .local _ .vmem, ⟨31, _⟩ => ⟨S8x512, .f32⟩
  | .local _ .vmem, ⟨32, _⟩ => ⟨S8x512, .f32⟩
  | .local _ .vmem, ⟨33, _⟩ => ⟨S1x1x256x512, .f32⟩
  | .local _ .vmem, ⟨34, _⟩ => ⟨S1x1x256x512, .f32⟩
  | .local _ .vmem, ⟨35, _⟩ => ⟨S1x1x1x256, .f32⟩
  | .local _ .vmem, ⟨36, _⟩ => ⟨S1x1x1x256, .f32⟩
  | .local _ .vmem, ⟨37, _⟩ => ⟨S1x1x1x128, .f32⟩
  | .local _ .vmem, ⟨38, _⟩ => ⟨S1x1x1x128, .f32⟩
  | .local _ .smem, ⟨0, _⟩ => ⟨S12, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v28_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg3_1 : Ref sig .tc := ⟨.vmem, 18, rfl⟩
abbrev cc3_stg4_0 : Ref sig .tc := ⟨.vmem, 19, rfl⟩
abbrev cc3_stg4_1 : Ref sig .tc := ⟨.vmem, 20, rfl⟩
abbrev cc3_stg5_0 : Ref sig .tc := ⟨.vmem, 21, rfl⟩
abbrev cc3_stg5_1 : Ref sig .tc := ⟨.vmem, 22, rfl⟩
abbrev cc3_stg6_0 : Ref sig .tc := ⟨.vmem, 23, rfl⟩
abbrev cc3_stg6_1 : Ref sig .tc := ⟨.vmem, 24, rfl⟩
abbrev cc3_stg7_0 : Ref sig .tc := ⟨.vmem, 25, rfl⟩
abbrev cc3_stg7_1 : Ref sig .tc := ⟨.vmem, 26, rfl⟩
abbrev cc3_stg8_0 : Ref sig .tc := ⟨.vmem, 27, rfl⟩
abbrev cc3_stg8_1 : Ref sig .tc := ⟨.vmem, 28, rfl⟩
abbrev cc3_stg9_0 : Ref sig .tc := ⟨.vmem, 29, rfl⟩
abbrev cc3_stg9_1 : Ref sig .tc := ⟨.vmem, 30, rfl⟩
abbrev cc3_stg10_0 : Ref sig .tc := ⟨.vmem, 31, rfl⟩
abbrev cc3_stg10_1 : Ref sig .tc := ⟨.vmem, 32, rfl⟩
abbrev cc3_stg11_0 : Ref sig .tc := ⟨.vmem, 33, rfl⟩
abbrev cc3_stg11_1 : Ref sig .tc := ⟨.vmem, 34, rfl⟩
abbrev cc3_stg12_0 : Ref sig .tc := ⟨.vmem, 35, rfl⟩
abbrev cc3_stg12_1 : Ref sig .tc := ⟨.vmem, 36, rfl⟩
abbrev cc3_stg13_0 : Ref sig .tc := ⟨.vmem, 37, rfl⟩
abbrev cc3_stg13_1 : Ref sig .tc := ⟨.vmem, 38, rfl⟩
abbrev cc3_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc3_sem4_0 : DmaSem sig := 20
abbrev cc3_sem4_1 : DmaSem sig := 21
abbrev cc3_sem5_0 : DmaSem sig := 22
abbrev cc3_sem5_1 : DmaSem sig := 23
abbrev cc3_sem6_0 : DmaSem sig := 24
abbrev cc3_sem6_1 : DmaSem sig := 25
abbrev cc3_sem7_0 : DmaSem sig := 26
abbrev cc3_sem7_1 : DmaSem sig := 27
abbrev cc3_sem8_0 : DmaSem sig := 28
abbrev cc3_sem8_1 : DmaSem sig := 29
abbrev cc3_sem9_0 : DmaSem sig := 30
abbrev cc3_sem9_1 : DmaSem sig := 31
abbrev cc3_sem10_0 : DmaSem sig := 32
abbrev cc3_sem10_1 : DmaSem sig := 33
abbrev cc3_sem11_0 : DmaSem sig := 34
abbrev cc3_sem11_1 : DmaSem sig := 35
abbrev cc3_sem12_0 : DmaSem sig := 36
abbrev cc3_sem12_1 : DmaSem sig := 37
abbrev cc3_sem13_0 : DmaSem sig := 38
abbrev cc3_sem13_1 : DmaSem sig := 39

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S64x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S128x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev grid3 : Pipeline.Grid := ⟨3, ![8, 6, 1], ![false, false, false]⟩

def k3_off1 (i : grid3.Coords) : Fin 1 → Nat :=
  let arg1 : BitVec 32 := BitVec.ofNat 32 (i 1).val
  let v22 : Index := Scalar.indexCast arg1
  ![v22.toNat]
def k3_off2 (i : grid3.Coords) : Fin 1 → Nat :=
  let c6_i32 : BitVec 32 := 6#32
  let arg1 : BitVec 32 := BitVec.ofNat 32 (i 1).val
  let v30 : BitVec 32 := Scalar.addi c6_i32 arg1
  let v31 : Index := Scalar.indexCast v30
  ![v31.toNat]
def cc3_transform_0 (i : grid3.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc3_transform_6 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc3_transform_7 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_8 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_9 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc3_transform_11 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_12 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_13 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 1 → Memref sig .tc .smem S12 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false, false]

abbrev stage3_1 : Fin 2 → Memref sig .tc .vmem S8x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S8x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S8x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S8x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x1x1x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev stage3_6 : Fin 2 → Memref sig .tc .vmem S1x1x1x8 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]

abbrev stage3_7 : Fin 2 → Memref sig .tc .vmem S1x1x256x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true, false]

abbrev stage3_8 : Fin 2 → Memref sig .tc .vmem S1x1x1x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true, false]

abbrev stage3_9 : Fin 2 → Memref sig .tc .vmem S1x1x1x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true, false]

abbrev stage3_10 : Fin 2 → Memref sig .tc .vmem S8x512 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true, true]

abbrev stage3_11 : Fin 2 → Memref sig .tc .vmem S1x1x256x512 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true, false]

abbrev stage3_12 : Fin 2 → Memref sig .tc .vmem S1x1x1x256 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true, false]

abbrev stage3_13 : Fin 2 → Memref sig .tc .vmem S1x1x1x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true, false]
-- ==== InAIdeal.lean ====
variable {F : FTy → Type} [FloatOps F] [Named F]
def κ : String → Option EReal := fun
  | "neg_big" => some ⊥
  | "pos_big" => some ⊤
  | _ => none
-- ==== InARefIdeal.lean ====
abbrev S8x8x4096 : Shape := ⟨3, ![8, 8, 4096]⟩
abbrev S1x4096x10252 : Shape := ⟨3, ![1, 4096, 10252]⟩
abbrev S1x12 : Shape := ⟨2, ![1, 12]⟩
abbrev S1x8x6x256x512 : Shape := ⟨5, ![1, 8, 6, 256, 512]⟩
abbrev S1x8x6x256 : Shape := ⟨4, ![1, 8, 6, 256]⟩
abbrev S1x8x6 : Shape := ⟨3, ![1, 8, 6]⟩
abbrev S64x4096 : Shape := ⟨2, ![64, 4096]⟩
abbrev S4096x10252 : Shape := ⟨2, ![4096, 10252]⟩
abbrev S64x10252 : Shape := ⟨2, ![64, 10252]⟩
abbrev S64x9216 : Shape := ⟨2, ![64, 9216]⟩
abbrev S64x12 : Shape := ⟨2, ![64, 12]⟩
abbrev S12x64 : Shape := ⟨2, ![12, 64]⟩
abbrev S12 : Shape := ⟨1, ![12]⟩
abbrev S8x6x256x512 : Shape := ⟨4, ![8, 6, 256, 512]⟩
abbrev S8x6x256 : Shape := ⟨3, ![8, 6, 256]⟩
abbrev S8x6 : Shape := ⟨2, ![8, 6]⟩
abbrev S64x1536 : Shape := ⟨2, ![64, 1536]⟩
abbrev S8x8x6x256 : Shape := ⟨4, ![8, 8, 6, 256]⟩
abbrev S_ : Shape := ⟨0, ![]⟩
abbrev S64x3072 : Shape := ⟨2, ![64, 3072]⟩
abbrev S8x8x6x512 : Shape := ⟨4, ![8, 8, 6, 512]⟩
abbrev S8x8x12 : Shape := ⟨3, ![8, 8, 12]⟩
abbrev S8x8x6 : Shape := ⟨3, ![8, 8, 6]⟩
abbrev S6 : Shape := ⟨1, ![6]⟩
abbrev S1x1x6 : Shape := ⟨3, ![1, 1, 6]⟩
abbrev S8x6x8x256 : Shape := ⟨4, ![8, 6, 8, 256]⟩
abbrev S8x6x8x512 : Shape := ⟨4, ![8, 6, 8, 512]⟩
abbrev S8x6x8 : Shape := ⟨3, ![8, 6, 8]⟩
abbrev S8x8 : Shape := ⟨2, ![8, 8]⟩
abbrev S8x6x8x1 : Shape := ⟨4, ![8, 6, 8, 1]⟩
abbrev S8x6x1x8 : Shape := ⟨4, ![8, 6, 1, 8]⟩
abbrev S8x6x8x8 : Shape := ⟨4, ![8, 6, 8, 8]⟩
abbrev S8x6x1 : Shape := ⟨3, ![8, 6, 1]⟩
abbrev S8x6x1x1 : Shape := ⟨4, ![8, 6, 1, 1]⟩
abbrev S64x1024 : Shape := ⟨2, ![64, 1024]⟩

abbrev nBuf : Space → Nat
  | .hbm => 165
  | .vmem => 0
  | .smem => 0
  | _ => 0

abbrev hbmTy0_0 (i : Nat) : BufTy := match i % 128 with
  | 0 => ⟨S8x8x4096, .f32⟩
  | 1 => ⟨S1x4096x10252, .f32⟩
  | 2 => ⟨S1x12, .f32⟩
  | 3 => ⟨S1x8x6x256x512, .f32⟩
  | 4 => ⟨S1x8x6x256, .f32⟩
  | 5 => ⟨S1x8x6, .f32⟩
  | 6 => ⟨S64x4096, .f32⟩
  | 7 => ⟨S4096x10252, .f32⟩
  | 8 => ⟨S64x10252, .f32⟩
  | 9 => ⟨S64x9216, .f32⟩
  | 10 => ⟨S64x12, .f32⟩
  | 11 => ⟨S12x64, .f32⟩
  | 12 => ⟨S12, .f32⟩
  | 13 => ⟨S8x6x256x512, .f32⟩
  | 14 => ⟨S8x6x256, .f32⟩
  | 15 => ⟨S8x6, .f32⟩
  | 16 => ⟨S64x1536, .f32⟩
  | 17 => ⟨S8x8x6x256, .f32⟩
  | 18 => ⟨S64x1536, .f32⟩
  | 19 => ⟨S8x8x6x256, .f32⟩
  | 20 => ⟨S_, .f32⟩
  | 21 => ⟨S8x8x6x256, .f32⟩
  | 22 => ⟨S8x8x6x256, .f32⟩
  | 23 => ⟨S64x3072, .f32⟩
  | 24 => ⟨S8x8x6x512, .f32⟩
  | 25 => ⟨S64x3072, .f32⟩
  | 26 => ⟨S64x12, .f32⟩
  | 27 => ⟨S8x8x12, .f32⟩
  | 28 => ⟨S8x8x6, .f32⟩
  | 29 => ⟨S6, .f32⟩
  | 30 => ⟨S1x1x6, .f32⟩
  | 31 => ⟨S8x8x6, .f32⟩
  | 32 => ⟨S8x8x6, .f32⟩
  | 33 => ⟨S8x8x6, .f32⟩
  | 34 => ⟨S6, .f32⟩
  | 35 => ⟨S1x1x6, .f32⟩
  | 36 => ⟨S8x8x6, .f32⟩
  | 37 => ⟨S8x8x6, .f32⟩
  | 38 => ⟨S8x6x8x256, .f32⟩
  | 39 => ⟨S8x6x8x256, .f32⟩
  | 40 => ⟨S8x6x8x512, .f32⟩
  | 41 => ⟨S8x6x8, .f32⟩
  | 42 => ⟨S8x6x8, .f32⟩
  | 43 => ⟨S_, .i1⟩
  | 44 => ⟨S8x8, .i1⟩
  | 45 => ⟨S8x8, .i32⟩
  | 46 => ⟨S_, .i32⟩
  | 47 => ⟨S8x8, .i32⟩
  | 48 => ⟨S8x8, .i32⟩
  | 49 => ⟨S8x8, .i32⟩
  | 50 => ⟨S8x8, .i1⟩
  | 51 => ⟨S_, .i1⟩
  | 52 => ⟨S8x8, .i1⟩
  | 53 => ⟨S8x8, .i1⟩
  | 54 => ⟨S8x6x8, .f32⟩
  | 55 => ⟨S_, .f32⟩
  | 56 => ⟨S8x6x8, .f32⟩
  | 57 => ⟨S8x6x8, .f32⟩
  | 58 => ⟨S8x6x8, .f32⟩
  | 59 => ⟨S8x6x8, .f32⟩
  | 60 => ⟨S8x6x8, .i1⟩
  | 61 => ⟨S8x6x8, .f32⟩
  | 62 => ⟨S8x6x8, .f32⟩
  | 63 => ⟨S8x6x8, .f32⟩
  | 64 => ⟨S8x6x8, .f32⟩
  | 65 => ⟨S8x6x8, .f32⟩
  | 66 => ⟨S8x6x8, .f32⟩
  | 67 => ⟨S8x6x8, .f32⟩
  | 68 => ⟨S8x6x8, .f32⟩
  | 69 => ⟨S8x6x8, .f32⟩
  | 70 => ⟨S_, .f32⟩
  | 71 => ⟨S_, .f32⟩
  | 72 => ⟨S8x6x8, .f32⟩
  | 73 => ⟨S8x6x8x1, .f32⟩
  | 74 => ⟨S8x6x1x8, .f32⟩
  | 75 => ⟨S8x6x8x8, .f32⟩
  | 76 => ⟨S8x6x8x8, .f32⟩
  | 77 => ⟨S8x6x8x8, .f32⟩
  | 78 => ⟨S8x6x1x8, .f32⟩
  | 79 => ⟨S8x6x8x8, .f32⟩
  | 80 => ⟨S8x6x8x8, .f32⟩
  | 81 => ⟨S_, .f32⟩
  | 82 => ⟨S_, .f32⟩
  | 83 => ⟨S8x6x8x8, .i1⟩
  | 84 => ⟨S8x6x8x8, .f32⟩
  | 85 => ⟨S8x6x8x8, .f32⟩
  | 86 => ⟨S8x6x1, .f32⟩
  | 87 => ⟨S8x6x8, .f32⟩
  | 88 => ⟨S8x6x8, .f32⟩
  | 89 => ⟨S_, .f32⟩
  | 90 => ⟨S8x6x8, .f32⟩
  | 91 => ⟨S8x6x8, .f32⟩
  | 92 => ⟨S8x6x8, .f32⟩
  | 93 => ⟨S8x6x8, .f32⟩
  | 94 => ⟨S8x6x8x8, .f32⟩
  | 95 => ⟨S8x6x8x1, .f32⟩
  | 96 => ⟨S8x6x8x8, .f32⟩
  | 97 => ⟨S8x6x8x8, .f32⟩
  | 98 => ⟨S8x6x8x8, .f32⟩
  | 99 => ⟨S8x6x8x8, .f32⟩
  | 100 => ⟨S8x6x8x512, .f32⟩
  | 101 => ⟨S8x6x8x1, .f32⟩
  | 102 => ⟨S8x6x8x512, .f32⟩
  | 103 => ⟨S8x6x8x512, .f32⟩
  | 104 => ⟨S8x6x8x512, .f32⟩
  | 105 => ⟨S8x6x8x512, .f32⟩
  | 106 => ⟨S_, .f32⟩
  | 107 => ⟨S8x6x8, .f32⟩
  | 108 => ⟨S8x6x8, .f32⟩
  | 109 => ⟨S8x6x8, .f32⟩
  | 110 => ⟨S8x6x8, .f32⟩
  | 111 => ⟨S8x6x8, .f32⟩
  | 112 => ⟨S8x6x8, .f32⟩
  | 113 => ⟨S8x6x8, .f32⟩
  | 114 => ⟨S8x6x8, .f32⟩
  | 115 => ⟨S8x6x8x1, .f32⟩
  | 116 => ⟨S8x6x8x512, .f32⟩
  | 117 => ⟨S8x6x8x512, .f32⟩
  | 118 => ⟨S8x6x1, .f32⟩
  | 119 => ⟨S8x6, .f32⟩
  | 120 => ⟨S8x6x1, .f32⟩
  | 121 => ⟨S8x6x8, .f32⟩
  | 122 => ⟨S8x6x8, .f32⟩
  | 123 => ⟨S8x6x8, .f32⟩
  | 124 => ⟨S8x6x1, .f32⟩
  | 125 => ⟨S8x6x8, .f32⟩
  | 126 => ⟨S8x6x8, .f32⟩
  | 127 => ⟨S8x6x8, .f32⟩
  | _ => ⟨S8x8x4096, .f32⟩

abbrev hbmTy0_1 (i : Nat) : BufTy := match i % 128 with
  | 0 => ⟨S8x6x1, .f32⟩
  | 1 => ⟨S8x6, .f32⟩
  | 2 => ⟨S8x6, .f32⟩
  | 3 => ⟨S8x6, .f32⟩
  | 4 => ⟨S8x6, .f32⟩
  | 5 => ⟨S8x6x1x1, .f32⟩
  | 6 => ⟨S8x6x256x512, .f32⟩
  | 7 => ⟨S8x6x256x512, .f32⟩
  | 8 => ⟨S8x6x8x1, .f32⟩
  | 9 => ⟨S8x6x8x256, .f32⟩
  | 10 => ⟨S8x6x8x256, .f32⟩
  | 11 => ⟨S8x6x256x512, .f32⟩
  | 12 => ⟨S8x6x256x512, .f32⟩
  | 13 => ⟨S8x6x1, .f32⟩
  | 14 => ⟨S8x6x256, .f32⟩
  | 15 => ⟨S8x6x256, .f32⟩
  | 16 => ⟨S8x6x8x1, .f32⟩
  | 17 => ⟨S8x6x8x256, .f32⟩
  | 18 => ⟨S8x6x8x256, .f32⟩
  | 19 => ⟨S_, .f32⟩
  | 20 => ⟨S8x6x256, .f32⟩
  | 21 => ⟨S8x6x256, .f32⟩
  | 22 => ⟨S8x8x6x512, .f32⟩
  | 23 => ⟨S64x3072, .f32⟩
  | 24 => ⟨S64x3072, .f32⟩
  | 25 => ⟨S64x3072, .f32⟩
  | 26 => ⟨S_, .f32⟩
  | 27 => ⟨S64x3072, .f32⟩
  | 28 => ⟨S64x3072, .f32⟩
  | 29 => ⟨S_, .f32⟩
  | 30 => ⟨S64x3072, .f32⟩
  | 31 => ⟨S64x3072, .f32⟩
  | 32 => ⟨S64x3072, .f32⟩
  | 33 => ⟨S64x1024, .f32⟩
  | 34 => ⟨S1x8x6x256x512, .f32⟩
  | 35 => ⟨S1x8x6x256, .f32⟩
  | 36 => ⟨S1x8x6, .f32⟩
  | _ => ⟨S8x8x4096, .f32⟩

abbrev hbmTy (i : Nat) : BufTy := match i / 128 with
  | 0 => hbmTy0_0 i
  | 1 => hbmTy0_1 i
  | _ => ⟨S8x8x4096, .f32⟩

abbrev bufTy : (tb : Table) → Fin (tcTables nBuf tb) → BufTy
  | .hbm, ⟨i, _⟩ => hbmTy i
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c : Ref sig .tc := ⟨.hbm, 43, rfl⟩
abbrev main_v36 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v37 : Ref sig .tc := ⟨.hbm, 53, rfl⟩
abbrev main_call1_v0 : Ref sig .tc := ⟨.hbm, 54, rfl⟩
abbrev main_call1_call0_cst : Ref sig .tc := ⟨.hbm, 55, rfl⟩
abbrev main_call1_call0_v0 : Ref sig .tc := ⟨.hbm, 56, rfl⟩
abbrev main_call1_call0_v1 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_v8 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_v1 : Ref sig .tc := ⟨.hbm, 68, rfl⟩
abbrev main_v38 : Ref sig .tc := ⟨.hbm, 69, rfl⟩
abbrev main_call2_call0_cst : Ref sig .tc := ⟨.hbm, 70, rfl⟩
abbrev main_call2_call0_v0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_0 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_1 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_2 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_3 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_4 : Ref sig .tc := ⟨.hbm, 154, rfl⟩
abbrev main_v114 : Ref sig .tc := ⟨.hbm, 155, rfl⟩
abbrev main_v115 : Ref sig .tc := ⟨.hbm, 156, rfl⟩
abbrev main_cst_5 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩

abbrev nD : Nat := 1
abbrev τ : Topo := Topo.v7x

variable {F : FTy → Type} [FloatOps F]
-- ==== OutProj.lean ====
abbrev S8192x3072 : Shape := ⟨2, ![8192, 3072]⟩
abbrev S8192x1024 : Shape := ⟨2, ![8192, 1024]⟩
abbrev S2x4096x4096 : Shape := ⟨3, ![2, 4096, 4096]⟩
abbrev S8192x4096 : Shape := ⟨2, ![8192, 4096]⟩
abbrev S512x3072 : Shape := ⟨2, ![512, 3072]⟩
abbrev S512x1024 : Shape := ⟨2, ![512, 1024]⟩
abbrev S1x3072x512 : Shape := ⟨3, ![1, 3072, 512]⟩
abbrev S1x1024x512 : Shape := ⟨3, ![1, 1024, 512]⟩
abbrev S512x512 : Shape := ⟨2, ![512, 512]⟩
abbrev S3072x512 : Shape := ⟨2, ![3072, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S2x4096x4096, .f32⟩
  | .hbm, ⟨3, _⟩ => ⟨S2x4096x4096, .bf16⟩
  | .hbm, ⟨4, _⟩ => ⟨S8192x4096, .f32⟩
  | .local _ .vmem, ⟨0, _⟩ => ⟨S512x3072, .f32⟩
  | .local _ .vmem, ⟨1, _⟩ => ⟨S512x3072, .f32⟩
  | .local _ .vmem, ⟨2, _⟩ => ⟨S512x1024, .f32⟩
  | .local _ .vmem, ⟨3, _⟩ => ⟨S512x1024, .f32⟩
  | .local _ .vmem, ⟨4, _⟩ => ⟨S1x3072x512, .bf16⟩
  | .local _ .vmem, ⟨5, _⟩ => ⟨S1x3072x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S512x512, .f32⟩
  | .local _ .vmem, ⟨9, _⟩ => ⟨S512x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  ![c1_i32.toNat, c3_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3072x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x3072 : Shape := ⟨2, ![8192, 3072]⟩
abbrev S8192x1024 : Shape := ⟨2, ![8192, 1024]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S2x4096x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Query.lean ====
abbrev S8192x4096 : Shape := ⟨2, ![8192, 4096]⟩
abbrev S2x4096 : Shape := ⟨2, ![2, 4096]⟩
abbrev S2x4096x1024 : Shape := ⟨3, ![2, 4096, 1024]⟩
abbrev S1x4096 : Shape := ⟨2, ![1, 4096]⟩
abbrev S4096 : Shape := ⟨1, ![4096]⟩
abbrev S128x4096 : Shape := ⟨2, ![128, 4096]⟩
abbrev S128 : Shape := ⟨1, ![128]⟩
abbrev S128x1 : Shape := ⟨2, ![128, 1]⟩
abbrev S8192x1024 : Shape := ⟨2, ![8192, 1024]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 15
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096, .f32⟩
  | .hbm, ⟨3, _⟩ => ⟨S2x4096, .f32⟩
  | .hbm, ⟨4, _⟩ => ⟨S2x4096x1024, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S8192x4096, .bf16⟩
  | .hbm, ⟨13, _⟩ => ⟨S2x4096x1024, .bf16⟩
  | .hbm, ⟨14, _⟩ => ⟨S8192x1024, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1x4096x512, .bf16⟩
  | .local _ .vmem, ⟨13, _⟩ => ⟨S1x4096x512, .bf16⟩
  | .local _ .vmem, ⟨14, _⟩ => ⟨S1024x512, .f32⟩
  | .local _ .vmem, ⟨15, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== QueryRefIdeal.lean ====
abbrev S8192x4096 : Shape := ⟨2, ![8192, 4096]⟩
abbrev S2x4096 : Shape := ⟨2, ![2, 4096]⟩
abbrev S2x4096x1024 : Shape := ⟨3, ![2, 4096, 1024]⟩
abbrev S_ : Shape := ⟨0, ![]⟩
abbrev S1x4096 : Shape := ⟨2, ![1, 4096]⟩
abbrev S4096 : Shape := ⟨1, ![4096]⟩
abbrev S8192 : Shape := ⟨1, ![8192]⟩
abbrev S8192x1 : Shape := ⟨2, ![8192, 1]⟩
abbrev S1x4096x1024 : Shape := ⟨3, ![1, 4096, 1024]⟩
abbrev S4096x1024 : Shape := ⟨2, ![4096, 1024]⟩
abbrev S8192x1024 : Shape := ⟨2, ![8192, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096, .f32⟩
  | .hbm, ⟨3, _⟩ => ⟨S2x4096, .f32⟩
  | .hbm, ⟨4, _⟩ => ⟨S2x4096x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S1x4096x1024, .f32⟩
  | .hbm, ⟨43, _⟩ => ⟨S4096x1024, .f32⟩
  | .hbm, ⟨44, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Shared.lean ====
abbrev S8192x4096 : Shape := ⟨2, ![8192, 4096]⟩
abbrev S4096x8192 : Shape := ⟨2, ![4096, 8192]⟩
abbrev S2x4096 : Shape := ⟨2, ![2, 4096]⟩
abbrev S4096x6144 : Shape := ⟨2, ![4096, 6144]⟩
abbrev S1x4096x4096 : Shape := ⟨3, ![1, 4096, 4096]⟩
abbrev S4096x4096 : Shape := ⟨2, ![4096, 4096]⟩
abbrev S4096x3072 : Shape := ⟨2, ![4096, 3072]⟩
abbrev S1x4096 : Shape := ⟨2, ![1, 4096]⟩
abbrev S4096 : Shape := ⟨1, ![4096]⟩
abbrev S128x4096 : Shape := ⟨2, ![128, 4096]⟩
abbrev S4096x128 : Shape := ⟨2, ![4096, 128]⟩
abbrev S128 : Shape := ⟨1, ![128]⟩
abbrev S128x1 : Shape := ⟨2, ![128, 1]⟩
abbrev S8192x3072 : Shape := ⟨2, ![8192, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 23
  | .vmem => 28
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S2x4096, .f32⟩
  | .hbm, ⟨3, _⟩ => ⟨S2x4096, .f32⟩
  | .hbm, ⟨4, _⟩ => ⟨S4096x6144, .f32⟩
  | .hbm, ⟨5, _⟩ => ⟨S1x4096x4096, .f32⟩
  | .hbm, ⟨6, _⟩ => ⟨S4096x4096, .f32⟩
  | .hbm, ⟨7, _⟩ => ⟨S4096x4096, .bf16⟩
  | .hbm, ⟨8, _⟩ => ⟨S4096x3072, .f32⟩
  | .hbm, ⟨9, _⟩ => ⟨S4096x3072, .bf16⟩
  | .hbm, ⟨10, _⟩ => ⟨S4096x3072, .f32⟩
  | .hbm, ⟨11, _⟩ => ⟨S4096x3072, .bf16⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S1x4096, .f32⟩
  | .hbm, ⟨18, _⟩ => ⟨S8192x4096, .f32⟩
  | .hbm, ⟨19, _⟩ => ⟨S8192x4096, .bf16⟩
  | .hbm, ⟨20, _⟩ => ⟨S8192x3072, .f32⟩
  | .hbm, ⟨21, _⟩ => ⟨S8192x3072, .f32⟩
  | .hbm, ⟨22, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x128, .f32⟩
  | .local _ .vmem, ⟨3, _⟩ => ⟨S4096x128, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | .local _ .vmem, ⟨10, _⟩ => ⟨S1024x4096, .bf16⟩
  | .local _ .vmem, ⟨11, _⟩ => ⟨S1024x4096, .bf16⟩
  | .local _ .vmem, ⟨12, _⟩ => ⟨S4096x512, .bf16⟩
  | .local _ .vmem, ⟨13, _⟩ => ⟨S4096x512, .bf16⟩
  | .local _ .vmem, ⟨14, _⟩ => ⟨S1024x512, .f32⟩
  | .local _ .vmem, ⟨15, _⟩ => ⟨S1024x512, .f32⟩
  | .local _ .vmem, ⟨16, _⟩ => ⟨S1024x4096, .bf16⟩
  | .local _ .vmem, ⟨17, _⟩ => ⟨S1024x4096, .bf16⟩
  | .local _ .vmem, ⟨18, _⟩ => ⟨S4096x512, .bf16⟩
  | .local _ .vmem, ⟨19, _⟩ => ⟨S4096x512, .bf16⟩
  | .local _ .vmem, ⟨20, _⟩ => ⟨S1024x512, .f32⟩
  | .local _ .vmem, ⟨21, _⟩ => ⟨S1024x512, .f32⟩
  | .local _ .vmem, ⟨22, _⟩ => ⟨S1024x4096, .bf16⟩
  | .local _ .vmem, ⟨23, _⟩ => ⟨S1024x4096, .bf16⟩
  | .local _ .vmem, ⟨24, _⟩ => ⟨S4096x512, .bf16⟩
  | .local _ .vmem, ⟨25, _⟩ => ⟨S4096x512, .bf16⟩
  | .local _ .vmem, ⟨26, _⟩ => ⟨S1024x512, .f32⟩
  | .local _ .vmem, ⟨27, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== SharedRefIdeal.lean ====
abbrev S8192x4096 : Shape := ⟨2, ![8192, 4096]⟩
abbrev S4096x8192 : Shape := ⟨2, ![4096, 8192]⟩
abbrev S2x4096 : Shape := ⟨2, ![2, 4096]⟩
abbrev S4096x6144 : Shape := ⟨2, ![4096, 6144]⟩
abbrev S1x4096x4096 : Shape := ⟨3, ![1, 4096, 4096]⟩
abbrev S_ : Shape := ⟨0, ![]⟩
abbrev S1x4096 : Shape := ⟨2, ![1, 4096]⟩
abbrev S4096 : Shape := ⟨1, ![4096]⟩
abbrev S8192 : Shape := ⟨1, ![8192]⟩
abbrev S8192x1 : Shape := ⟨2, ![8192, 1]⟩
abbrev S8192x6144 : Shape := ⟨2, ![8192, 6144]⟩
abbrev S8192x3072 : Shape := ⟨2, ![8192, 3072]⟩
abbrev S4096x4096 : Shape := ⟨2, ![4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S2x4096, .f32⟩
  | .hbm, ⟨3, _⟩ => ⟨S2x4096, .f32⟩
  | .hbm, ⟨4, _⟩ => ⟨S4096x6144, .f32⟩
  | .hbm, ⟨5, _⟩ => ⟨S1x4096x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S8192x6144, .f32⟩
  | .hbm, ⟨45, _⟩ => ⟨S8192x3072, .f32⟩
  | .hbm, ⟨46, _⟩ => ⟨S8192x3072, .f32⟩
  | .hbm, ⟨47, _⟩ => ⟨S4096x4096, .f32⟩
  | .hbm, ⟨48, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MemAttend.lean ====
abbrev S8192x4096 : Shape := ⟨2, ![8192, 4096]⟩
abbrev S4x256x4096 : Shape := ⟨3, ![4, 256, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S8192x1024 : Shape := ⟨2, ![8192, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4x256x4096, .f32⟩
  | .hbm, ⟨2, _⟩ => ⟨S2x4096x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S4096x4096, .f32⟩
  | .hbm, ⟨8, _⟩ => ⟨S4096x4096, .bf16⟩
  | .hbm, ⟨9, _⟩ => ⟨S1024x4096, .f32⟩
  | .hbm, ⟨10, _⟩ => ⟨S1024x4096, .bf16⟩
  | .hbm, ⟨11, _⟩ => ⟨S1024x4096, .f32⟩
  | .hbm, ⟨12, _⟩ => ⟨S4x256x4096, .f32⟩
  | .hbm, ⟨13, _⟩ => ⟨S8192x1024, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S512x256, .f32⟩
  | .local _ .vmem, ⟨6, _⟩ => ⟨S512x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S512x256, .f32⟩
  | .local _ .vmem, ⟨12, _⟩ => ⟨S512x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c12_i32 : BitVec 32 := 12#32
  let v2 : BitVec 32 := Scalar.addi c12_i32 arg2
  let c0_i32 : BitVec 32 := 0#32
  ![v1.toNat, v2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== MemAttendRefIdeal.lean ====
abbrev S8192x4096 : Shape := ⟨2, ![8192, 4096]⟩
abbrev S4x256x4096 : Shape := ⟨3, ![4, 256, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S8192x1024 : Shape := ⟨2, ![8192, 1024]⟩
abbrev S4x2048x4x256 : Shape := ⟨4, ![4, 2048, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x256x4096, .f32⟩
  | .hbm, ⟨2, _⟩ => ⟨S2x4096x2048, .f32⟩
  | .hbm, ⟨3, _⟩ => ⟨S1x4096x2048, .f32⟩
  | .hbm, ⟨4, _⟩ => ⟨S4096x2048, .f32⟩
  | .hbm, ⟨5, _⟩ => ⟨S4x256x2048, .f32⟩
  | .hbm, ⟨6, _⟩ => ⟨S4x256x1024, .f32⟩
  | .hbm, ⟨7, _⟩ => ⟨S4x256x4x256, .f32⟩
  | .hbm, ⟨8, _⟩ => ⟨S4x256x1024, .f32⟩
  | .hbm, ⟨9, _⟩ => ⟨S4x256x4x256, .f32⟩
  | .hbm, ⟨10, _⟩ => ⟨S8192x1024, .f32⟩
  | .hbm, ⟨11, _⟩ => ⟨S4x2048x4x256, .f32⟩
  | .hbm, ⟨12, _⟩ => ⟨S4x4x2048x256, .f32⟩
  | .hbm, ⟨13, _⟩ => ⟨S_, .f32⟩
  | .hbm, ⟨14, _⟩ => ⟨S4x4x2048x256, .f32⟩
  | .hbm, ⟨15, _⟩ => ⟨S4x4x2048x256, .f32⟩
  | .hbm, ⟨16, _⟩ => ⟨S_, .f32⟩
  | .hbm, ⟨17, _⟩ => ⟨S4x4x2048, .f32⟩
  | .hbm, ⟨18, _⟩ => ⟨S_, .f32⟩
  | .hbm, ⟨19, _⟩ => ⟨S4x4x2048, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .f32⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S4x4x2048x1, .f32⟩
  | .hbm, ⟨28, _⟩ => ⟨S4x4x2048x256, .f32⟩
  | .hbm, ⟨29, _⟩ => ⟨S4x4x2048x256, .f32⟩
  | .hbm, ⟨30, _⟩ => ⟨S4x4x256x2048, .f32⟩
  | .hbm, ⟨31, _⟩ => ⟨S4x2048x4x256, .f32⟩
  | .hbm, ⟨32, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== State.lean ====
abbrev S4x2048x4096 : Shape := ⟨3, ![4, 2048, 4096]⟩
abbrev S1x4096x10252 : Shape := ⟨3, ![1, 4096, 10252]⟩
abbrev S1x12 : Shape := ⟨2, ![1, 12]⟩
abbrev S4096x10252 : Shape := ⟨2, ![4096, 10252]⟩
abbrev S4096x9216 : Shape := ⟨2, ![4096, 9216]⟩
abbrev S9216x4096 : Shape := ⟨2, ![9216, 4096]⟩
abbrev S4096x12 : Shape := ⟨2, ![4096, 12]⟩
abbrev S12x4096 : Shape := ⟨2, ![12, 4096]⟩
abbrev S_ : Shape := ⟨0, ![]⟩
abbrev S128x4096 : Shape := ⟨2, ![128, 4096]⟩
abbrev S12 : Shape := ⟨1, ![12]⟩
abbrev S4x6x256x512 : Shape := ⟨4, ![4, 6, 256, 512]⟩
abbrev S4x6x256 : Shape := ⟨3, ![4, 6, 256]⟩
abbrev S4x6 : Shape := ⟨2, ![4, 6]⟩
abbrev S8192x4096 : Shape := ⟨2, ![8192, 4096]⟩
abbrev S8192x9216 : Shape := ⟨2, ![8192, 9216]⟩
abbrev S1024x4096 : Shape := ⟨2, ![1024, 4096]⟩
abbrev S512x4096 : Shape := ⟨2, ![512, 4096]⟩
abbrev S1024x512 : Shape := ⟨2, ![1024, 512]⟩
abbrev S8192x128 : Shape := ⟨2, ![8192, 128]⟩
abbrev S512x128 : Shape := ⟨2, ![512, 128]⟩
abbrev S8192x12 : Shape := ⟨2, ![8192, 12]⟩
abbrev S12x8192 : Shape := ⟨2, ![12, 8192]⟩
abbrev S6x8192 : Shape := ⟨2, ![6, 8192]⟩
abbrev S6x32x1x256 : Shape := ⟨4, ![6, 32, 1, 256]⟩
abbrev S4x6x1x256 : Shape := ⟨4, ![4, 6, 1, 256]⟩
abbrev S4x6x1x1 : Shape := ⟨4, ![4, 6, 1, 1]⟩
abbrev S4x6x1x128 : Shape := ⟨4, ![4, 6, 1, 128]⟩
abbrev S8192x3072 : Shape := ⟨2, ![8192, 3072]⟩
abbrev S256x256 : Shape := ⟨2, ![256, 256]⟩
abbrev S256x512 : Shape := ⟨2, ![256, 512]⟩
abbrev S1x1x1x256 : Shape := ⟨4, ![1, 1, 1, 256]⟩
abbrev S1x1x256x512 : Shape := ⟨4, ![1, 1, 256, 512]⟩
abbrev S1x1x1x128 : Shape := ⟨4, ![1, 1, 1, 128]⟩
abbrev S1x256 : Shape := ⟨2, ![1, 256]⟩
abbrev S1 : Shape := ⟨1, ![1]⟩
abbrev S256 : Shape := ⟨1, ![256]⟩
abbrev S256x1 : Shape := ⟨2, ![256, 1]⟩
abbrev S1x1x1x1 : Shape := ⟨4, ![1, 1, 1, 1]⟩
abbrev S1x1 : Shape := ⟨2, ![1, 1]⟩
abbrev S1x128 : Shape := ⟨2, ![1, 128]⟩
abbrev S1x4x6x256x512 : Shape := ⟨5, ![1, 4, 6, 256, 512]⟩
abbrev S1x4x6x256 : Shape := ⟨4, ![1, 4, 6, 256]⟩
abbrev S1x4x6 : Shape := ⟨3, ![1, 4, 6]⟩

abbrev nBuf : Space → Nat
  | .hbm => 42
  | .vmem => 37
  | .smem => 1
  | _ => 0

abbrev bufTy : (tb : Table) → Fin (tcTables nBuf tb) → BufTy
  | .hbm, ⟨0, _⟩ => ⟨S4x2048x4096, .f32⟩
  | .hbm, ⟨1, _⟩ => ⟨S1x4096x10252, .f32⟩
  | .hbm, ⟨2, _⟩ => ⟨S1x12, .f32⟩
  | .hbm, ⟨3, _⟩ => ⟨S4096x10252, .f32⟩
  | .hbm, ⟨4, _⟩ => ⟨S4096x9216, .f32⟩
  | .hbm, ⟨5, _⟩ => ⟨S9216x4096, .f32⟩
  | .hbm, ⟨6, _⟩ => ⟨S9216x4096, .bf16⟩
  | .hbm, ⟨7, _⟩ => ⟨S4096x12, .f32⟩
  | .hbm, ⟨8, _⟩ => ⟨S12x4096, .f32⟩
  | .hbm, ⟨9, _⟩ => ⟨S_, .i32⟩
  | .hbm, ⟨10, _⟩ => ⟨S_, .f32⟩
  | .hbm, ⟨11, _⟩ => ⟨S128x4096, .f32⟩
  | .hbm, ⟨12, _⟩ => ⟨S12, .f32⟩
  | .hbm, ⟨13, _⟩ => ⟨S_, .f32⟩
  | .hbm, ⟨14, _⟩ => ⟨S4x6x256x512, .f32⟩
  | .hbm, ⟨15, _⟩ => ⟨S_, .f32⟩
  | .hbm, ⟨16, _⟩ => ⟨S4x6x256, .f32⟩
  | .hbm, ⟨17, _⟩ => ⟨S_, .f32⟩
  | .hbm, ⟨18, _⟩ => ⟨S4x6, .f32⟩
  | .hbm, ⟨19, _⟩ => ⟨S8192x4096, .f32⟩
  | .hbm, ⟨20, _⟩ => ⟨S8192x4096, .bf16⟩
  | .hbm, ⟨21, _⟩ => ⟨S8192x9216, .f32⟩
  | .hbm, ⟨22, _⟩ => ⟨S8192x128, .f32⟩
  | .hbm, ⟨23, _⟩ => ⟨S8192x12, .f32⟩
  | .hbm, ⟨24, _⟩ => ⟨S12x8192, .f32⟩
  | .hbm, ⟨25, _⟩ => ⟨S6x8192, .f32⟩
  | .hbm, ⟨26, _⟩ => ⟨S6x32x1x256, .f32⟩
  | .hbm, ⟨27, _⟩ => ⟨S6x8192, .f32⟩
  | .hbm, ⟨28, _⟩ => ⟨S6x32x1x256, .f32⟩
  | .hbm, ⟨29, _⟩ => ⟨S4x6x1x256, .f32⟩
  | .hbm, ⟨30, _⟩ => ⟨S4x6x1x1, .f32⟩
  | .hbm, ⟨31, _⟩ => ⟨S4x6x1x128, .f32⟩
  | .hbm, ⟨32, _⟩ => ⟨S8192x3072, .f32⟩
  | .hbm, ⟨33, _⟩ => ⟨S4x6x256x512, .f32⟩
  | .hbm, ⟨34, _⟩ => ⟨S4x6x1x256, .f32⟩
  | .hbm, ⟨35, _⟩ => ⟨S4x6x1x128, .f32⟩
  | .hbm, ⟨36, _⟩ => ⟨S1x4x6x256x512, .f32⟩
  | .hbm, ⟨37, _⟩ => ⟨S4x6x256, .f32⟩
  | .hbm, ⟨38, _⟩ => ⟨S1x4x6x256, .f32⟩
  | .hbm, ⟨39, _⟩ => ⟨S4x6x1x1, .f32⟩
  | .hbm, ⟨40, _⟩ => ⟨S4x6, .f32⟩
  | .hbm, ⟨41, _⟩ => ⟨S1x4x6, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S512x4096, .f32⟩
  | .local _ .vmem, ⟨7, _⟩ => ⟨S512x4096, .f32⟩
  | .local _ .vmem, ⟨8, _⟩ => ⟨S128x4096, .f32⟩
  | .local _ .vmem, ⟨9, _⟩ => ⟨S512x128, .f32⟩
  | .local _ .vmem, ⟨10, _⟩ => ⟨S512x128, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S1x1x1x256, .f32⟩
  | .local _ .vmem, ⟨20, _⟩ => ⟨S1x1x1x256, .f32⟩
  | .local _ .vmem, ⟨21, _⟩ => ⟨S1x1x1x256, .f32⟩
  | .local _ .vmem, ⟨22, _⟩ => ⟨S1x1x1x256, .f32⟩
  | .local _ .vmem, ⟨23, _⟩ => ⟨S1x1x256x512, .f32⟩
  | .local _ .vmem, ⟨24, _⟩ => ⟨S1x1x256x512, .f32⟩
  | .local _ .vmem, ⟨25, _⟩ => ⟨S1x1x1x256, .f32⟩
  | .local _ .vmem, ⟨26, _⟩ => ⟨S1x1x1x256, .f32⟩
  | .local _ .vmem, ⟨27, _⟩ => ⟨S1x1x1x128, .f32⟩
  | .local _ .vmem, ⟨28, _⟩ => ⟨S1x1x1x128, .f32⟩
  | .local _ .vmem, ⟨29, _⟩ => ⟨S256x512, .f32⟩
  | .local _ .vmem, ⟨30, _⟩ => ⟨S256x512, .f32⟩
  | .local _ .vmem, ⟨31, _⟩ => ⟨S1x1x256x512, .f32⟩
  | .local _ .vmem, ⟨32, _⟩ => ⟨S1x1x256x512, .f32⟩
  | .local _ .vmem, ⟨33, _⟩ => ⟨S1x1x1x256, .f32⟩
  | .local _ .vmem, ⟨34, _⟩ => ⟨S1x1x1x256, .f32⟩
  | .local _ .vmem, ⟨35, _⟩ => ⟨S1x1x1x128, .f32⟩
  | .local _ .vmem, ⟨36, _⟩ => ⟨S1x1x1x128, .f32⟩
  | .local _ .smem, ⟨0, _⟩ => ⟨S12, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc2_stg9_0 : Ref sig .tc := ⟨.vmem, 27, rfl⟩
abbrev cc2_stg9_1 : Ref sig .tc := ⟨.vmem, 28, rfl⟩
abbrev cc2_stg10_0 : Ref sig .tc := ⟨.vmem, 29, rfl⟩
abbrev cc2_stg10_1 : Ref sig .tc := ⟨.vmem, 30, rfl⟩
abbrev cc2_stg11_0 : Ref sig .tc := ⟨.vmem, 31, rfl⟩
abbrev cc2_stg11_1 : Ref sig .tc := ⟨.vmem, 32, rfl⟩
abbrev cc2_stg12_0 : Ref sig .tc := ⟨.vmem, 33, rfl⟩
abbrev cc2_stg12_1 : Ref sig .tc := ⟨.vmem, 34, rfl⟩
abbrev cc2_stg13_0 : Ref sig .tc := ⟨.vmem, 35, rfl⟩
abbrev cc2_stg13_1 : Ref sig .tc := ⟨.vmem, 36, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc2_sem7_0 : DmaSem sig := 24
abbrev cc2_sem7_1 : DmaSem sig := 25
abbrev cc2_sem8_0 : DmaSem sig := 26
abbrev cc2_sem8_1 : DmaSem sig := 27
abbrev cc2_sem9_0 : DmaSem sig := 28
abbrev cc2_sem9_1 : DmaSem sig := 29
abbrev cc2_sem10_0 : DmaSem sig := 30
abbrev cc2_sem10_1 : DmaSem sig := 31
abbrev cc2_sem11_0 : DmaSem sig := 32
abbrev cc2_sem11_1 : DmaSem sig := 33
abbrev cc2_sem12_0 : DmaSem sig := 34
abbrev cc2_sem12_1 : DmaSem sig := 35
abbrev cc2_sem13_0 : DmaSem sig := 36
abbrev cc2_sem13_1 : DmaSem sig := 37

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S128x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![4, 6, 8], ![false, false, false]⟩

def k2_off1 (i : grid2.Coords) : Fin 1 → Nat :=
  let arg1 : BitVec 32 := BitVec.ofNat 32 (i 1).val
  let v14 : Index := Scalar.indexCast arg1
  ![v14.toNat]
def k2_off2 (i : grid2.Coords) : Fin 1 → Nat :=
  let c6_i32 : BitVec 32 := 6#32
  let arg1 : BitVec 32 := BitVec.ofNat 32 (i 1).val
  let v20 : BitVec 32 := Scalar.addi c6_i32 arg1
  let v21 : Index := Scalar.indexCast v20
  ![v21.toNat]
def cc2_transform_0 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc2_transform_5 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc2_transform_7 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_8 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_9 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc2_transform_11 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_12 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_13 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 1 → Memref sig .tc .smem S12 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x1x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev stage2_6 : Fin 2 → Memref sig .tc .vmem S1x1x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev stage2_7 : Fin 2 → Memref sig .tc .vmem S1x1x256x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev stage2_8 : Fin 2 → Memref sig .tc .vmem S1x1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, false]

abbrev stage2_9 : Fin 2 → Memref sig .tc .vmem S1x1x1x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true, false]

abbrev stage2_10 : Fin 2 → Memref sig .tc .vmem S256x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true, true]

abbrev stage2_11 : Fin 2 → Memref sig .tc .vmem S1x1x256x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true, false]

abbrev stage2_12 : Fin 2 → Memref sig .tc .vmem S1x1x1x256 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true, false]

abbrev stage2_13 : Fin 2 → Memref sig .tc .vmem S1x1x1x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true, false]
-- ==== StateRefIdeal.lean ====
abbrev S4x2048x4096 : Shape := ⟨3, ![4, 2048, 4096]⟩
abbrev S1x4096x10252 : Shape := ⟨3, ![1, 4096, 10252]⟩
abbrev S1x12 : Shape := ⟨2, ![1, 12]⟩
abbrev S4096x10252 : Shape := ⟨2, ![4096, 10252]⟩
abbrev S4x2048x10252 : Shape := ⟨3, ![4, 2048, 10252]⟩
abbrev S4x2048x1536 : Shape := ⟨3, ![4, 2048, 1536]⟩
abbrev S4x2048x6x256 : Shape := ⟨4, ![4, 2048, 6, 256]⟩
abbrev S_ : Shape := ⟨0, ![]⟩
abbrev S4x2048x3072 : Shape := ⟨3, ![4, 2048, 3072]⟩
abbrev S4x2048x6x512 : Shape := ⟨4, ![4, 2048, 6, 512]⟩
abbrev S4x2048x6 : Shape := ⟨3, ![4, 2048, 6]⟩
abbrev S1x6 : Shape := ⟨2, ![1, 6]⟩
abbrev S6 : Shape := ⟨1, ![6]⟩
abbrev S1x1x6 : Shape := ⟨3, ![1, 1, 6]⟩
abbrev S4x6x2048x256 : Shape := ⟨4, ![4, 6, 2048, 256]⟩
abbrev S4x6x2048x512 : Shape := ⟨4, ![4, 6, 2048, 512]⟩
abbrev S4x6x2048 : Shape := ⟨3, ![4, 6, 2048]⟩
abbrev S4x6x256x512 : Shape := ⟨4, ![4, 6, 256, 512]⟩
abbrev S4x6x256 : Shape := ⟨3, ![4, 6, 256]⟩
abbrev S4x6 : Shape := ⟨2, ![4, 6]⟩
abbrev S4x6x1 : Shape := ⟨3, ![4, 6, 1]⟩
abbrev S4x6x1x1 : Shape := ⟨4, ![4, 6, 1, 1]⟩
abbrev S4x6x2048x1 : Shape := ⟨4, ![4, 6, 2048, 1]⟩
abbrev S1x4x6x256x512 : Shape := ⟨5, ![1, 4, 6, 256, 512]⟩
abbrev S1x4x6x256 : Shape := ⟨4, ![1, 4, 6, 256]⟩
abbrev S1x4x6 : Shape := ⟨3, ![1, 4, 6]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x10252, .f32⟩
  | .hbm, ⟨2, _⟩ => ⟨S1x12, .f32⟩
  | .hbm, ⟨3, _⟩ => ⟨S4096x10252, .f32⟩
  | .hbm, ⟨4, _⟩ => ⟨S4x2048x10252, .f32⟩
  | .hbm, ⟨5, _⟩ => ⟨S4x2048x1536, .f32⟩
  | .hbm, ⟨6, _⟩ => ⟨S4x2048x6x256, .f32⟩
  | .hbm, ⟨7, _⟩ => ⟨S_, .f32⟩
  | .hbm, ⟨8, _⟩ => ⟨S4x2048x6x256, .f32⟩
  | .hbm, ⟨9, _⟩ => ⟨S4x2048x6x256, .f32⟩
  | .hbm, ⟨10, _⟩ => ⟨S4x2048x3072, .f32⟩
  | .hbm, ⟨11, _⟩ => ⟨S4x2048x6x512, .f32⟩
  | .hbm, ⟨12, _⟩ => ⟨S4x2048x6, .f32⟩
  | .hbm, ⟨13, _⟩ => ⟨S1x6, .f32⟩
  | .hbm, ⟨14, _⟩ => ⟨S6, .f32⟩
  | .hbm, ⟨15, _⟩ => ⟨S1x1x6, .f32⟩
  | .hbm, ⟨16, _⟩ => ⟨S4x2048x6, .f32⟩
  | .hbm, ⟨17, _⟩ => ⟨S4x2048x6, .f32⟩
  | .hbm, ⟨18, _⟩ => ⟨S4x2048x6, .f32⟩
  | .hbm, ⟨19, _⟩ => ⟨S1x6, .f32⟩
  | .hbm, ⟨20, _⟩ => ⟨S6, .f32⟩
  | .hbm, ⟨21, _⟩ => ⟨S1x1x6, .f32⟩
  | .hbm, ⟨22, _⟩ => ⟨S4x2048x6, .f32⟩
  | .hbm, ⟨23, _⟩ => ⟨S4x2048x6, .f32⟩
  | .hbm, ⟨24, _⟩ => ⟨S4x6x2048x256, .f32⟩
  | .hbm, ⟨25, _⟩ => ⟨S4x6x2048x512, .f32⟩
  | .hbm, ⟨26, _⟩ => ⟨S4x6x2048, .f32⟩
  | .hbm, ⟨27, _⟩ => ⟨S4x6x2048, .f32⟩
  | .hbm, ⟨28, _⟩ => ⟨S_, .f32⟩
  | .hbm, ⟨29, _⟩ => ⟨S4x6x256x512, .f32⟩
  | .hbm, ⟨30, _⟩ => ⟨S_, .f32⟩
  | .hbm, ⟨31, _⟩ => ⟨S4x6x256, .f32⟩
  | .hbm, ⟨32, _⟩ => ⟨S_, .f32⟩
  | .hbm, ⟨33, _⟩ => ⟨S4x6, .f32⟩
  | .hbm, ⟨34, _⟩ => ⟨S4x6x2048, .f32⟩
  | .hbm, ⟨35, _⟩ => ⟨S_, .f32⟩
  | .hbm, ⟨36, _⟩ => ⟨S4x6x2048, .f32⟩
  | .hbm, ⟨37, _⟩ => ⟨S4x6x2048, .f32⟩
  | .hbm, ⟨38, _⟩ => ⟨S4x6x2048, .f32⟩
  | .hbm, ⟨39, _⟩ => ⟨S4x6x2048, .f32⟩
  | .hbm, ⟨40, _⟩ => ⟨S4x6x2048, .i1⟩
  | .hbm, ⟨41, _⟩ => ⟨S4x6x2048, .f32⟩
  | .hbm, ⟨42, _⟩ => ⟨S4x6x2048, .f32⟩
  | .hbm, ⟨43, _⟩ => ⟨S4x6x2048, .f32⟩
  | .hbm, ⟨44, _⟩ => ⟨S4x6x2048, .f32⟩
  | .hbm, ⟨45, _⟩ => ⟨S4x6x2048, .f32⟩
  | .hbm, ⟨46, _⟩ => ⟨S4x6x2048, .f32⟩
  | .hbm, ⟨47, _⟩ => ⟨S4x6x2048, .f32⟩
  | .hbm, ⟨48, _⟩ => ⟨S4x6x2048, .f32⟩
  | .hbm, ⟨49, _⟩ => ⟨S4x6x2048, .f32⟩
  | .hbm, ⟨50, _⟩ => ⟨S_, .f32⟩
  | .hbm, ⟨51, _⟩ => ⟨S_, .f32⟩
  | .hbm, ⟨52, _⟩ => ⟨S4x6x2048, .f32⟩
  | .hbm, ⟨53, _⟩ => ⟨S4x6x1, .f32⟩
  | .hbm, ⟨54, _⟩ => ⟨S4x6, .f32⟩
  | .hbm, ⟨55, _⟩ => ⟨S4x6, .f32⟩
  | .hbm, ⟨56, _⟩ => ⟨S4x6x1, .f32⟩
  | .hbm, ⟨57, _⟩ => ⟨S4x6x2048, .f32⟩
  | .hbm, ⟨58, _⟩ => ⟨S4x6x2048, .f32⟩
  | .hbm, ⟨59, _⟩ => ⟨S4x6x2048, .f32⟩
  | .hbm, ⟨60, _⟩ => ⟨S_, .f32⟩
  | .hbm, ⟨61, _⟩ => ⟨S4x6, .f32⟩
  | .hbm, ⟨62, _⟩ => ⟨S4x6, .f32⟩
  | .hbm, ⟨63, _⟩ => ⟨S4x6x1, .f32⟩
  | .hbm, ⟨64, _⟩ => ⟨S4x6x2048, .f32⟩
  | .hbm, ⟨65, _⟩ => ⟨S4x6x2048, .f32⟩
  | .hbm, ⟨66, _⟩ => ⟨S4x6x2048, .f32⟩
  | .hbm, ⟨67, _⟩ => ⟨S4x6x1, .f32⟩
  | .hbm, ⟨68, _⟩ => ⟨S4x6x2048, .f32⟩
  | .hbm, ⟨69, _⟩ => ⟨S4x6x2048, .f32⟩
  | .hbm, ⟨70, _⟩ => ⟨S4x6x2048, .f32⟩
  | .hbm, ⟨71, _⟩ => ⟨S4x6x1, .f32⟩
  | .hbm, ⟨72, _⟩ => ⟨S4x6, .f32⟩
  | .hbm, ⟨73, _⟩ => ⟨S4x6, .f32⟩
  | .hbm, ⟨74, _⟩ => ⟨S4x6, .f32⟩
  | .hbm, ⟨75, _⟩ => ⟨S4x6, .f32⟩
  | .hbm, ⟨76, _⟩ => ⟨S4x6x1x1, .f32⟩
  | .hbm, ⟨77, _⟩ => ⟨S4x6x256x512, .f32⟩
  | .hbm, ⟨78, _⟩ => ⟨S4x6x256x512, .f32⟩
  | .hbm, ⟨79, _⟩ => ⟨S4x6x2048x1, .f32⟩
  | .hbm, ⟨80, _⟩ => ⟨S4x6x2048x256, .f32⟩
  | .hbm, ⟨81, _⟩ => ⟨S4x6x2048x256, .f32⟩
  | .hbm, ⟨82, _⟩ => ⟨S4x6x256x512, .f32⟩
  | .hbm, ⟨83, _⟩ => ⟨S4x6x256x512, .f32⟩
  | .hbm, ⟨84, _⟩ => ⟨S4x6x1, .f32⟩
  | .hbm, ⟨85, _⟩ => ⟨S4x6x256, .f32⟩
  | .hbm, ⟨86, _⟩ => ⟨S4x6x256, .f32⟩
  | .hbm, ⟨87, _⟩ => ⟨S4x6x2048x1, .f32⟩
  | .hbm, ⟨88, _⟩ => ⟨S4x6x2048x256, .f32⟩
  | .hbm, ⟨89, _⟩ => ⟨S4x6x2048x256, .f32⟩
  | .hbm, ⟨90, _⟩ => ⟨S_, .f32⟩
  | .hbm, ⟨91, _⟩ => ⟨S4x6x256, .f32⟩
  | .hbm, ⟨92, _⟩ => ⟨S4x6x256, .f32⟩
  | .hbm, ⟨93, _⟩ => ⟨S1x4x6x256x512, .f32⟩
  | .hbm, ⟨94, _⟩ => ⟨S1x4x6x256, .f32⟩
  | .hbm, ⟨95, _⟩ => ⟨S1x4x6, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v27 : Ref sig .tc := ⟨.hbm, 49, rfl⟩
abbrev main_call1_call0_cst : Ref sig .tc := ⟨.hbm, 50, rfl⟩
abbrev main_call1_call0_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_4 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Proof.Chunk.lean ====
/- One chunk of the mLSTM recurrence over the extended reals, for any number of rows, and the fact the padded
   chunk rests on: rows appended with input gate ⊥ and forget gate ⊤ (both before the bias) change nothing. -/
module
public import Idealize.ShloMosaic.Lib.Pointwise
@[expose] public section
noncomputable section
open Idealize.ShloMosaic
namespace Cert.Chunk

/-- `log (sigmoid x)`, in the form `min x 0 - log (1 + exp (-|x|))`. -/
def lsg (x : EReal) : EReal := min x 0 - Ideal.log1p (Ideal.exp (0 - max x (-x)))

variable {n : ℕ}

/-- The sum of the log forget gates up to and including row `t`. -/
def cum (f : Fin n → EReal) (t : Fin n) : EReal := ∑ s, if s ≤ t then lsg (f s) else 0

/-- The log weight row `s` has at row `t`: ⊥ for the rows that come later. -/
def ld (f i : Fin n → EReal) (t s : Fin n) : EReal := if s ≤ t then cum f t - cum f s + i s else ⊥

/-- The running maximum at row `t`: over the carried state and the rows up to `t`. -/
def mx (f i : Fin n → EReal) (m0 : EReal) (t : Fin n) : EReal :=
  max (cum f t + m0) (Finset.univ.fold max ⊥ fun s => ld f i t s)

/-- The weight of the carried state at row `t`. -/
def wi (f i : Fin n → EReal) (m0 : EReal) (t : Fin n) : EReal := Ideal.exp (cum f t + m0 - mx f i m0 t)

/-- The score of row `s` at row `t`: query times key, times the weight. -/
def sc {D : ℕ} (q k : Fin n → Fin D → EReal) (f i : Fin n → EReal) (m0 : EReal) (t s : Fin n) : EReal :=
  (∑ d, q t d * k s d) * Ideal.exp (ld f i t s - mx f i m0 t)

/-- The numerator of a row's output at value column `v`. -/
def num {D : ℕ} (q k : Fin n → Fin D → EReal) (v : Fin n → EReal) (f i : Fin n → EReal) (c0 : Fin D → EReal) (m0 : EReal)
    (t : Fin n) : EReal :=
  (∑ s, sc q k f i m0 t s * v s) + wi f i m0 t * ∑ d, q t d * c0 d

/-- The denominator of a row's output, before its absolute value and its floor. -/
def den {D : ℕ} (q k : Fin n → Fin D → EReal) (f i : Fin n → EReal) (n0 : Fin D → EReal) (m0 : EReal) (t : Fin n) : EReal :=
  (∑ s, sc q k f i m0 t s) + wi f i m0 t * ∑ d, q t d * n0 d

/-- A row's output at one value column. -/
def hid {D : ℕ} (q k : Fin n → Fin D → EReal) (v : Fin n → EReal) (f i : Fin n → EReal) (c0 n0 : Fin D → EReal) (m0 : EReal)
    (t : Fin n) : EReal :=
  Ideal.div (num q k v f i c0 m0 t)
    (max (max (den q k f i n0 m0 t) (-den q k f i n0 m0 t)) (Ideal.exp (0 - mx f i m0 t)))

/-- The weight of row `s` in the state carried on after row `e`. -/
def we (f i : Fin n → EReal) (m0 : EReal) (e s : Fin n) : EReal := Ideal.exp (cum f e - cum f s + i s - mx f i m0 e)

/-- One element of the matrix carried on after row `e`: the key column `k` against the value column `v`. -/
def cNew (k v : Fin n → EReal) (f i : Fin n → EReal) (c0 m0 : EReal) (e : Fin n) : EReal :=
  wi f i m0 e * c0 + ∑ s, k s * we f i m0 e s * v s

/-- One element of the normalizer carried on after row `e`. -/
def nNew (k : Fin n → EReal) (f i : Fin n → EReal) (n0 m0 : EReal) (e : Fin n) : EReal :=
  wi f i m0 e * n0 + ∑ s, k s * we f i m0 e s

/-! ## The padded chunk -/

/-- At ∞ the log-sigmoid is zero. -/
theorem lsg_top : lsg ⊤ = 0 := by
  unfold lsg Ideal.log1p
  have h : Ideal.exp (0 - max (⊤ : EReal) (-⊤)) = 0 := by
    rw [show max (⊤ : EReal) (-⊤) = ⊤ from max_eq_left le_top]; rfl
  rw [h, add_zero, min_eq_right le_top]
  have : Ideal.log 1 = 0 := by
    show (if (1:ℝ) ≤ 0 then ⊥ else ((Real.log 1 : ℝ) : EReal)) = 0
    rw [if_neg (by norm_num), Real.log_one]; rfl
  rw [this, sub_zero]

/-- At -∞ the log-sigmoid is -∞. -/
theorem lsg_bot : lsg ⊥ = ⊥ := by
  unfold lsg
  rw [min_eq_left bot_le, sub_eq_add_neg, EReal.bot_add]

/-- The exponential of -∞ is zero. -/
theorem exp_bot : Ideal.exp ⊥ = 0 := rfl

/-- A weight whose logit is -∞ is zero. -/
theorem exp_bot_sub (x : EReal) : Ideal.exp (⊥ - x) = 0 := by rw [sub_eq_add_neg, EReal.bot_add]; rfl

variable {N : ℕ} (h : n ≤ N)

/-- A sum whose later terms vanish is the sum of the first ones. -/
theorem sum_pad (g : Fin N → EReal) (hg : ∀ s : Fin N, n ≤ s.val → g s = 0) : ∑ s, g s = ∑ s, g (Fin.castLE h s) := by
  obtain ⟨m, rfl⟩ := Nat.exists_eq_add_of_le h
  rw [Fin.sum_univ_add, Finset.sum_eq_zero (s := Finset.univ) (f := fun i : Fin m => g (Fin.natAdd n i))
    (fun i _ => hg _ (by simp)), add_zero]
  rfl

/-- A maximum from ⊥ whose later terms are ⊥ is the maximum of the first ones. -/
theorem fold_pad (g : Fin N → EReal) (hg : ∀ s : Fin N, n ≤ s.val → g s = ⊥) :
    Finset.univ.fold max ⊥ g = Finset.univ.fold max ⊥ fun s => g (Fin.castLE h s) := by
  show Finset.univ.sup g = Finset.univ.sup fun s => g (Fin.castLE h s)
  refine le_antisymm (Finset.sup_le fun s _ => ?_) (Finset.sup_le fun s _ => Finset.le_sup (f := g) (Finset.mem_univ _))
  by_cases hs : n ≤ s.val
  · rw [hg s hs]; exact bot_le
  · exact Finset.le_sup (f := fun s => g (Fin.castLE h s)) (Finset.mem_univ (⟨s.val, Nat.lt_of_not_le hs⟩ : Fin n))

/-- What padding asks: the first rows' gates are the chunk's, the later input gates are ⊥, and the later forget gates
    have log sigmoid 0, unless every forget gate of the chunk is ⊥. -/
structure Padded (f i : Fin n → EReal) (F I : Fin N → EReal) : Prop where
  fst : ∀ s, F (Fin.castLE h s) = f s
  ins : ∀ s, I (Fin.castLE h s) = i s
  late : ∀ s : Fin N, n ≤ s.val → I s = ⊥
  open_ : (∀ s : Fin N, n ≤ s.val → F s = ⊤) ∨ ∀ s, f s = ⊥

variable {h} {f i : Fin n → EReal} {F I : Fin N → EReal} (P : Padded h f i F I)
include P

/-- The running sums of the first rows agree. -/
theorem Padded.cum (t : Fin n) : Chunk.cum F (Fin.castLE h t) = Chunk.cum f t := by
  unfold Chunk.cum
  rw [sum_pad h _ fun s hs => if_neg fun hle => absurd (Fin.le_def.mp hle) (by simpa using lt_of_lt_of_le t.isLt hs)]
  exact Finset.sum_congr rfl fun s _ => by rw [P.fst]; exact if_congr Iff.rfl rfl rfl

/-- The running sum after the padding is the one after the chunk's last row. -/
theorem Padded.cum_last (e : Fin n) (E : Fin N) (he : ∀ s : Fin n, s ≤ e) (hE : ∀ s : Fin N, s ≤ E) :
    Chunk.cum F E = Chunk.cum f e := by
  rcases P.open_ with hT | hB
  · unfold Chunk.cum
    rw [sum_pad h _ fun s hs => by rw [if_pos (hE s), hT s hs, lsg_top]]
    exact Finset.sum_congr rfl fun s _ => by rw [P.fst, if_pos (hE _), if_pos (he _)]
  · have hb : Chunk.cum f e = ⊥ := by
      unfold Chunk.cum
      rw [← Finset.add_sum_erase _ _ (Finset.mem_univ e), if_pos le_rfl, hB, lsg_bot, EReal.bot_add]
    have hb' : Chunk.cum F E = ⊥ := by
      unfold Chunk.cum
      rw [← Finset.add_sum_erase _ _ (Finset.mem_univ (Fin.castLE h e)), if_pos (hE _), P.fst, hB, lsg_bot, EReal.bot_add]
    rw [hb, hb']

/-- The log weights of the first rows agree. -/
theorem Padded.ld (t s : Fin n) : Chunk.ld F I (Fin.castLE h t) (Fin.castLE h s) = Chunk.ld f i t s := by
  unfold Chunk.ld
  rw [P.cum, P.cum, P.ins]; exact if_congr Iff.rfl rfl rfl

/-- A padded row has log weight -∞. -/
theorem Padded.ld_late (t : Fin n) (s : Fin N) (hs : n ≤ s.val) : Chunk.ld F I (Fin.castLE h t) s = ⊥ :=
  if_neg fun hle => absurd (Fin.le_def.mp hle) (by simpa using lt_of_lt_of_le t.isLt hs)

/-- The running maxima of the first rows agree. -/
theorem Padded.mx (m0 : EReal) (t : Fin n) : Chunk.mx F I m0 (Fin.castLE h t) = Chunk.mx f i m0 t := by
  unfold Chunk.mx
  rw [fold_pad h _ (P.ld_late t), P.cum]
  simp only [P.ld]

/-- The running maximum after the padding is the one after the chunk's last row. -/
theorem Padded.mx_last (m0 : EReal) (e : Fin n) (E : Fin N) (he : ∀ s : Fin n, s ≤ e) (hE : ∀ s : Fin N, s ≤ E) :
    Chunk.mx F I m0 E = Chunk.mx f i m0 e := by
  unfold Chunk.mx
  rw [fold_pad h _ fun s hs => by unfold Chunk.ld; rw [if_pos (hE s), P.late s hs, EReal.add_bot], P.cum_last e E he hE]
  unfold Chunk.ld
  simp only [if_pos (hE _), if_pos (he _), P.cum_last e E he hE, P.cum, P.ins]

/-- The weights of the carried state agree in the first rows. -/
theorem Padded.wi (m0 : EReal) (t : Fin n) : Chunk.wi F I m0 (Fin.castLE h t) = Chunk.wi f i m0 t := by
  unfold Chunk.wi; rw [P.cum, P.mx]

/-- The weight of the carried state after the padding is the one after the chunk's last row. -/
theorem Padded.wi_last (m0 : EReal) (e : Fin n) (E : Fin N) (he : ∀ s : Fin n, s ≤ e) (hE : ∀ s : Fin N, s ≤ E) :
    Chunk.wi F I m0 E = Chunk.wi f i m0 e := by
  unfold Chunk.wi; rw [P.cum_last e E he hE, P.mx_last m0 e E he hE]

variable {D : ℕ} {q k : Fin n → Fin D → EReal} {Q K : Fin N → Fin D → EReal}
  (hQ : ∀ s, Q (Fin.castLE h s) = q s) (hK : ∀ s, K (Fin.castLE h s) = k s)
include hQ hK

/-- The scores of the first rows agree. -/
theorem Padded.sc (m0 : EReal) (t s : Fin n) :
    Chunk.sc Q K F I m0 (Fin.castLE h t) (Fin.castLE h s) = Chunk.sc q k f i m0 t s := by
  unfold Chunk.sc; rw [P.ld, P.mx, hQ, hK]

omit hQ hK in
/-- A padded row has score zero. -/
theorem Padded.sc_late (m0 : EReal) (t : Fin n) (s : Fin N) (hs : n ≤ s.val) :
    Chunk.sc Q K F I m0 (Fin.castLE h t) s = 0 := by
  unfold Chunk.sc; rw [P.ld_late t s hs, exp_bot_sub, mul_zero]

/-- The numerators of the first rows agree. -/
theorem Padded.num (v : Fin n → EReal) (V : Fin N → EReal) (hV : ∀ s, V (Fin.castLE h s) = v s) (c0 : Fin D → EReal) (m0 : EReal)
    (t : Fin n) : Chunk.num Q K V F I c0 m0 (Fin.castLE h t) = Chunk.num q k v f i c0 m0 t := by
  unfold Chunk.num
  rw [sum_pad h _ fun s hs => by rw [P.sc_late m0 t s hs, zero_mul], P.wi, hQ]
  simp only [P.sc hQ hK, hV]

/-- The denominators of the first rows agree. -/
theorem Padded.den (n0 : Fin D → EReal) (m0 : EReal) (t : Fin n) :
    Chunk.den Q K F I n0 m0 (Fin.castLE h t) = Chunk.den q k f i n0 m0 t := by
  unfold Chunk.den
  rw [sum_pad h _ fun s hs => P.sc_late m0 t s hs, P.wi, hQ]
  simp only [P.sc hQ hK]

/-- A row's output is unchanged by the padding. -/
theorem Padded.hid (v : Fin n → EReal) (V : Fin N → EReal) (hV : ∀ s, V (Fin.castLE h s) = v s) (c0 n0 : Fin D → EReal) (m0 : EReal)
    (t : Fin n) : Chunk.hid Q K V F I c0 n0 m0 (Fin.castLE h t) = Chunk.hid q k v f i c0 n0 m0 t := by
  unfold Chunk.hid
  rw [P.num hQ hK v V hV, P.den hQ hK, P.mx]

omit hQ hK
variable (m0 : EReal) (e : Fin n) (E : Fin N) (he : ∀ s : Fin n, s ≤ e) (hE : ∀ s : Fin N, s ≤ E)
include he hE

/-- The weights at the end of the first rows agree. -/
theorem Padded.we (s : Fin n) : Chunk.we F I m0 E (Fin.castLE h s) = Chunk.we f i m0 e s := by
  unfold Chunk.we; rw [P.cum_last e E he hE, P.mx_last m0 e E he hE, P.cum, P.ins]

omit he hE in
/-- A padded row has weight zero at the end. -/
theorem Padded.we_late (s : Fin N) (hs : n ≤ s.val) : Chunk.we F I m0 E s = 0 := by
  unfold Chunk.we; rw [P.late s hs, EReal.add_bot, exp_bot_sub]

/-- The matrix carried on is unchanged by the padding. -/
theorem Padded.cNew (k v : Fin n → EReal) (K V : Fin N → EReal) (hK : ∀ s, K (Fin.castLE h s) = k s)
    (hV : ∀ s, V (Fin.castLE h s) = v s) (c0 : EReal) : Chunk.cNew K V F I c0 m0 E = Chunk.cNew k v f i c0 m0 e := by
  unfold Chunk.cNew
  rw [sum_pad h _ fun s hs => by rw [P.we_late m0 E s hs, mul_zero, zero_mul], P.wi_last m0 e E he hE]
  simp only [P.we m0 e E he hE, hK, hV]

/-- The normalizer carried on is unchanged by the padding. -/
theorem Padded.nNew (k : Fin n → EReal) (K : Fin N → EReal) (hK : ∀ s, K (Fin.castLE h s) = k s)
    (n0 : EReal) : Chunk.nNew K F I n0 m0 E = Chunk.nNew k f i n0 m0 e := by
  unfold Chunk.nNew
  rw [sum_pad h _ fun s hs => by rw [P.we_late m0 E s hs, mul_zero], P.wi_last m0 e E he hE]
  simp only [P.we m0 e E he hE, hK]

end Cert.Chunk
-- ==== Proof.MlstmPay.lean ====
/- What the mLSTM kernel's body stores, read at an index: the padded chunk of `Cert.Chunk` over the loaded blocks. -/
module
public import proofs.«01_k».proof.Proof.Gen.MlstmIdeal.Skeleton
public import proofs.«01_k».proof.Proof.Chunk
public import Idealize.ShloMosaic.Lib.Pointwise
public import Idealize.ShloMosaic.Lib.WordCmp
@[expose] public section
set_option maxRecDepth 16384
noncomputable section
open Idealize.ShloMosaic Idealize.ShloMosaic.TcCoe Idealize.SL.Sem
open Cert.MlstmIdeal Cert.MlstmIdeal.Gen
namespace Cert.MlstmIdeal.Pay

/-- A select on "row word `x` is at most row word `t`" is an `if` on the rows. -/
theorem sel_le {n : ℕ} (hn : n ≤ 2 ^ 31) (x t : Fin n) (a b : EReal) :
    Scalar.select (IntOp.cmpi .sle (BitVec.ofNat 32 ↑x) (BitVec.ofNat 32 ↑t)) a b = if x ≤ t then a else b := by
  have hx : x.val < 2 ^ 31 := lt_of_lt_of_le x.isLt hn
  have ht : t.val < 2 ^ 31 := lt_of_lt_of_le t.isLt hn
  simp (disch := omega) only [hlo_ix]
  simp only [Fin.le_def, decide_eq_true_eq]

/-- A select on "row word `x` is row word `t`" is an `if` on the rows. -/
theorem sel_eq {n : ℕ} (hn : n ≤ 2 ^ 31) (x t : Fin n) (a b : EReal) :
    Scalar.select (IntOp.cmpi .eq (BitVec.ofNat 32 ↑x) (BitVec.ofNat 32 ↑t)) a b = if x = t then a else b := by
  have hx : x.val < 2 ^ 31 := lt_of_lt_of_le x.isLt hn
  have ht : t.val < 2 ^ 31 := lt_of_lt_of_le t.isLt hn
  simp (disch := omega) only [hlo_ix]
  simp only [Fin.ext_iff, decide_eq_true_eq]

/-- The pattern of minus infinity. -/
theorem ninf : Ideal.ofBits .f32 0xFF800000#32 = ⊥ := by simp [Ideal.ofBits, Ideal.ieee]

/-- An input-gate row of eight with its bias; the appended gates are ⊥. -/
abbrev gateI (g : Vec Ideal S1x1x1x8 .f32) (b : Elt Ideal .f32) : Fin 128 → EReal :=
  fun s => (if h : s.val < 8 then g (ix4 0 0 0 ⟨s.val, h⟩) else ⊥) + b

/-- A forget-gate row of eight with its bias; the appended gates are ⊤. -/
abbrev gateF (g : Vec Ideal S1x1x1x8 .f32) (b : Elt Ideal .f32) : Fin 128 → EReal :=
  fun s => (if h : s.val < 8 then g (ix4 0 0 0 ⟨s.val, h⟩) else ⊤) + b

/-- The rows of a block of eight, followed by rows of zeros. -/
abbrev rows {D : ℕ} (x : Vec Ideal ⟨2, ![8, D]⟩ .f32) : Fin 128 → Fin D → EReal :=
  fun t d => if h : t.val < 8 then x (ix2 ⟨t.val, h⟩ d) else 0

/-- The key rows, scaled. -/
abbrev keys (x : Vec Ideal S8x256 .f32) : Fin 128 → Fin 256 → EReal := fun t d => rows x t d * Ideal.ofBits .f32 0x3D800000#32

/-- The input-gate row as the body builds it. -/
theorem pay13_at (g : Vec Ideal S1x1x1x8 .f32) (b : Elt Ideal .f32) (s : Fin 128) :
    k0_pay13 (F := Ideal) g b (ix2 0 s) = gateI g b s := by
  pointwise [k0_pay13]
  exact congrArg (· + b) (dite_congr rfl (fun _ => rfl) fun _ => IdealRules.named_const.ideal_named_scalar (φ := .f32) κ "neg_big" 0xF149F2CA#32 ⊥ rfl)

/-- The forget-gate row as the body builds it. -/
theorem pay14_at (g : Vec Ideal S1x1x1x8 .f32) (b : Elt Ideal .f32) (s : Fin 128) :
    k0_pay14 (F := Ideal) g b (ix2 0 s) = gateF g b s := by
  pointwise [k0_pay14]
  exact congrArg (· + b) (dite_congr rfl (fun _ => rfl) fun _ => IdealRules.named_const.ideal_named_scalar (φ := .f32) κ "pos_big" 0x7149F2CA#32 ⊤ rfl)

/-- The column of summed log forget gates. -/
theorem pay16_at (g : Vec Ideal S1x1x1x8 .f32) (b : Elt Ideal .f32) (t : Fin 128) :
    k0_pay16 (F := Ideal) (k0_pay14 g b) (0 : EReal) (ix2 t 0) = Chunk.cum (gateF g b) t := by
  pointwise [k0_pay16, k0_pay15]
  simp only [sel_le (n := 128) (by norm_num), pay14_at]
  rfl

/-- The input gates as a column. -/
theorem pay17_at (g : Vec Ideal S1x1x1x8 .f32) (b : Elt Ideal .f32) (t : Fin 128) :
    k0_pay17 (F := Ideal) (k0_pay13 g b) (ix2 t 0) = gateI g b t := by
  pointwise [k0_pay17]
  simp only [sel_eq (n := 128) (by norm_num), Finset.sum_ite_eq, Finset.mem_univ, if_true, pay13_at]

/-- The log weights. -/
theorem pay19_at (gi gf : Vec Ideal S1x1x1x8 .f32) (bi bf : Elt Ideal .f32) (t s : Fin 128) :
    k0_pay19 (F := Ideal) (k0_pay13 gi bi) (k0_pay14 gf bf) (0 : EReal) (ix2 t s) = Chunk.ld (gateF gf bf) (gateI gi bi) t s := by
  pointwise [k0_pay19, k0_pay15]
  simp only [sel_le (n := 128) (by norm_num), sel_eq (n := 128) (by norm_num), Finset.sum_ite_eq', Finset.mem_univ, if_true,
    pay16_at, pay13_at, ninf]
  rfl

/-- The carried maximum with the summed gates. -/
theorem pay20_at (gf : Vec Ideal S1x1x1x8 .f32) (bf : Elt Ideal .f32) (m0 : Vec Ideal S1x1x1x1 .f32) (t : Fin 128) :
    k0_pay20 (F := Ideal) (k0_pay14 gf bf) (0 : EReal) m0 (ix2 t 0) = Chunk.cum (gateF gf bf) t + m0 (ix4 0 0 0 0) := by
  pointwise [k0_pay20, k0_pay18]
  simp only [pay16_at]

/-- The running maximum. -/
theorem pay22_at (gi gf : Vec Ideal S1x1x1x8 .f32) (bi bf : Elt Ideal .f32) (m0 : Vec Ideal S1x1x1x1 .f32) (t : Fin 128) :
    k0_pay22 (F := Ideal) (k0_pay20 (k0_pay14 gf bf) (0 : EReal) m0) (k0_pay21 (k0_pay13 gi bi) (k0_pay14 gf bf) (0 : EReal)) (ix2 t 0)
      = Chunk.mx (gateF gf bf) (gateI gi bi) (m0 (ix4 0 0 0 0)) t := by
  pointwise [k0_pay22, k0_pay21]
  simp only [pay20_at, pay19_at, ninf]
  rfl

/-- The query rows. -/
theorem pay10_at (q : Vec Ideal S8x256 .f32) (t : Fin 128) (d : Fin 256) : k0_pay10 (F := Ideal) q (ix2 t d) = rows q t d := by
  pointwise [k0_pay10]

/-- The key rows, scaled. -/
theorem pay11_at (k : Vec Ideal S8x256 .f32) (t : Fin 128) (d : Fin 256) : k0_pay11 (F := Ideal) k (ix2 t d) = keys k t d := by
  pointwise [k0_pay11]

/-- The value rows. -/
theorem pay12_at (v : Vec Ideal S8x512 .f32) (t : Fin 128) (d : Fin 512) : k0_pay12 (F := Ideal) v (ix2 t d) = rows v t d := by
  pointwise [k0_pay12]

/-- The stored output rows: the sigmoid of the output gate times the padded chunk's row. -/
theorem pay25_at (q k : Vec Ideal S8x256 .f32) (v og : Vec Ideal S8x512 .f32) (gi gf : Vec Ideal S1x1x1x8 .f32)
    (bi bf : Elt Ideal .f32) (c0 : Vec Ideal S1x1x256x512 .f32) (n0 : Vec Ideal S1x1x1x256 .f32) (m0 : Vec Ideal S1x1x1x1 .f32)
    (t : Fin 8) (j : Fin 512) :
    k0_pay25 (F := Ideal) (k0_pay10 q) (k0_pay11 k) (k0_pay12 v) (k0_pay19 (k0_pay13 gi bi) (k0_pay14 gf bf) (0 : EReal))
        (k0_pay20 (k0_pay14 gf bf) (0 : EReal) m0) (k0_pay21 (k0_pay13 gi bi) (k0_pay14 gf bf) (0 : EReal)) c0 n0 og (ix2 t j)
      = Ideal.logistic (og (ix2 t j)) * Chunk.hid (rows q) (keys k) (fun s => rows v s j) (gateF gf bf) (gateI gi bi)
          (fun d => c0 (ix4 0 0 d j)) (fun d => n0 (ix4 0 0 0 d)) (m0 (ix4 0 0 0 0)) (Fin.castLE (by norm_num) t) := by
  pointwise [k0_pay25, k0_pay24, k0_pay23]
  simp only [pay10_at, pay11_at, pay12_at, pay19_at, pay20_at, pay22_at]
  rfl

/-- The stored matrix. -/
theorem pay5_at (k : Vec Ideal S8x256 .f32) (v : Vec Ideal S8x512 .f32) (gi gf : Vec Ideal S1x1x1x8 .f32)
    (bi bf : Elt Ideal .f32) (c0 : Vec Ideal S1x1x256x512 .f32) (m0 : Vec Ideal S1x1x1x1 .f32) (d : Fin 256) (j : Fin 512) :
    k0_pay5 (F := Ideal) (k0_pay11 k) (k0_pay12 v) (k0_pay16 (k0_pay14 gf bf) (0 : EReal)) (k0_pay17 (k0_pay13 gi bi)) (k0_pay18 m0)
        (k0_pay22 (k0_pay20 (k0_pay14 gf bf) (0 : EReal) m0) (k0_pay21 (k0_pay13 gi bi) (k0_pay14 gf bf) (0 : EReal))) (k0_pay23 c0) (ix4 0 0 d j)
      = Chunk.cNew (fun s => keys k s d) (fun s => rows v s j) (gateF gf bf) (gateI gi bi) (c0 (ix4 0 0 d j)) (m0 (ix4 0 0 0 0)) 127 := by
  pointwise [k0_pay5, k0_pay4, k0_pay3, k0_pay2, k0_pay1, k0_pay18, k0_pay23]
  simp only [pay11_at, pay12_at, pay16_at, pay17_at, pay22_at]
  rfl

/-- The stored normalizer. -/
theorem pay6_at (k : Vec Ideal S8x256 .f32) (gi gf : Vec Ideal S1x1x1x8 .f32)
    (bi bf : Elt Ideal .f32) (n0 : Vec Ideal S1x1x1x256 .f32) (m0 : Vec Ideal S1x1x1x1 .f32) (d : Fin 256) :
    k0_pay6 (F := Ideal) (k0_pay11 k) (k0_pay16 (k0_pay14 gf bf) (0 : EReal)) (k0_pay17 (k0_pay13 gi bi)) (k0_pay18 m0)
        (k0_pay22 (k0_pay20 (k0_pay14 gf bf) (0 : EReal) m0) (k0_pay21 (k0_pay13 gi bi) (k0_pay14 gf bf) (0 : EReal))) (k0_pay24 n0) (ix4 0 0 0 d)
      = Chunk.nNew (fun s => keys k s d) (gateF gf bf) (gateI gi bi) (n0 (ix4 0 0 0 d)) (m0 (ix4 0 0 0 0)) 127 := by
  pointwise [k0_pay6, k0_pay4, k0_pay3, k0_pay2, k0_pay1, k0_pay18, k0_pay24]
  simp only [pay11_at, pay16_at, pay17_at, pay22_at]
  rfl

/-- The stored maximum: the last row's. -/
theorem pay7_at (gi gf : Vec Ideal S1x1x1x8 .f32) (bi bf : Elt Ideal .f32) (m0 : Vec Ideal S1x1x1x1 .f32) (l : Fin 128) :
    k0_pay7 (F := Ideal) (k0_pay22 (k0_pay20 (k0_pay14 gf bf) (0 : EReal) m0) (k0_pay21 (k0_pay13 gi bi) (k0_pay14 gf bf) (0 : EReal))) (ix4 0 0 0 l)
      = Chunk.mx (gateF gf bf) (gateI gi bi) (m0 (ix4 0 0 0 0)) 127 := by
  pointwise [k0_pay7, k0_pay1]
  exact pay22_at gi gf bi bf m0 127

end Cert.MlstmIdeal.Pay
-- ==== Proof.MlstmSpec.lean ====
/- The mLSTM call's four results as functions of its arguments: the chunk of `Cert.Chunk` at the eight tokens of each
   sequence, for each head. -/
module
public import proofs.«01_k».proof.Proof.Chunk
@[expose] public section
noncomputable section
open Idealize.ShloMosaic
namespace Cert.Spec

variable (U : FVec Ideal ⟨2, ![64, 9216]⟩ .f32) (G : FVec Ideal ⟨2, ![12, 64]⟩ .f32) (B : FVec Ideal ⟨1, ![12]⟩ .f32)
  (C0 : FVec Ideal ⟨4, ![8, 6, 256, 512]⟩ .f32) (N0 : FVec Ideal ⟨3, ![8, 6, 256]⟩ .f32) (M0 : FVec Ideal ⟨2, ![8, 6]⟩ .f32)

/-- The row of token `t` of sequence `b`. -/
abbrev row (b : Fin 8) (t : Fin 8) : Fin 64 := ⟨8 * b.val + t.val, by omega⟩

/-- The queries of sequence `b`, head `h`. -/
def q (b : Fin 8) (h : Fin 6) (t : Fin 8) (d : Fin 256) : EReal := U (ix2 (row b t) ⟨256 * h.val + d.val, by omega⟩)

/-- The keys, scaled by the power of two `256 ^ (-1/2)`. -/
def k (b : Fin 8) (h : Fin 6) (t : Fin 8) (d : Fin 256) : EReal :=
  U (ix2 (row b t) ⟨1536 + (256 * h.val + d.val), by omega⟩) * Ideal.ofBits .f32 0x3D800000#32

/-- The values. -/
def v (b : Fin 8) (h : Fin 6) (t : Fin 8) (j : Fin 512) : EReal := U (ix2 (row b t) ⟨3072 + (512 * h.val + j.val), by omega⟩)

/-- The output gates. -/
def og (b : Fin 8) (h : Fin 6) (t : Fin 8) (j : Fin 512) : EReal := U (ix2 (row b t) ⟨6144 + (512 * h.val + j.val), by omega⟩)

/-- The input gates with their bias. -/
def ig (b : Fin 8) (h : Fin 6) (s : Fin 8) : EReal := G (ix2 ⟨h.val, by omega⟩ (row b s)) + B (ix1 ⟨h.val, by omega⟩)

/-- The forget gates with their bias. -/
def fg (b : Fin 8) (h : Fin 6) (s : Fin 8) : EReal := G (ix2 ⟨6 + h.val, by omega⟩ (row b s)) + B (ix1 ⟨6 + h.val, by omega⟩)

/-- One element of the token mixer's output. -/
def tok (b : Fin 8) (h : Fin 6) (t : Fin 8) (j : Fin 512) : EReal :=
  Ideal.logistic (og U b h t j) * Chunk.hid (q U b h) (k U b h) (fun s => v U b h s j) (fg G B b h) (ig G B b h)
    (fun d => C0 (ix4 b h d j)) (fun d => N0 (ix3 b h d)) (M0 (ix2 b h)) t

/-- One element of the matrix carried on. -/
def c (b : Fin 8) (h : Fin 6) (d : Fin 256) (j : Fin 512) : EReal :=
  Chunk.cNew (fun s => k U b h s d) (fun s => v U b h s j) (fg G B b h) (ig G B b h) (C0 (ix4 b h d j)) (M0 (ix2 b h)) 7

/-- One element of the normalizer carried on. -/
def n (b : Fin 8) (h : Fin 6) (d : Fin 256) : EReal :=
  Chunk.nNew (fun s => k U b h s d) (fg G B b h) (ig G B b h) (N0 (ix3 b h d)) (M0 (ix2 b h)) 7

/-- The maximum carried on. -/
def m (b : Fin 8) (h : Fin 6) : EReal := Chunk.mx (fg G B b h) (ig G B b h) (M0 (ix2 b h)) 7

/-- The rows of all sequences, heads side by side. -/
def tokArr : FVec Ideal ⟨2, ![64, 3072]⟩ .f32 := fun i =>
  tok U G B C0 N0 M0 ⟨(i 0).val / 8, by have : (i 0).val < 64 := (i 0).isLt; omega⟩ ⟨(i 1).val / 512, by have : (i 1).val < 3072 := (i 1).isLt; omega⟩
    ⟨(i 0).val % 8, by omega⟩ ⟨(i 1).val % 512, by omega⟩

/-- The matrices. -/
def cArr : FVec Ideal ⟨4, ![8, 6, 256, 512]⟩ .f32 := fun i => c U G B C0 M0 (i 0) (i 1) (i 2) (i 3)

/-- The normalizers. -/
def nArr : FVec Ideal ⟨4, ![8, 6, 1, 256]⟩ .f32 := fun i => n U G B N0 M0 (i 0) (i 1) (i 3)

/-- The maxima, along the last axis. -/
def mArr : FVec Ideal ⟨4, ![8, 6, 1, 128]⟩ .f32 := fun i => m G B M0 (i 0) (i 1)

/-! ## The same, padded to 128 rows -/

/-- The input gates with ⊥ appended, then the bias. -/
abbrev igP (b : Fin 8) (h : Fin 6) : Fin 128 → EReal := fun s =>
  (if hs : s.val < 8 then G (ix2 ⟨h.val, by omega⟩ (row b ⟨s.val, hs⟩)) else ⊥) + B (ix1 ⟨h.val, by omega⟩)

/-- The forget gates with ⊤ appended, then the bias. -/
abbrev fgP (b : Fin 8) (h : Fin 6) : Fin 128 → EReal := fun s =>
  (if hs : s.val < 8 then G (ix2 ⟨6 + h.val, by omega⟩ (row b ⟨s.val, hs⟩)) else ⊤) + B (ix1 ⟨6 + h.val, by omega⟩)

/-- The appended gates are a padding of the chunk, whatever the bias. -/
theorem padded (b : Fin 8) (h : Fin 6) : Chunk.Padded (by norm_num : 8 ≤ 128) (fg G B b h) (ig G B b h) (fgP G B b h) (igP G B b h) where
  fst s := by simp only [fgP, Fin.val_castLE, s.isLt, dif_pos]; rfl
  ins s := by simp only [igP, Fin.val_castLE, s.isLt, dif_pos]; rfl
  late s hs := by simp only [igP, dif_neg (not_lt.mpr hs), EReal.bot_add]
  open_ := by
    by_cases hb : B (ix1 ⟨6 + h.val, by omega⟩) = ⊥
    · right; intro s; unfold fg; rw [hb, EReal.add_bot]
    · left; intro s hs; simp only [fgP, dif_neg (not_lt.mpr hs)]; exact EReal.top_add_of_ne_bot hb

end Cert.Spec
-- ==== Proof.MlstmArr.lean ====
/- The four arrays the mLSTM kernel leaves, as functions of its arguments: every grid point's stored blocks, read back. -/
module
public import proofs.«01_k».proof.Proof.Gen.MlstmIdeal.Value
public import proofs.«01_k».proof.Proof.MlstmPay
public import proofs.«01_k».proof.Proof.MlstmSpec
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.MlstmIdeal Cert.MlstmIdeal.Gen
namespace Cert.MlstmIdeal.Arr
variable (m : (ℓ : Loc nD τ sig) → Buf (Elt Ideal) ℓ)

/-- Where every window sits at grid point `t`: sequence `t / 6`, head `t % 6`. -/
theorem idx : ∀ t : Fin cfg0.N, win0_1.index t = ![t.val / 6, t.val % 6] ∧ win0_2.index t = ![t.val / 6, 6 + t.val % 6]
  ∧ win0_3.index t = ![t.val / 6, 6 + t.val % 6] ∧ win0_4.index t = ![t.val / 6, 12 + t.val % 6]
  ∧ win0_5.index t = ![t.val % 6, t.val / 6, 0, 0] ∧ win0_6.index t = ![t.val % 6, t.val / 6, 0, 0]
  ∧ win0_7.index t = ![t.val / 6, t.val % 6, 0, 0] ∧ win0_8.index t = ![t.val / 6, t.val % 6, 0, 0]
  ∧ win0_9.index t = ![t.val / 6, t.val % 6, 0, 0] ∧ win0_10.index t = ![t.val / 6, t.val % 6]
  ∧ win0_11.index t = ![t.val / 6, t.val % 6, 0, 0] ∧ win0_12.index t = ![t.val / 6, t.val % 6, 0, 0]
  ∧ win0_13.index t = ![t.val / 6, t.val % 6, 0, 0] ∧ win0_0.index t = ![0] :=
  (by decide +kernel : ∀ t : Fin grid0.N, _)

/-- The two bias words a point reads: its head's input and forget gate. -/
theorem offs : ∀ t : Fin cfg0.N, k0_off1 (grid0.coords t) = ![t.val % 6] ∧ k0_off2 (grid0.coords t) = ![6 + t.val % 6]
    ∧ t.val / 6 < 8 ∧ t.val % 6 < 6 :=
  (by decide +kernel : ∀ t : Fin grid0.N, _)

/-- The sequence of point `t`. -/
abbrev sq (t : Fin cfg0.N) : Fin 8 := ⟨t.val / 6, (offs t).2.2.1⟩

/-- The head of point `t`. -/
abbrev hd (t : Fin cfg0.N) : Fin 6 := ⟨t.val % 6, (offs t).2.2.2⟩

variable (c : Dev nD)

/-- The projections. -/
abbrev U : FVec Ideal S64x9216 .f32 := m ((c : Thread nD τ).loc main_arg0)
/-- The gate projections, transposed. -/
abbrev G : FVec Ideal S12x64 .f32 := m ((c : Thread nD τ).loc main_arg1)
/-- The gates' bias. -/
abbrev B : FVec Ideal S12 .f32 := m ((c : Thread nD τ).loc main_arg2)
/-- The carried matrices. -/
abbrev C0 : FVec Ideal S8x6x256x512 .f32 := m ((c : Thread nD τ).loc main_arg3)
/-- The carried normalizers. -/
abbrev N0 : FVec Ideal S8x6x256 .f32 := m ((c : Thread nD τ).loc main_arg4)
/-- The carried maxima. -/
abbrev M0 : FVec Ideal S8x6 .f32 := m ((c : Thread nD τ).loc main_arg5)

/-- The query block. -/
theorem blk1 (t : Fin cfg0.N) (a : Fin 8) (d : Fin 256) : iblk m c 1 t (ix2 a d) = Spec.q (U m c) (sq t) (hd t) a d := by
  unfold Spec.q; blk_ext [iblk, V, idx t]

/-- The key block. -/
abbrev x2 (t : Fin cfg0.N) : Vec Ideal S8x256 .f32 := iblk m c 2 t

/-- The key block, scaled. -/
theorem blk2 (t : Fin cfg0.N) (a : Fin 8) (d : Fin 256) :
    x2 m c t (ix2 a d) * Ideal.ofBits .f32 0x3D800000#32 = Spec.k (U m c) (sq t) (hd t) a d := by
  unfold Spec.k; refine congrArg (fun x : EReal => x * _) ?_; unfold x2; blk_ext [iblk, V, idx t]

/-- The value block. -/
theorem blk3 (t : Fin cfg0.N) (a : Fin 8) (j : Fin 512) : iblk m c 3 t (ix2 a j) = Spec.v (U m c) (sq t) (hd t) a j := by
  unfold Spec.v; blk_ext [iblk, V, idx t]

/-- The output-gate block. -/
theorem blk4 (t : Fin cfg0.N) (a : Fin 8) (j : Fin 512) : iblk m c 4 t (ix2 a j) = Spec.og (U m c) (sq t) (hd t) a j := by
  unfold Spec.og; blk_ext [iblk, V, idx t]

/-- The input-gate block. -/
theorem blk5 (t : Fin cfg0.N) (s : Fin 8) :
    iblk m c 5 t (ix4 0 0 0 s) = G m c (ix2 ⟨(hd t).val, by omega⟩ (Spec.row (sq t) s)) := by
  blk_simp [iblk]
  entry_read
  pointwise
  blk_ext [idx t]

/-- The forget-gate block. -/
theorem blk6 (t : Fin cfg0.N) (s : Fin 8) :
    iblk m c 6 t (ix4 0 0 0 s) = G m c (ix2 ⟨6 + (hd t).val, by omega⟩ (Spec.row (sq t) s)) := by
  blk_simp [iblk]
  entry_read
  pointwise
  blk_ext [idx t]

/-- The block of the carried matrix. -/
theorem blk7 (t : Fin cfg0.N) (d : Fin 256) (j : Fin 512) : iblk m c 7 t (ix4 0 0 d j) = C0 m c (ix4 (sq t) (hd t) d j) := by
  blk_ext [iblk, V, idx t]

/-- The block of the carried normalizer. -/
theorem blk8 (t : Fin cfg0.N) (d : Fin 256) : iblk m c 8 t (ix4 0 0 0 d) = N0 m c (ix3 (sq t) (hd t) d) := by
  blk_simp [iblk]
  entry_read
  pointwise
  blk_ext [idx t]

/-- The block of the carried maximum. -/
theorem blk9 (t : Fin cfg0.N) (s : Fin 128) : iblk m c 9 t (ix4 0 0 0 s) = M0 m c (ix2 (sq t) (hd t)) := by
  blk_simp [iblk]
  entry_read
  pointwise
  blk_ext [idx t]

/-- The input gate's bias word. -/
abbrev bi (t : Fin cfg0.N) (h : 0 < (Rect.unit (s := S12) (k0_off1 (grid0.coords t)) ![1] (k0_off1_inb (grid0.coords t))).shape.numel) : Elt Ideal .f32 :=
  View.ld (iblk m c 0 t : Vec Ideal S12 .f32) (Rect.unit (k0_off1 (grid0.coords t)) ![1] (k0_off1_inb (grid0.coords t))) (Shape.Idx.first h)

/-- The forget gate's bias word. -/
abbrev bf (t : Fin cfg0.N) (h : 0 < (Rect.unit (s := S12) (k0_off2 (grid0.coords t)) ![1] (k0_off2_inb (grid0.coords t))).shape.numel) : Elt Ideal .f32 :=
  View.ld (iblk m c 0 t : Vec Ideal S12 .f32) (Rect.unit (k0_off2 (grid0.coords t)) ![1] (k0_off2_inb (grid0.coords t))) (Shape.Idx.first h)

/-- The input gate's bias word. -/
theorem bi_eq (t : Fin cfg0.N) (h) : bi m c t h = B m c (ix1 ⟨(hd t).val, by omega⟩) := by
  show View.ld (iblk m c 0 t : Vec Ideal S12 .f32) _ _ = _
  blk_simp [iblk, View.ld]
  rw [V_main_arg2]
  congr 1
  funext a
  have ha : a = (0 : Fin 1) := Subsingleton.elim (α := Fin 1) _ _
  subst ha
  apply Fin.ext
  blk_simp [idx t]
  show (k0_off1 (grid0.coords t)) 0 + 1 * 0 = _
  rw [(offs t).1]; rfl

/-- The forget gate's bias word. -/
theorem bf_eq (t : Fin cfg0.N) (h) : bf m c t h = B m c (ix1 ⟨6 + (hd t).val, by omega⟩) := by
  show View.ld (iblk m c 0 t : Vec Ideal S12 .f32) _ _ = _
  blk_simp [iblk, View.ld]
  rw [V_main_arg2]
  congr 1
  funext a
  have ha : a = (0 : Fin 1) := Subsingleton.elim (α := Fin 1) _ _
  subst ha
  apply Fin.ext
  blk_simp [idx t]
  show (k0_off2 (grid0.coords t)) 0 + 1 * 0 = _
  rw [(offs t).2.1]; rfl

/-- The carried maximum, read back from the block it was copied to. -/
abbrev mc (t : Fin cfg0.N) : Vec Ideal S1x1x1x1 .f32 := (ms0_13 t).view.readCov
  [⟨Rect.unit ![0, 0, 0, 0] ![1, 1, 1, 128] inb_S1x1x1x128_S1x1x1x128_0_0_0_0, k0_pay9 (F := Ideal) (iblk m c 9 t)⟩]
  (Rect.unit ![0, 0, 0, 0] ![1, 1, 1, 1] inb_S1x1x1x128_S1x1x1x1_0_0_0_0).toLoadRect

/-- The carried maximum is that of the point's sequence and head. -/
theorem mc_eq (t : Fin cfg0.N) : mc m c t (ix4 0 0 0 0) = M0 m c (ix2 (sq t) (hd t)) := by
  have := congrFun (View.readCov_fill (Val := Elt Ideal) (ms0_13 t).view inb_S1x1x1x128_S1x1x1x128_0_0_0_0 (k0_pay9 (F := Ideal) (iblk m c 9 t)) []
     (Rect.unit ![0, 0, 0, 0] ![1, 1, 1, 1] inb_S1x1x1x128_S1x1x1x1_0_0_0_0) (by intro a; fin_cases a <;> rfl)) (ix4 0 0 0 0)
  refine this.trans (Eq.trans ?_ (blk9 m c t 0))
  pointwise [View.ld, k0_pay9]
  blk_ext

/-- The padded input gates. -/
theorem gateI_eq (t : Fin cfg0.N) (h) : Pay.gateI (iblk m c 5 t) (bi m c t h) = Spec.igP (G m c) (B m c) (sq t) (hd t) := by
  funext s
  exact congrArg₂ (fun x y : EReal => x + y) (dite_congr rfl (fun hs => blk5 m c t ⟨s.val, hs⟩) fun _ => rfl) (bi_eq m c t h)

/-- The padded forget gates. -/
theorem gateF_eq (t : Fin cfg0.N) (h) : Pay.gateF (iblk m c 6 t) (bf m c t h) = Spec.fgP (G m c) (B m c) (sq t) (hd t) := by
  funext s
  exact congrArg₂ (fun x y : EReal => x + y) (dite_congr rfl (fun hs => blk6 m c t ⟨s.val, hs⟩) fun _ => rfl) (bf_eq m c t h)

/-- The query rows. -/
theorem rows1 (t : Fin cfg0.N) (s : Fin 8) : Pay.rows (D := 256) (iblk m c 1 t) (Fin.castLE (by norm_num : 8 ≤ 128) s) = Spec.q (U m c) (sq t) (hd t) s := by
  funext d
  exact (dif_pos s.isLt).trans (blk1 m c t s d)

/-- The key rows. -/
theorem keys2 (t : Fin cfg0.N) (s : Fin 8) : Pay.keys (iblk m c 2 t) (Fin.castLE (by norm_num : 8 ≤ 128) s) = Spec.k (U m c) (sq t) (hd t) s := by
  funext d
  exact (congrArg (fun x : EReal => x * _) (dif_pos s.isLt)).trans (blk2 m c t s d)

/-- The value rows. -/
theorem rows3 (t : Fin cfg0.N) (s : Fin 8) (j : Fin 512) :
    Pay.rows (D := 512) (iblk m c 3 t) (Fin.castLE (by norm_num : 8 ≤ 128) s) j = Spec.v (U m c) (sq t) (hd t) s j := by
  exact (dif_pos s.isLt).trans (blk3 m c t s j)

/-- The constant zero. -/
theorem hz : (FloatOps.ofBits (F := Ideal) FTy.f32 0#32) = (0 : EReal) := by
  show Ideal.ofBits .f32 0#32 = 0
  simp [Ideal.ofBits, Ideal.ieee]

/-- Seven is the greatest of eight rows. -/
theorem le7 : ∀ s : Fin 8, s ≤ 7 := by decide
/-- 127 is the greatest of 128 rows. -/
theorem le127 : ∀ s : Fin 128, s ≤ 127 := by decide

/-- The copied normalizer is the normalizer. -/
theorem pay8_at (x : Vec Ideal S1x1x1x256 .f32) (d : Fin 256) : k0_pay8 (F := Ideal) x (ix4 0 0 0 d) = x (ix4 0 0 0 d) := by
  pointwise [k0_pay8]

/-- The stored block of the output rows, in the whole array. -/
theorem tok_at (t : Fin cfg0.N) (a : Fin 8) (j : Fin 512) :
    Spec.tokArr (U m c) (G m c) (B m c) (C0 m c) (N0 m c) (M0 m c) (((View.whole main_v7_0).slice (win0_10.rect t)).emb (ix2 a j))
      = Spec.tok (U m c) (G m c) (B m c) (C0 m c) (N0 m c) (M0 m c) (sq t) (hd t) a j := by
  have h0 : ((((View.whole main_v7_0).slice (win0_10.rect t)).emb (ix2 a j)) 0).val = 8 * (t.val / 6) + a.val := by
    blk_simp [idx t]; omega
  have h1 : ((((View.whole main_v7_0).slice (win0_10.rect t)).emb (ix2 a j)) 1).val = 512 * (t.val % 6) + j.val := by
    blk_simp [idx t]; omega
  unfold Spec.tokArr
  congr 1 <;> apply Fin.ext
  · exact (congrArg (· / 8) h0).trans (by show (8 * (t.val / 6) + a.val) / 8 = t.val / 6; omega)
  · exact (congrArg (· / 512) h1).trans (by show (512 * (t.val % 6) + j.val) / 512 = t.val % 6; omega)
  · exact (congrArg (· % 8) h0).trans (by show (8 * (t.val / 6) + a.val) % 8 = a.val; omega)
  · exact (congrArg (· % 512) h1).trans (by show (512 * (t.val % 6) + j.val) % 512 = j.val; omega)

/-- The output rows after the run. -/
theorem final10 : (dats m 0 c).arrAt 10 (cfgs 0).N = Spec.tokArr (U m c) (G m c) (B m c) (C0 m c) (N0 m c) (M0 m c) := by
  refine (dats m 0 c).arrAt_eq_of_covers 10 _ (by decide +kernel) fun t _ y => ?_
  blk_simp
  rw [after0_10]; unfold outsAt0; frame_out
  idx_vars y
  rw [hz]
  refine Eq.trans ?_ (tok_at m c t y0 y1).symm
  refine (Pay.pay25_at (iblk m c 1 t) (iblk m c 2 t) (iblk m c 3 t) (iblk m c 4 t) (iblk m c 5 t) (iblk m c 6 t) (bi m c t _) (bf m c t _)
    (iblk m c 7 t) (k0_pay8 (iblk m c 8 t)) (mc m c t) y0 y1).trans ?_
  rw [gateI_eq, gateF_eq, mc_eq, (Spec.padded _ _ _ _).hid (rows1 m c t) (keys2 m c t) _ _ (fun s => rows3 m c t s y1)]
  unfold Spec.tok
  refine congrArg₂ (fun x y : EReal => Ideal.logistic x * y) (blk4 m c t y0 y1) ?_
  congr 1
  · funext d; exact blk7 m c t d y1
  · funext d; exact (pay8_at _ d).trans (blk8 m c t d)

/-- The stored matrix, in the whole array. -/
theorem c_at (t : Fin cfg0.N) (d : Fin 256) (j : Fin 512) :
    Spec.cArr (U m c) (G m c) (B m c) (C0 m c) (M0 m c) (((View.whole main_v7_1).slice (win0_11.rect t)).emb (ix4 0 0 d j))
      = Spec.c (U m c) (G m c) (B m c) (C0 m c) (M0 m c) (sq t) (hd t) d j := by
  unfold Spec.cArr
  congr 1 <;> apply Fin.ext <;> (blk_simp [idx t]; try first | omega | rfl)

/-- The matrices after the run. -/
theorem final11 : (dats m 0 c).arrAt 11 (cfgs 0).N = Spec.cArr (U m c) (G m c) (B m c) (C0 m c) (M0 m c) := by
  refine (dats m 0 c).arrAt_eq_of_covers 11 _ (by decide +kernel) fun t _ y => ?_
  blk_simp
  rw [after0_11]; frame_out
  idx_vars y
  obtain rfl : y0 = 0 := Subsingleton.elim _ _
  obtain rfl : y1 = 0 := Subsingleton.elim _ _
  rw [hz]
  refine Eq.trans ?_ (c_at m c t y2 y3).symm
  refine (Pay.pay5_at (iblk m c 2 t) (iblk m c 3 t) (iblk m c 5 t) (iblk m c 6 t) (bi m c t _) (bf m c t _)
    (iblk m c 7 t) (mc m c t) y2 y3).trans ?_
  rw [gateI_eq, gateF_eq, mc_eq, (Spec.padded _ _ _ _).cNew _ 7 127 le7 le127 _ _ _ _
    (fun s => congrFun (keys2 m c t s) y2) (fun s => rows3 m c t s y3)]
  unfold Spec.c
  congr 1
  exact blk7 m c t y2 y3

/-- The stored normalizer, in the whole array. -/
theorem n_at (t : Fin cfg0.N) (d : Fin 256) :
    Spec.nArr (U m c) (G m c) (B m c) (N0 m c) (M0 m c) (((View.whole main_v7_2).slice (win0_12.rect t)).emb (ix4 0 0 0 d))
      = Spec.n (U m c) (G m c) (B m c) (N0 m c) (M0 m c) (sq t) (hd t) d := by
  unfold Spec.nArr
  congr 1 <;> apply Fin.ext <;> (blk_simp [idx t]; try first | omega | rfl)

/-- The normalizers after the run. -/
theorem final12 : (dats m 0 c).arrAt 12 (cfgs 0).N = Spec.nArr (U m c) (G m c) (B m c) (N0 m c) (M0 m c) := by
  refine (dats m 0 c).arrAt_eq_of_covers 12 _ (by decide +kernel) fun t _ y => ?_
  blk_simp
  rw [after0_12]; frame_out
  idx_vars y
  obtain rfl : y0 = 0 := Subsingleton.elim _ _
  obtain rfl : y1 = 0 := Subsingleton.elim _ _
  obtain rfl : y2 = 0 := Subsingleton.elim _ _
  rw [hz]
  refine Eq.trans ?_ (n_at m c t y3).symm
  refine (Pay.pay6_at (iblk m c 2 t) (iblk m c 5 t) (iblk m c 6 t) (bi m c t _) (bf m c t _)
    (k0_pay8 (iblk m c 8 t)) (mc m c t) y3).trans ?_
  rw [gateI_eq, gateF_eq, mc_eq, (Spec.padded _ _ _ _).nNew _ 7 127 le7 le127 _ _
    (fun s => congrFun (keys2 m c t s) y3)]
  unfold Spec.n
  congr 1
  exact (pay8_at _ y3).trans (blk8 m c t y3)

/-- The stored maximum, in the whole array. -/
theorem m_at (t : Fin cfg0.N) (l : Fin 128) :
    Spec.mArr (G m c) (B m c) (M0 m c) (((View.whole main_v7_3).slice (win0_13.rect t)).emb (ix4 0 0 0 l))
      = Spec.m (G m c) (B m c) (M0 m c) (sq t) (hd t) := by
  unfold Spec.mArr
  congr 1 <;> apply Fin.ext <;> (blk_simp [idx t]; try first | omega | rfl)

/-- The maxima after the run. -/
theorem final13 : (dats m 0 c).arrAt 13 (cfgs 0).N = Spec.mArr (G m c) (B m c) (M0 m c) := by
  refine (dats m 0 c).arrAt_eq_of_covers 13 _ (by decide +kernel) fun t _ y => ?_
  blk_simp
  rw [after0_13]; frame_out
  idx_vars y
  obtain rfl : y0 = 0 := Subsingleton.elim _ _
  obtain rfl : y1 = 0 := Subsingleton.elim _ _
  obtain rfl : y2 = 0 := Subsingleton.elim _ _
  rw [hz]
  refine Eq.trans ?_ (m_at m c t y3).symm
  refine (Pay.pay7_at (iblk m c 5 t) (iblk m c 6 t) (bi m c t _) (bf m c t _) (mc m c t) y3).trans ?_
  rw [gateI_eq, gateF_eq, mc_eq, (Spec.padded _ _ _ _).mx_last _ 7 127 le7 le127]
  rfl

end Cert.MlstmIdeal.Arr
-- ==== Proof.MlstmRef.lean ====
/- The reference's four results are the arrays of `Cert.Spec`. -/
module
public import proofs.«01_k».proof.Proof.MlstmSpec
public import proofs.«01_k».proof.Proof.Gen.MlstmRefIdeal.Read
public import Idealize.ShloMosaic.Lib.Pipeline.ValueKit
public import Idealize.ShloMosaic.Lib.WordCmp
public import Idealize.ShloMosaic.Lib.IdealHost
@[expose] public section
set_option maxRecDepth 16384
noncomputable section
open Idealize.ShloMosaic Cert.MlstmRefIdeal Cert.MlstmRefIdeal.Gen Cert.MlstmRefIdeal.Read
namespace Cert.MlstmRefIdeal.Ref

/-! ## The running sum -/

/-- A fold of additions is the starting value plus the sum. -/
theorem foldl_add {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The indices of a window of eight along the last of three axes. -/
def win : (⟨3, ![1, 1, 8]⟩ : Shape).Idx ≃ Fin 8 where
  toFun q := q 2
  invFun w := ix3 (0 : Fin 1) (0 : Fin 1) w
  left_inv q := funext fun a => by
    match a with
    | ⟨0, _⟩ => exact Subsingleton.elim (α := Fin 1) _ _
    | ⟨1, _⟩ => exact Subsingleton.elim (α := Fin 1) _ _
    | ⟨2, _⟩ => rfl
  right_inv w := rfl

/-- A running sum along the last axis: the entries up to and including `t`. -/
theorem cumsum_at (x : FVec Ideal S8x6x8 .f32) (init : FVec Ideal S_ .f32) (h0 : ∀ i, init i = (0 : EReal))
    (b : Fin 8) (h : Fin 6) (t : Fin 8) :
    Host.reduceWindowAdd ![1, 1, 8] ![1, 1, 1] ![0, 0, 7] ![0, 0, 0] x init
        reduceWindows_S8x6x8_S8x6x8_w1s1p0_0_w1s1p0_0_w8s1p7_0 h_S_ (ix3 b h t)
      = ∑ s, if s ≤ t then x (ix3 b h s) else 0 := by
  have hw : ∀ w : Fin 8, (∀ a : Fin 3, (![0, 0, 7] : Fin 3 → ℕ) a ≤ ((ix3 b h t : S8x6x8.Idx) a).val * (![1, 1, 1] : Fin 3 → ℕ) a + ((win.symm w) a).val
      ∧ ((ix3 b h t : S8x6x8.Idx) a).val * (![1, 1, 1] : Fin 3 → ℕ) a + ((win.symm w) a).val - (![0, 0, 7] : Fin 3 → ℕ) a < S8x6x8.size a) ↔ 7 ≤ t.val + w.val := by
    intro w
    constructor
    · intro q
      have := (q 2).1
      change 7 ≤ t.val * 1 + w.val at this
      omega
    · intro q a
      match a with
      | ⟨0, _⟩ => show 0 ≤ b.val * 1 + 0 ∧ b.val * 1 + 0 - 0 < 8; omega
      | ⟨1, _⟩ => show 0 ≤ h.val * 1 + 0 ∧ h.val * 1 + 0 - 0 < 6; omega
      | ⟨2, _⟩ => show 7 ≤ t.val * 1 + w.val ∧ t.val * 1 + w.val - 7 < 8; omega
  unfold Host.reduceWindowAdd
  rw [Ideal.hostReduceWindowAdd_def]
  unfold Ideal.hostReduceWindowAdd Host.reduceWindow
  dsimp only [Fin.cast_eq_self]
  refine (foldl_add _ _ _).trans ?_
  rw [← Fin.sum_univ_def, h0, zero_add]
  refine (Finset.sum_congr rfl fun n _ => ?_).trans ((Equiv.sum_comp (Shape.rowMajor ⟨3, ![1, 1, 8]⟩).symm (fun q => if hin : ∀ a : Fin 3, (![0, 0, 7] : Fin 3 → ℕ) a ≤ ((ix3 b h t : S8x6x8.Idx) a).val * (![1, 1, 1] : Fin 3 → ℕ) a + (q a).val
      ∧ ((ix3 b h t : S8x6x8.Idx) a).val * (![1, 1, 1] : Fin 3 → ℕ) a + (q a).val - (![0, 0, 7] : Fin 3 → ℕ) a < S8x6x8.size a
      then x (fun a => ⟨_, (hin a).2⟩) else (0 : EReal))).trans ?_)
  · congr
  rw [← Equiv.sum_comp win.symm]
  have step : ∀ w : Fin 8, (if hin : ∀ a : Fin 3, (![0, 0, 7] : Fin 3 → ℕ) a ≤ ((ix3 b h t : S8x6x8.Idx) a).val * (![1, 1, 1] : Fin 3 → ℕ) a + ((win.symm w) a).val
      ∧ ((ix3 b h t : S8x6x8.Idx) a).val * (![1, 1, 1] : Fin 3 → ℕ) a + ((win.symm w) a).val - (![0, 0, 7] : Fin 3 → ℕ) a < S8x6x8.size a
      then x (fun a => ⟨_, (hin a).2⟩) else (0 : EReal))
      = if hq : 7 ≤ t.val + w.val then x (ix3 b h ⟨t.val + w.val - 7, by omega⟩) else 0 := by
    intro w
    by_cases hq : 7 ≤ t.val + w.val
    · rw [dif_pos ((hw w).2 hq), dif_pos hq]
      refine congrArg x (funext fun a => Fin.ext ?_)
      match a with
      | ⟨0, _⟩ => show b.val * 1 + 0 - 0 = b.val; omega
      | ⟨1, _⟩ => show h.val * 1 + 0 - 0 = h.val; omega
      | ⟨2, _⟩ => show t.val * 1 + w.val - 7 = t.val + w.val - 7; omega
    · rw [dif_neg (fun z => hq ((hw w).1 z)), dif_neg hq]
  rw [Finset.sum_congr rfl fun w _ => step w]
  generalize hy : (fun s => x (ix3 b h s)) = y
  have e : ∀ s, x (ix3 b h s) = y s := fun s => congrFun hy s
  simp only [e]
  fin_cases t <;> simp [Fin.sum_univ_eight, Fin.le_def]

/-! ## The log sigmoid -/

/-- `-softplus (-x)` as it is printed is `log (sigmoid x)` in its other form. -/
theorem lsg_eq (x : EReal) : -(max (-x) 0 + Ideal.log1p (Ideal.exp (-(max (-x) (- -x))))) = Chunk.lsg x := by
  unfold Chunk.lsg
  rw [neg_neg, max_comm (-x) x, zero_sub]
  have hl : ∃ r : ℝ, Ideal.log1p (Ideal.exp (-(max x (-x)))) = (r : EReal) := by
    have h1 : Ideal.log1p 0 = ((Real.log 1 : ℝ) : EReal) := by
      unfold Ideal.log1p
      rw [add_zero]
      show (if (1:ℝ) ≤ 0 then ⊥ else ((Real.log 1 : ℝ) : EReal)) = _
      rw [if_neg (by norm_num)]
    induction x with
    | bot => exact ⟨_, h1⟩
    | top => exact ⟨_, h1⟩
    | coe a =>
      refine ⟨Real.log (1 + Real.exp (-(max a (-a)))), ?_⟩
      have e1 : max (a : EReal) (-(a : EReal)) = ((max a (-a) : ℝ) : EReal) := by
        rw [← EReal.coe_neg]; exact (EReal.coe_strictMono.monotone.map_max).symm
      rw [e1, ← EReal.coe_neg]
      show Ideal.log ((1 : EReal) + ((Real.exp (-(max a (-a))) : ℝ) : EReal)) = _
      rw [← EReal.coe_one, ← EReal.coe_add]
      show (if _ ≤ (0:ℝ) then ⊥ else _) = _
      rw [if_neg (not_le.mpr (by positivity))]
  obtain ⟨r, hr⟩ := hl
  rw [hr, EReal.neg_add (Or.inr (EReal.coe_ne_top r)) (Or.inr (EReal.coe_ne_bot r))]
  congr 1
  rcases le_total x 0 with hx | hx
  · rw [min_eq_left hx, max_eq_left (EReal.le_neg_of_le_neg (by simpa using hx) : (0:EReal) ≤ -x), neg_neg]
  · rw [min_eq_right hx, max_eq_right (by simpa using EReal.neg_le_neg_iff.mpr hx : -x ≤ 0), neg_zero]

/-! ## The gates, queries, keys and values -/

variable (x0 : FVec Ideal S64x9216 .f32) (x1 : FVec Ideal S12x64 .f32) (x2 : FVec Ideal S12 .f32)
  (x3 : FVec Ideal S8x6x256x512 .f32) (x4 : FVec Ideal S8x6x256 .f32) (x5 : FVec Ideal S8x6 .f32)

/-- The queries. -/
theorem q_at (i : S8x6x8x256.Idx) : val_main_v21 (F := Ideal) x0 i = Spec.q x0 (i 0) (i 1) (i 2) (i 3) := by
  rw [val_main_v21_apply, val_main_v1_apply, val_main_v0_apply]
  have h0 : (i 0).val < 8 := (i 0).isLt; have h1 : (i 1).val < 6 := (i 1).isLt
  have h2 : (i 2).val < 8 := (i 2).isLt; have h3 : (i 3).val < 256 := (i 3).isLt
  refine congrArg x0 (funext fun a => Fin.ext ?_)
  match a with
  | ⟨0, _⟩ => show ((((i 0).val * 8 + (i 2).val) * 6 + (i 1).val) * 256 + (i 3).val) / 1536 = 8 * (i 0).val + (i 2).val; omega
  | ⟨1, _⟩ => show ((((i 0).val * 8 + (i 2).val) * 6 + (i 1).val) * 256 + (i 3).val) % 1536 = 256 * (i 1).val + (i 3).val; omega

/-- The keys, scaled. -/
theorem k_at (i : S8x6x8x256.Idx) : val_main_v22 (F := Ideal) x0 i = Spec.k x0 (i 0) (i 1) (i 2) (i 3) := by
  rw [val_main_v22_apply, val_main_v5_apply, val_main_v3_apply, val_main_v2_apply, val_main_v4_apply]
  have h0 : (i 0).val < 8 := (i 0).isLt; have h1 : (i 1).val < 6 := (i 1).isLt
  have h2 : (i 2).val < 8 := (i 2).isLt; have h3 : (i 3).val < 256 := (i 3).isLt
  refine congrArg (fun x : EReal => x * Ideal.ofBits .f32 0x3D800000#32) (congrArg x0 (funext fun a => Fin.ext ?_))
  match a with
  | ⟨0, _⟩ => show ((((i 0).val * 8 + (i 2).val) * 6 + (i 1).val) * 256 + (i 3).val) / 1536 = 8 * (i 0).val + (i 2).val; omega
  | ⟨1, _⟩ => show 1536 + ((((i 0).val * 8 + (i 2).val) * 6 + (i 1).val) * 256 + (i 3).val) % 1536 = 1536 + (256 * (i 1).val + (i 3).val); omega

/-- The values. -/
theorem v_at (i : S8x6x8x512.Idx) : val_main_v23 (F := Ideal) x0 i = Spec.v x0 (i 0) (i 1) (i 2) (i 3) := by
  rw [val_main_v23_apply, val_main_v7_apply, val_main_v6_apply]
  have h0 : (i 0).val < 8 := (i 0).isLt; have h1 : (i 1).val < 6 := (i 1).isLt
  have h2 : (i 2).val < 8 := (i 2).isLt; have h3 : (i 3).val < 512 := (i 3).isLt
  refine congrArg x0 (funext fun a => Fin.ext ?_)
  match a with
  | ⟨0, _⟩ => show ((((i 0).val * 8 + (i 2).val) * 6 + (i 1).val) * 512 + (i 3).val) / 3072 = 8 * (i 0).val + (i 2).val; omega
  | ⟨1, _⟩ => show 3072 + ((((i 0).val * 8 + (i 2).val) * 6 + (i 1).val) * 512 + (i 3).val) % 3072 = 3072 + (512 * (i 1).val + (i 3).val); omega

/-- The input gates. -/
theorem i_at (i : S8x6x8.Idx) : val_main_v24 (F := Ideal) x1 x2 i = Spec.ig x1 x2 (i 0) (i 1) (i 2) := by
  rw [val_main_v24_apply, val_main_v15_apply, val_main_v11_apply, val_main_v10_apply, val_main_v9_apply, val_main_v14_apply,
    val_main_v13_apply, val_main_v12_apply]
  have h0 : (i 0).val < 8 := (i 0).isLt; have h1 : (i 1).val < 6 := (i 1).isLt; have h2 : (i 2).val < 8 := (i 2).isLt
  refine congrArg₂ (fun x y : EReal => x + y) (congrArg x1 (funext fun a => Fin.ext ?_)) (congrArg x2 (funext fun a => Fin.ext ?_))
  · match a with
    | ⟨0, _⟩ => show (((i 0).val * 8 + (i 2).val) * 12 + (i 1).val) % 12 = (i 1).val; omega
    | ⟨1, _⟩ => show (((i 0).val * 8 + (i 2).val) * 12 + (i 1).val) / 12 = 8 * (i 0).val + (i 2).val; omega
  · match a with
    | ⟨0, _⟩ => rfl

/-- The forget gates. -/
theorem f_at (i : S8x6x8.Idx) : val_main_v25 (F := Ideal) x1 x2 i = Spec.fg x1 x2 (i 0) (i 1) (i 2) := by
  rw [val_main_v25_apply, val_main_v20_apply, val_main_v16_apply, val_main_v10_apply, val_main_v9_apply, val_main_v19_apply,
    val_main_v18_apply, val_main_v17_apply]
  have h0 : (i 0).val < 8 := (i 0).isLt; have h1 : (i 1).val < 6 := (i 1).isLt; have h2 : (i 2).val < 8 := (i 2).isLt
  refine congrArg₂ (fun x y : EReal => x + y) (congrArg x1 (funext fun a => Fin.ext ?_)) (congrArg x2 (funext fun a => Fin.ext ?_))
  · match a with
    | ⟨0, _⟩ => show (((i 0).val * 8 + (i 2).val) * 12 + (6 + (i 1).val)) % 12 = 6 + (i 1).val; omega
    | ⟨1, _⟩ => show (((i 0).val * 8 + (i 2).val) * 12 + (6 + (i 1).val)) / 12 = 8 * (i 0).val + (i 2).val; omega
  · match a with
    | ⟨0, _⟩ => rfl

/-- The zero constant. -/
theorem zero_bits : FloatOps.ofBits (F := Ideal) .f32 0x00000000#32 = (0 : EReal) := by
  show Ideal.ofBits .f32 0x00000000#32 = 0
  simp [Ideal.ofBits, Ideal.ieee]

/-- The log forget gates. -/
theorem lf_at (i : S8x6x8.Idx) : val_main_v28 (F := Ideal) x1 x2 i = Chunk.lsg (Spec.fg x1 x2 (i 0) (i 1) (i 2)) := by
  rw [val_main_v28_apply, val_main_call1_v1_apply, val_main_call1_call0_v4_apply, val_main_call1_call0_v11_apply,
    val_main_call1_call0_v1_apply, val_main_call1_call0_v10_apply, val_main_call1_call0_v9_apply,
    val_main_call1_call0_v8_apply, val_main_call1_call0_v7_apply, val_main_call1_call0_v3_apply,
    val_main_call1_call0_v2_apply, val_main_call1_call0_v0_apply, val_main_call1_call0_cst_apply,
    val_main_call1_v0_apply, f_at, zero_bits]
  rw [← lsg_eq]
  generalize Spec.fg x1 x2 (i 0) (i 1) (i 2) = x
  have hs : FloatOps.cmpf (F := Ideal) (φ := .f32) .une (FloatOps.subf (FloatOps.hostNegf x) (0 : EReal)) (FloatOps.subf (FloatOps.hostNegf x) (0 : EReal)) = 0#1 := by
    simp [Ideal.cmpf_def, Ideal.cmp]
  rw [hs]
  have e : FloatOps.subf (F := Ideal) (φ := .f32) (FloatOps.hostNegf x) (0 : EReal) = -x := sub_zero (-x)
  rw [e]
  rfl

/-- The running sums of the log forget gates. -/
theorem cum_at (i : S8x6x8.Idx) : val_main_v29 (F := Ideal) x1 x2 i = Chunk.cum (Spec.fg x1 x2 (i 0) (i 1)) (i 2) := by
  rw [eq_ix3 i]
  unfold val_main_v29
  refine (cumsum_at _ _ (fun i => ?_) (i 0) (i 1) (i 2)).trans ?_
  · rw [val_main_call2_call0_v0_apply, val_main_call2_call0_cst_apply, zero_bits]
  · unfold Chunk.cum
    exact Finset.sum_congr rfl fun s _ => by rw [lf_at]; rfl

/-- A select on "row `t` is at least row `x`" is an `if` on the rows. -/
theorem sel_ge (x t : Fin 8) (a b : EReal) :
    Scalar.select (IntOp.cmpi .sge (BitVec.ofNat 32 t.val) (BitVec.ofNat 32 x.val)) a b = if x ≤ t then a else b := by
  have hx := x.isLt
  have ht := t.isLt
  simp (disch := omega) only [hlo_ix]
  simp only [Fin.le_def, decide_eq_true_eq]

/-- The causal mask. -/
theorem mask_at (i : S8x8.Idx) (a b : EReal) : Scalar.select (val_main_v27 (F := Ideal) i) a b = if (i 1 : Fin 8) ≤ (i 0 : Fin 8) then a else b := by
  refine Eq.trans ?_ (sel_ge (i 1) (i 0) a b)
  refine congrArg (fun w => Scalar.select w a b) ?_
  rw [val_main_v27_apply, val_main_call0_v4_apply, val_main_call0_v2_apply, val_main_call0_v0_apply, val_main_call0_v1_apply,
    val_main_call0_v3_apply, val_main_v26_apply, val_main_call0_v5_apply]
  rw [show IntOp.addi (BitVec.ofNat 32 (i 0).val) (val_main_call0_c (F := Ideal) (idx_main_call0_v1 i)) = BitVec.ofNat 32 (i 0).val from BitVec.add_zero _]
  generalize IntOp.cmpi .sge (BitVec.ofNat 32 (i 0).val) (BitVec.ofNat 32 (i 1).val) = w
  rcases BitVec.eq_zero_or_eq_one w with h | h <;> subst h <;> rfl

/-- The one constant. -/
theorem one_bits : FloatOps.ofBits (F := Ideal) .f32 0x3F800000#32 = (1 : EReal) := Ideal.ofBits_one_f32

/-- The constant for -∞. -/
theorem ninf_bits : FloatOps.ofBits (F := Ideal) .f32 0xFF800000#32 = (⊥ : EReal) := by
  show Ideal.ofBits .f32 0xFF800000#32 = ⊥
  simp [Ideal.ofBits, Ideal.ieee]

/-- The log weights. -/
theorem ld_at (i : S8x6x8x8.Idx) :
    val_main_v38 (F := Ideal) x1 x2 i = Chunk.ld (Spec.fg x1 x2 (i 0) (i 1)) (Spec.ig x1 x2 (i 0) (i 1)) (i 2) (i 3) := by
  rw [val_main_v38_apply, val_main_call3_v1_apply, val_main_v37_apply, val_main_v34_apply, val_main_v32_apply, val_main_v30_apply,
    val_main_v33_apply, val_main_v31_apply, val_main_v36_apply, val_main_v35_apply, val_main_call3_v2_apply, val_main_call3_v0_apply,
    val_main_cst_0_apply, cum_at, cum_at, i_at, ninf_bits]
  exact mask_at _ _ _

/-- The running maxima. -/
theorem mx_at (i : S8x6x8.Idx) :
    val_main_v43 (F := Ideal) x1 x2 x5 i = Chunk.mx (Spec.fg x1 x2 (i 0) (i 1)) (Spec.ig x1 x2 (i 0) (i 1)) (x5 (ix2 (i 0) (i 1))) (i 2) := by
  have e : val_main_v42 (F := Ideal) x1 x2 i = Finset.univ.fold max ⊥ fun s : Fin 8 => Chunk.ld (Spec.fg x1 x2 (i 0) (i 1)) (Spec.ig x1 x2 (i 0) (i 1)) (i 2) s := by
    unfold val_main_v42
    refine (Host.reduce_eq_fold_single (FloatOps.maximumf (F := Ideal) (φ := .f32)) _ _ _ (by decide) h_S_ i).trans ?_
    rw [val_main_cst_1_apply, ninf_bits]
    refine congrArg (fun g : Fin 8 → EReal => (Finset.univ : Finset (Fin 8)).fold max ⊥ g) (funext fun s => ?_)
    exact ld_at x1 x2 _
  rw [val_main_v43_apply, e, val_main_v41_apply, val_main_v40_apply, val_main_v39_apply, cum_at]
  unfold Chunk.mx
  refine congrArg (fun z : EReal => max (_ + z) _) (congrArg x5 (eq_ix2 _))

/-- The weight of the carried state. -/
theorem wi_at (i : S8x6x8.Idx) :
    val_main_v45 (F := Ideal) x1 x2 x5 i = Chunk.wi (Spec.fg x1 x2 (i 0) (i 1)) (Spec.ig x1 x2 (i 0) (i 1)) (x5 (ix2 (i 0) (i 1))) (i 2) := by
  rw [val_main_v45_apply, val_main_v44_apply, mx_at, val_main_v41_apply, val_main_v40_apply, val_main_v39_apply, cum_at]
  unfold Chunk.wi
  refine congrArg (fun z : EReal => Ideal.exp (_ + z - _)) (congrArg x5 (eq_ix2 _))

/-! ## The output and the states -/

/-- The weighted scores. -/
theorem sc_at (i : S8x6x8x8.Idx) :
    val_main_v51 (F := Ideal) x0 x1 x2 x5 i = Chunk.sc (Spec.q x0 (i 0) (i 1)) (Spec.k x0 (i 0) (i 1)) (Spec.fg x1 x2 (i 0) (i 1))
      (Spec.ig x1 x2 (i 0) (i 1)) (x5 (ix2 (i 0) (i 1))) (i 2) (i 3) := by
  rw [val_main_v51_apply, val_main_v46_apply, val_main_v50_apply, val_main_v49_apply, val_main_v48_apply, val_main_v47_apply, mx_at, ld_at]
  unfold Chunk.sc
  refine congrArg (fun z : EReal => z * _) (Finset.sum_congr rfl fun d _ => ?_)
  rw [q_at, k_at]
  rfl

/-- The numerators. -/
theorem num_at (i : S8x6x8x512.Idx) :
    val_main_v57 (F := Ideal) x0 x1 x2 x3 x5 i = Chunk.num (Spec.q x0 (i 0) (i 1)) (Spec.k x0 (i 0) (i 1)) (fun s => Spec.v x0 (i 0) (i 1) s (i 3))
      (Spec.fg x1 x2 (i 0) (i 1)) (Spec.ig x1 x2 (i 0) (i 1)) (fun d => x3 (ix4 (i 0) (i 1) d (i 3))) (x5 (ix2 (i 0) (i 1))) (i 2) := by
  rw [val_main_v57_apply, val_main_v52_apply, val_main_v56_apply, val_main_v55_apply, val_main_v53_apply, val_main_v54_apply, wi_at]
  unfold Chunk.num
  refine congrArg₂ (fun x y : EReal => x + y) (Finset.sum_congr rfl fun s _ => ?_) (congrArg (fun z : EReal => _ * z) (Finset.sum_congr rfl fun d _ => ?_))
  · rw [sc_at, v_at]; rfl
  · rw [q_at]
    exact congrArg (fun z : EReal => _ * z) (congrArg x3 (eq_ix4 _))

/-- The denominators. -/
theorem den_at (i : S8x6x8.Idx) :
    val_main_v61 (F := Ideal) x0 x1 x2 x4 x5 i = Chunk.den (Spec.q x0 (i 0) (i 1)) (Spec.k x0 (i 0) (i 1))
      (Spec.fg x1 x2 (i 0) (i 1)) (Spec.ig x1 x2 (i 0) (i 1)) (fun d => x4 (ix3 (i 0) (i 1) d)) (x5 (ix2 (i 0) (i 1))) (i 2) := by
  rw [val_main_v61_apply, val_main_v58_apply, val_main_v60_apply, val_main_v59_apply, wi_at, val_main_cst_2_apply, zero_bits, zero_add]
  unfold Chunk.den
  refine congrArg₂ (fun x y : EReal => x + y) (Finset.sum_congr rfl fun s _ => ?_) (congrArg (fun z : EReal => _ * z) (Finset.sum_congr rfl fun d _ => ?_))
  · rw [sc_at]; rfl
  · rw [q_at]
    exact congrArg (fun z : EReal => _ * z) (congrArg x4 (eq_ix3 _))

/-- The hidden rows. -/
theorem hid_at (i : S8x6x8x512.Idx) :
    val_main_v68 (F := Ideal) x0 x1 x2 x3 x4 x5 i = Chunk.hid (Spec.q x0 (i 0) (i 1)) (Spec.k x0 (i 0) (i 1)) (fun s => Spec.v x0 (i 0) (i 1) s (i 3))
      (Spec.fg x1 x2 (i 0) (i 1)) (Spec.ig x1 x2 (i 0) (i 1)) (fun d => x3 (ix4 (i 0) (i 1) d (i 3))) (fun d => x4 (ix3 (i 0) (i 1) d))
      (x5 (ix2 (i 0) (i 1))) (i 2) := by
  rw [val_main_v68_apply, num_at, val_main_v67_apply, val_main_v66_apply, val_main_v65_apply, val_main_v62_apply, den_at,
    val_main_v64_apply, val_main_v63_apply, mx_at]
  unfold Chunk.hid
  rw [zero_sub]
  rfl

/-- The output rows. -/
theorem tok_eq : val_main_v108 (F := Ideal) x0 x1 x2 x3 x4 x5 = Spec.tokArr x0 x1 x2 x3 x4 x5 := by
  funext i
  have h0 : (i 0).val < 64 := (i 0).isLt
  have h1 : (i 1).val < 3072 := (i 1).isLt
  have e : idx_main_v101 i = ix4 (⟨(i 0).val / 8, by omega⟩ : Fin 8) (⟨(i 0).val % 8, by omega⟩ : Fin 8) (⟨(i 1).val / 512, by omega⟩ : Fin 6)
      (⟨(i 1).val % 512, by omega⟩ : Fin 512) := funext fun a => Fin.ext (by
    match a with
    | ⟨0, _⟩ => show ((i 0).val * 3072 + (i 1).val) / 24576 = (i 0).val / 8; omega
    | ⟨1, _⟩ => show ((i 0).val * 3072 + (i 1).val) / 3072 % 8 = (i 0).val % 8; omega
    | ⟨2, _⟩ => show ((i 0).val * 3072 + (i 1).val) / 512 % 6 = (i 1).val / 512; omega
    | ⟨3, _⟩ => show ((i 0).val * 3072 + (i 1).val) % 512 = (i 1).val % 512; omega)
  rw [val_main_v108_apply, val_main_v107_apply, val_main_v106_apply, val_main_v105_apply, val_main_v104_apply, val_main_v103_apply,
    val_main_v102_apply, val_main_v8_apply, val_main_v101_apply, e, val_main_v100_apply, hid_at]
  have o : x0 (idx_main_v8 i) = Spec.og x0 ⟨(i 0).val / 8, by omega⟩ ⟨(i 1).val / 512, by omega⟩ ⟨(i 0).val % 8, by omega⟩ ⟨(i 1).val % 512, by omega⟩ := by
    unfold Spec.og
    refine congrArg x0 (funext fun a => Fin.ext ?_)
    match a with
    | ⟨0, _⟩ => show (i 0).val = 8 * ((i 0).val / 8) + (i 0).val % 8; omega
    | ⟨1, _⟩ => show 6144 + (i 1).val = 6144 + (512 * ((i 1).val / 512) + (i 1).val % 512); omega
  rw [o]
  rw [val_main_cst_4_apply, val_main_cst_5_apply, one_bits]
  rfl

/-- The slice of the last row, read back. -/
theorem last_idx (i : S8x6.Idx) : idx_main_v69 (idx_main_v70 i) = ix3 (⟨(i 0).val, (i 0).isLt⟩ : Fin 8) (⟨(i 1).val, (i 1).isLt⟩ : Fin 6) (7 : Fin 8) := funext fun a => Fin.ext (by
  have h0 : (i 0).val < 8 := (i 0).isLt
  have h1 : (i 1).val < 6 := (i 1).isLt
  match a with
  | ⟨0, _⟩ => show ((i 0).val * 6 + (i 1).val) / 6 = (i 0).val; omega
  | ⟨1, _⟩ => show ((i 0).val * 6 + (i 1).val) / 1 % 6 = (i 1).val; omega
  | ⟨2, _⟩ => rfl)

/-- The maximum at the last row. -/
theorem mlast_at (i : S8x6.Idx) : val_main_v70 (F := Ideal) x1 x2 x5 i
    = Chunk.mx (Spec.fg x1 x2 (i 0) (i 1)) (Spec.ig x1 x2 (i 0) (i 1)) (x5 (ix2 (i 0) (i 1))) 7 := by
  rw [val_main_v70_apply, val_main_v69_apply, last_idx, mx_at]
  rfl

/-- The weights of the rows at the end of the chunk. -/
theorem we_at (i : S8x6x8.Idx) : val_main_v78 (F := Ideal) x1 x2 x5 i
    = Chunk.we (Spec.fg x1 x2 (i 0) (i 1)) (Spec.ig x1 x2 (i 0) (i 1)) (x5 (ix2 (i 0) (i 1))) 7 (i 2) := by
  rw [val_main_v78_apply, val_main_v77_apply, val_main_v74_apply, val_main_v73_apply, val_main_v72_apply, val_main_v71_apply,
    val_main_v76_apply, val_main_v75_apply, mlast_at, i_at, cum_at, cum_at]
  unfold Chunk.we
  rfl

/-- The weight of the carried state at the end of the chunk. -/
theorem decay_at (i : S8x6.Idx) : val_main_v83 (F := Ideal) x1 x2 x5 i
    = Chunk.wi (Spec.fg x1 x2 (i 0) (i 1)) (Spec.ig x1 x2 (i 0) (i 1)) (x5 (ix2 (i 0) (i 1))) 7 := by
  rw [val_main_v83_apply, val_main_v82_apply, val_main_v81_apply, val_main_v80_apply, val_main_v79_apply, mlast_at,
    show idx_main_v79 (idx_main_v80 i) = _ from last_idx i, cum_at]
  unfold Chunk.wi
  exact congrArg (fun z : EReal => Ideal.exp (_ + z - _)) (congrArg x5 (eq_ix2 _))

/-- The matrices. -/
theorem c_eq : val_main_v91 (F := Ideal) x0 x1 x2 x3 x5 = Spec.cArr x0 x1 x2 x3 x5 := by
  funext i
  rw [val_main_v91_apply, val_main_v86_apply, val_main_v85_apply, val_main_v84_apply, decay_at, val_main_v90_apply]
  unfold Spec.cArr Spec.c Chunk.cNew
  refine congrArg₂ (fun x y : EReal => x + y) (congrArg (fun z : EReal => _ * z) (congrArg x3 (eq_ix4 _))) (Finset.sum_congr rfl fun s _ => ?_)
  rw [val_main_v89_apply, val_main_v88_apply, val_main_v87_apply, we_at, k_at, v_at]
  exact congrArg (fun z : EReal => z * _) (mul_comm _ _)

/-- The normalizers, before they are given their row axis. -/
theorem n_at (i : S8x6x256.Idx) : val_main_v99 (F := Ideal) x0 x1 x2 x4 x5 i = Spec.n x0 x1 x2 x4 x5 (i 0) (i 1) (i 2) := by
  rw [val_main_v99_apply, val_main_v94_apply, val_main_v93_apply, val_main_v92_apply, decay_at, val_main_v98_apply,
    val_main_cst_3_apply, zero_bits, zero_add]
  unfold Spec.n Chunk.nNew
  refine congrArg₂ (fun x y : EReal => x + y) (congrArg (fun z : EReal => _ * z) (congrArg x4 (eq_ix3 _))) (Finset.sum_congr rfl fun s _ => ?_)
  rw [val_main_v97_apply, val_main_v96_apply, val_main_v95_apply, we_at, k_at]
  exact mul_comm _ _

/-- The normalizers. -/
theorem n_eq : val_main_v109 (F := Ideal) x0 x1 x2 x4 x5 = Spec.nArr x0 x1 x2 x4 x5 := by
  funext i
  have e : idx_main_v109 i = ix3 (⟨(i 0).val, (i 0).isLt⟩ : Fin 8) (⟨(i 1).val, (i 1).isLt⟩ : Fin 6) (⟨(i 3).val, (i 3).isLt⟩ : Fin 256) := funext fun a => Fin.ext (by
    have h0 : (i 0).val < 8 := (i 0).isLt
    have h1 : (i 1).val < 6 := (i 1).isLt
    have h2 : (i 2).val < 1 := (i 2).isLt
    have h3 : (i 3).val < 256 := (i 3).isLt
    match a with
    | ⟨0, _⟩ => show ((((i 0).val * 6 + (i 1).val) * 1 + (i 2).val) * 256 + (i 3).val) / 1536 = (i 0).val; omega
    | ⟨1, _⟩ => show ((((i 0).val * 6 + (i 1).val) * 1 + (i 2).val) * 256 + (i 3).val) / 256 % 6 = (i 1).val; omega
    | ⟨2, _⟩ => show ((((i 0).val * 6 + (i 1).val) * 1 + (i 2).val) * 256 + (i 3).val) % 256 = (i 3).val; omega)
  rw [val_main_v109_apply, e, n_at]
  rfl

/-- The maxima. -/
theorem m_eq : val_main_v111 (F := Ideal) x1 x2 x5 = Spec.mArr x1 x2 x5 := by
  funext i
  rw [val_main_v111_apply, val_main_v110_apply, mlast_at]
  rfl

end Cert.MlstmRefIdeal.Ref
-- ==== Proof.MlstmClaim.lean ====
/- The claims about the mLSTM call of the sample group. -/
module
public import proofs.«01_k».proof.Defs
public import proofs.«01_k».proof.Proof.MlstmArr
public import proofs.«01_k».proof.Proof.MlstmRef
public import Idealize.ShloMosaic.Lib.Claim
@[expose] public section
set_option maxRecDepth 16384
noncomputable section
open Idealize.ShloMosaic Idealize.SL.Sem
namespace Cert.Proof.MlstmClaim

/-- The reference runs, leaves its arguments as they were and its counters at zero. -/
theorem frame_ref : Cert.quiescent_MlstmRefIdeal (hMlstmRefIdeal := Cert.MlstmRefIdeal.Gen.facts) := by
  intro m g _
  refine (θ_run _ _ _).mono (fun r h => ⟨fun c => ?_, sem_eq_zero_of_no_sems (by decide) r.2⟩) (Cert.MlstmRefIdeal.Value.run m g)
  exact (h c).2.2.2.2

/-- The two named literals stand for the two infinities. -/
theorem preserves : Cert.preserves_Mlstm_MlstmIdeal :=
  ⟨IdealRules.named_const.statement Cert.MlstmIdeal.κ "neg_big" .f32 0xF149F2CA#32 ⊥ rfl,
    IdealRules.named_const.statement Cert.MlstmIdeal.κ "pos_big" .f32 0x7149F2CA#32 ⊤ rfl⟩

/-- The kernel's four results are the reference's, as functions of the six arguments: both are the arrays of `Cert.Spec`. -/
theorem algebraic : Cert.algebraic_MlstmIdeal_MlstmRefIdeal (hMlstmIdeal := Cert.MlstmIdeal.Gen.facts)
    (hMlstmRefIdeal := Cert.MlstmRefIdeal.Gen.facts) := by
  pair_intro
  · run_from Cert.MlstmIdeal.Value.run_blocks m g
  · run_from Cert.MlstmRefIdeal.Value.run m' g'
    · rw [Cert.MlstmRefIdeal.Read.val_main_v108_eq, Cert.MlstmRefIdeal.Ref.tok_eq, (hagree c).1, (hagree c).2.1, (hagree c).2.2.1,
        (hagree c).2.2.2.1, (hagree c).2.2.2.2.1, (hagree c).2.2.2.2.2]
      exact (Cert.MlstmIdeal.Arr.final10 m c).symm
    · rw [Cert.MlstmRefIdeal.Read.val_main_v91_eq, Cert.MlstmRefIdeal.Ref.c_eq, (hagree c).1, (hagree c).2.1, (hagree c).2.2.1,
        (hagree c).2.2.2.1, (hagree c).2.2.2.2.2]
      exact (Cert.MlstmIdeal.Arr.final11 m c).symm
    · rw [Cert.MlstmRefIdeal.Read.val_main_v109_eq, Cert.MlstmRefIdeal.Ref.n_eq, (hagree c).1, (hagree c).2.1, (hagree c).2.2.1,
        (hagree c).2.2.2.2.1, (hagree c).2.2.2.2.2]
      exact (Cert.MlstmIdeal.Arr.final12 m c).symm
    · rw [Cert.MlstmRefIdeal.Read.val_main_v111_eq, Cert.MlstmRefIdeal.Ref.m_eq, (hagree c).2.1, (hagree c).2.2.1, (hagree c).2.2.2.2.2]
      exact (Cert.MlstmIdeal.Arr.final13 m c).symm

end Cert.Proof.MlstmClaim
-- ==== Proof.Dense.lean ====
/- The layer's dense mathematics, at an index: a product of two matrices, and the normalization of a row. -/
module
public import Idealize.ShloMosaic.PureOps.Ideal
public import Idealize.ShloMosaic.Lib.Pointwise
@[expose] public section
noncomputable section
open Idealize.ShloMosaic
namespace Cert.Dense

/-- The product of an array of rows and a weight of `n` columns. -/
def prod {r k n : ℕ} (x : (⟨2, ![r, k]⟩ : Shape).Idx → EReal) (w : (⟨2, ![k, n]⟩ : Shape).Idx → EReal)
    (i : (⟨2, ![r, n]⟩ : Shape).Idx) : EReal :=
  ∑ a : Fin k, x (ix2 (i 0) a) * w (ix2 a (i 1))

/-- The mean of a row of 4096. -/
def mean (z : Fin 4096 → EReal) : EReal := Ideal.div (∑ a, z a) (Ideal.ofBits .f32 0x45800000#32)

/-- Entry `j` of the normalized row, scaled and shifted. -/
def lnorm (z : Fin 4096 → EReal) (g b : EReal) (j : Fin 4096) : EReal :=
  (z j - mean z) * Ideal.rsqrt (mean (fun a => (z a - mean z) * (z a - mean z)) + Ideal.ofBits .f32 0x3727C5AC#32) * g + b

/-- The word of -∞. -/
theorem neg_inf : Ideal.ofBits .f32 0xFF800000#32 = ⊥ := by simp [Ideal.ofBits, Ideal.ieee]

/-- The softmax of 256 logits: each exponential, below their maximum, over the sum of all. -/
def softmax (l : Fin 256 → EReal) (s : Fin 256) : EReal :=
  Ideal.div (Ideal.exp (l s - Finset.univ.fold max ⊥ l)) (∑ r, Ideal.exp (l r - Finset.univ.fold max ⊥ l))

end Cert.Dense
-- ==== Proof.MemKvArr.lean ====
/- The memory keys and values the kernel leaves, as functions of its two arguments. -/
module
public import proofs.«01_k».proof.Proof.Gen.MemKvIdeal.Frame
public import proofs.«01_k».proof.Proof.Dense
public import Idealize.ShloMosaic.Lib.Pipeline.Value
public import Idealize.ShloMosaic.Lib.Pipeline.ReadBack
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
open Cert.MemKvIdeal Cert.MemKvIdeal.Gen Cert.Dense
namespace Cert.MemKvIdeal.Arr

/-- The column of head `h`'s lane `e`, among those that begin at `off`. -/
def col (off : ℕ) (ho : off + 1024 ≤ 2048) (h : Fin 4) (e : Fin 256) : Fin 2048 := ⟨off + (h.val * 256 + e.val), by omega⟩

/-- The memory's heads: slot `s` of sequence `b` against the columns of layer `l` that begin at `off`, head by head. -/
def heads (off : ℕ) (h : off + 1024 ≤ 2048) (x : FVec Ideal S4x256x4096 .f32) (w : FVec Ideal S2x4096x2048 .f32) :
    FVec Ideal S2x4x256x4x256 .f32 := fun i =>
  ∑ a : Fin 4096, x (ix3 (i 1) (i 2) a)
    * w (ix3 (i 0) a (col off h (i 3) (i 4)))

/-- Two arrays of heads are one when their layers are. -/
theorem layers {f g : FVec Ideal S2x4x256x4x256 .f32}
    (h0 : ∀ b s h e, f (ix5 0 b s h e) = g (ix5 0 b s h e)) (h1 : ∀ b s h e, f (ix5 1 b s h e) = g (ix5 1 b s h e)) : f = g := by
  funext i
  have hi : i = ix5 (i 0) (i 1) (i 2) (i 3) (i 4) := by funext k; fin_cases k <;> rfl
  rw [hi]
  rcases (by decide : ∀ l : Fin 2, l = 0 ∨ l = 1) (i 0) with h | h <;> rw [h]
  · exact h0 ..
  · exact h1 ..

variable (m : (ℓ : Loc nD τ sig) → Buf (Elt Ideal) ℓ) (ρ : Dev nD → PrngReg) (c : Dev nD)

/-- Where the windows sit at grid point `t`. -/
theorem idx : ∀ t : Fin cfg0.N, win0_0.index t = ![0, 0] ∧ win0_1.index t = ![0, t.val] ∧ win0_2.index t = ![0, t.val] :=
  (by decide +kernel : ∀ t : Fin grid0.N, _)

/-- The product the region leaves. -/
theorem final : (dats m 0 c).arrAt 2 cfg0.N = prod (r := 1024) (k := 4096) (n := 4096) (V m c main_v7) (V m c main_v5) := by
  refine (dats m 0 c).arrAt_eq_of_covers 2 _ (by decide +kernel) fun t _ y => ?_
  blk_simp
  rw [after0_2]; frame_out
  pointwise [k0_pay1, prod]
  blk_point [iblk, idx t]

/-- The rows the product reads: the slots of the four sequences, one after the other. -/
theorem rows_at (b : Fin 4) (s : Fin 256) (a : Fin 4096) :
    (V m c main_v7 : FVec Ideal S1024x4096 .bf16) (ix2 ⟨b.val * 256 + s.val, by omega⟩ a)
      = (m ((c : Thread nD τ).loc main_arg0) : FVec Ideal S4x256x4096 .f32) (ix3 b s a) := by
  simp only [V, V0, hostOps0, List.flatten_cons, List.flatten_nil, List.append_nil, List.cons_append, List.nil_append]
  after_results_simp
  pointwise
  have hb : (b.val * 256 + s.val) / 256 = b.val := by omega
  have hs : (b.val * 256 + s.val) % 256 = s.val := by omega
  simp only [hb, hs]

/-- The weight the product reads, in its first half: the first layer's. -/
theorem weight0_at (a : Fin 4096) (j : Fin 2048) :
    (V m c main_v5 : FVec Ideal S4096x4096 .bf16) (ix2 a ⟨j.val, by omega⟩)
      = (m ((c : Thread nD τ).loc main_arg1) : FVec Ideal S2x4096x2048 .f32) (ix3 0 a j) := by
  simp only [V, V0, hostOps0, List.flatten_cons, List.flatten_nil, List.append_nil, List.cons_append, List.nil_append]
  after_results_simp
  pointwise
  after_results_simp
  pointwise

/-- The weight the product reads, in its second half: the second layer's. -/
theorem weight1_at (a : Fin 4096) (j : Fin 2048) :
    (V m c main_v5 : FVec Ideal S4096x4096 .bf16) (ix2 a ⟨2048 + j.val, by omega⟩)
      = (m ((c : Thread nD τ).loc main_arg1) : FVec Ideal S2x4096x2048 .f32) (ix3 1 a j) := by
  simp only [V, V0, hostOps0, List.flatten_cons, List.flatten_nil, List.append_nil, List.cons_append, List.nil_append]
  after_results_simp
  pointwise
  after_results_simp
  pointwise

/-- The region's array, as the host operations after the region find it. -/
theorem found : Pipeline.withArrays (cfgs 0).spec c (V0 m c) (fun w => (dats m 0 c).arrAt w (cfgs 0).N) (Proc.tc.devRef main_v8)
    = prod (r := 1024) (k := 4096) (n := 4096) (V m c main_v7) (V m c main_v5) :=
  (Pipeline.withArrays_arr (cfgs 0).spec (by decide) c _ _ 2).trans (final m c)

/-- A row of the product at a column of the first layer. -/
theorem column0 (b : Fin 4) (s : Fin 256) (off : ℕ) (h : off + 1024 ≤ 2048) (j : Fin 1024) :
    prod (r := 1024) (k := 4096) (n := 4096) (V m c main_v7) (V m c main_v5) (ix2 ⟨b.val * 256 + s.val, by omega⟩ ⟨off + j.val, by omega⟩)
      = ∑ a : Fin 4096, (show FVec Ideal S4x256x4096 .f32 from m ((c : Thread nD τ).loc main_arg0)) (ix3 b s a)
          * (show FVec Ideal S2x4096x2048 .f32 from m ((c : Thread nD τ).loc main_arg1)) (ix3 0 a ⟨off + j.val, by omega⟩) :=
  Finset.sum_congr rfl fun a _ => congrArg₂ (· * ·) (rows_at m c b s a) (weight0_at m c a ⟨off + j.val, by omega⟩)

/-- A row of the product at a column of the second layer. -/
theorem column1 (b : Fin 4) (s : Fin 256) (off : ℕ) (h : off + 1024 ≤ 2048) (j : Fin 1024) :
    prod (r := 1024) (k := 4096) (n := 4096) (V m c main_v7) (V m c main_v5) (ix2 ⟨b.val * 256 + s.val, by omega⟩ ⟨2048 + (off + j.val), by omega⟩)
      = ∑ a : Fin 4096, (show FVec Ideal S4x256x4096 .f32 from m ((c : Thread nD τ).loc main_arg0)) (ix3 b s a)
          * (show FVec Ideal S2x4096x2048 .f32 from m ((c : Thread nD τ).loc main_arg1)) (ix3 1 a ⟨off + j.val, by omega⟩) :=
  Finset.sum_congr rfl fun a _ => congrArg₂ (· * ·) (rows_at m c b s a) (weight1_at m c a ⟨off + j.val, by omega⟩)

/-- The keys of the first layer. -/
theorem keys0_at (b : Fin 4) (s : Fin 256) (h : Fin 4) (e : Fin 256) :
    (Pipeline.afterTail₀ cfgs (dats m) 0 (V0 m) [hostOps1] c main_v20 : FVec Ideal S2x4x256x4x256 .f32) (ix5 0 b s h e)
      = heads 0 (by decide) (m ((c : Thread nD τ).loc main_arg0)) (m ((c : Thread nD τ).loc main_arg1)) (ix5 0 b s h e) := by
  simp only [Pipeline.afterTail₀, hostOps1, List.flatten_cons, List.flatten_nil, List.append_nil, List.cons_append, List.nil_append]
  after_results_simp
  pointwise
  after_results_simp
  pointwise
  refine (congrFun (found m c) _).trans ?_
  refine (congrArg (fun q => prod (r := 1024) (k := 4096) (n := 4096) (V m c main_v7) (V m c main_v5) (ix2 _ q)) (Fin.ext ?_)).trans
    (column0 m c b s 0 (by decide) ⟨h.val * 256 + e.val, by omega⟩)
  show _ = (0 + (h.val * 256 + e.val))
  dsimp only
  omega

/-- The keys of the second layer. -/
theorem keys1_at (b : Fin 4) (s : Fin 256) (h : Fin 4) (e : Fin 256) :
    (Pipeline.afterTail₀ cfgs (dats m) 0 (V0 m) [hostOps1] c main_v20 : FVec Ideal S2x4x256x4x256 .f32) (ix5 1 b s h e)
      = heads 0 (by decide) (m ((c : Thread nD τ).loc main_arg0)) (m ((c : Thread nD τ).loc main_arg1)) (ix5 1 b s h e) := by
  simp only [Pipeline.afterTail₀, hostOps1, List.flatten_cons, List.flatten_nil, List.append_nil, List.cons_append, List.nil_append]
  after_results_simp
  pointwise
  after_results_simp
  pointwise
  refine (congrFun (found m c) _).trans ?_
  refine (congrArg (fun q => prod (r := 1024) (k := 4096) (n := 4096) (V m c main_v7) (V m c main_v5) (ix2 _ q)) (Fin.ext ?_)).trans
    (column1 m c b s 0 (by decide) ⟨h.val * 256 + e.val, by omega⟩)
  show _ = 2048 + (0 + (h.val * 256 + e.val))
  dsimp only
  omega

/-- The values of the first layer. -/
theorem vals0_at (b : Fin 4) (s : Fin 256) (h : Fin 4) (e : Fin 256) :
    (Pipeline.afterTail₀ cfgs (dats m) 0 (V0 m) [hostOps1] c main_v21 : FVec Ideal S2x4x256x4x256 .f32) (ix5 0 b s h e)
      = heads 1024 (by decide) (m ((c : Thread nD τ).loc main_arg0)) (m ((c : Thread nD τ).loc main_arg1)) (ix5 0 b s h e) := by
  simp only [Pipeline.afterTail₀, hostOps1, List.flatten_cons, List.flatten_nil, List.append_nil, List.cons_append, List.nil_append]
  after_results_simp
  pointwise
  after_results_simp
  pointwise
  refine (congrFun (found m c) _).trans ?_
  refine (congrArg (fun q => prod (r := 1024) (k := 4096) (n := 4096) (V m c main_v7) (V m c main_v5) (ix2 _ q)) (Fin.ext ?_)).trans
    (column0 m c b s 1024 (by decide) ⟨h.val * 256 + e.val, by omega⟩)
  show _ = (1024 + (h.val * 256 + e.val))
  dsimp only

/-- The values of the second layer. -/
theorem vals1_at (b : Fin 4) (s : Fin 256) (h : Fin 4) (e : Fin 256) :
    (Pipeline.afterTail₀ cfgs (dats m) 0 (V0 m) [hostOps1] c main_v21 : FVec Ideal S2x4x256x4x256 .f32) (ix5 1 b s h e)
      = heads 1024 (by decide) (m ((c : Thread nD τ).loc main_arg0)) (m ((c : Thread nD τ).loc main_arg1)) (ix5 1 b s h e) := by
  simp only [Pipeline.afterTail₀, hostOps1, List.flatten_cons, List.flatten_nil, List.append_nil, List.cons_append, List.nil_append]
  after_results_simp
  pointwise
  after_results_simp
  pointwise
  refine (congrFun (found m c) _).trans ?_
  refine (congrArg (fun q => prod (r := 1024) (k := 4096) (n := 4096) (V m c main_v7) (V m c main_v5) (ix2 _ q)) (Fin.ext ?_)).trans
    (column1 m c b s 1024 (by decide) ⟨h.val * 256 + e.val, by omega⟩)
  show _ = 2048 + (1024 + (h.val * 256 + e.val))
  dsimp only
  omega

/-- What the kernel leaves as keys. -/
theorem tail_keys : (Pipeline.afterTail₀ cfgs (dats m) 0 (V0 m) [hostOps1] c main_v20 : FVec Ideal S2x4x256x4x256 .f32)
    = heads 0 (by decide) (m ((c : Thread nD τ).loc main_arg0)) (m ((c : Thread nD τ).loc main_arg1)) := by
  refine layers ?_ ?_
  · exact keys0_at m c
  · exact keys1_at m c

/-- What the kernel leaves as values. -/
theorem tail_vals : (Pipeline.afterTail₀ cfgs (dats m) 0 (V0 m) [hostOps1] c main_v21 : FVec Ideal S2x4x256x4x256 .f32)
    = heads 1024 (by decide) (m ((c : Thread nD τ).loc main_arg0)) (m ((c : Thread nD τ).loc main_arg1)) := by
  refine layers ?_ ?_
  · exact vals0_at m c
  · exact vals1_at m c

end Cert.MemKvIdeal.Arr
-- ==== Proof.MemKvClaim.lean ====
/- The claims about the memory's keys and values. -/
module
public import proofs.«01_k».proof.Defs
public import proofs.«01_k».proof.Proof.MemKvArr
public import proofs.«01_k».proof.Proof.Gen.MemKvRefIdeal.Run
public import proofs.«01_k».proof.Proof.Gen.MemKvRefIdeal.Read
public import Idealize.ShloMosaic.Lib.IdealHost
public import Idealize.ShloMosaic.Lib.Claim
@[expose] public section
set_option maxRecDepth 16384
noncomputable section
open Idealize.ShloMosaic Idealize.ShloMosaic.TcCoe Idealize.SL.Sem
open Cert.MemKvIdeal.Arr (heads layers col)

namespace Cert.MemKvIdeal.Run
open Cert.MemKvIdeal Cert.MemKvIdeal.Gen
variable (m : (ℓ : Loc nD τ sig) → Buf (Elt Ideal) ℓ) (ρ : Dev nD → PrngReg)

/-- The kernel runs, leaves the keys and the values as its two results, and its arguments as they were. -/
theorem run : θ_run defs (onTc (τ := τ) (main (F := Ideal))) ⟨m, fun _ => 0, ρ⟩ (fun r => ∀ c : Dev nD,
      r.2.mem ((c.tc : Thread nD τ).loc main_v20) = heads 0 (by decide) (m ((c : Thread nD τ).loc main_arg0)) (m ((c : Thread nD τ).loc main_arg1))
      ∧ r.2.mem ((c.tc : Thread nD τ).loc main_v21) = heads 1024 (by decide) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 (by decide) (by decide))).trans (Arr.tail_keys m c),
     ((h c).2 main_v21 (Pipeline.mem_restRefs_of main_v21 (by decide) (by decide))).trans (Arr.tail_vals m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.MemKvIdeal.Run

namespace Cert.MemKvRefIdeal.Ref
open Cert.MemKvRefIdeal Cert.MemKvRefIdeal.Gen Cert.MemKvRefIdeal.Read

variable (x : FVec Ideal S4x256x4096 .f32) (w : FVec Ideal S2x4096x2048 .f32)

/-- The reference's keys. -/
theorem keys_eq : val_main_v12 (F := Ideal) x w = heads 0 (by decide) x w := by
  refine layers ?_ ?_ <;> intro b s h e <;> unfold val_main_v12 <;> pointwise [val_main_v10, val_main_v11, val_main_v7, val_main_v9, val_main_v6, val_main_v8, val_main_v2, val_main_v5, val_main_v1, val_main_v4, val_main_v0, val_main_v3, heads, col]

/-- The reference's values. -/
theorem vals_eq : val_main_v19 (F := Ideal) x w = heads 1024 (by decide) x w := by
  refine layers ?_ ?_ <;> intro b s h e <;> unfold val_main_v19 <;> pointwise [val_main_v17, val_main_v18, val_main_v14, val_main_v16, val_main_v13, val_main_v15, val_main_v2, val_main_v5, val_main_v1, val_main_v4, val_main_v0, val_main_v3, heads, col]

end Cert.MemKvRefIdeal.Ref

namespace Cert.Proof.MemKvClaim

/-- The reference runs, leaves its arguments as they were and its counters at zero. -/
theorem frame_ref : Cert.quiescent_MemKvRefIdeal (hMemKvRefIdeal := Cert.MemKvRefIdeal.Gen.facts) := by
  intro m g _
  refine (θ_run _ _ _).mono (fun r h => ⟨fun c => ?_, sem_eq_zero_of_no_sems (by decide) r.2⟩) (Cert.MemKvRefIdeal.Value.run m g)
  exact (h c).2.2

/-- The kernel's keys and values are the reference's, as functions of the memory and the weight. -/
theorem algebraic : Cert.algebraic_MemKvIdeal_MemKvRefIdeal (hMemKvIdeal := Cert.MemKvIdeal.Gen.facts)
    (hMemKvRefIdeal := Cert.MemKvRefIdeal.Gen.facts) := by
  pair_intro
  · run_from Cert.MemKvIdeal.Run.run m g
  · run_from Cert.MemKvRefIdeal.Value.run m' g'
    · exact (Cert.MemKvRefIdeal.Read.val_main_v12_eq ..).trans (Cert.MemKvRefIdeal.Ref.keys_eq ..)
    · exact (Cert.MemKvRefIdeal.Read.val_main_v19_eq ..).trans (Cert.MemKvRefIdeal.Ref.vals_eq ..)

end Cert.Proof.MemKvClaim
-- ==== Proof.InAArr.lean ====
/- What the three projections of the first layer's mixer leave, as functions of the arrays they are entered with. -/
module
public import proofs.«01_k».proof.Proof.Gen.InAIdeal.Frame
public import Idealize.ShloMosaic.Lib.Pointwise
public import Idealize.ShloMosaic.Lib.Pipeline.Value
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.InAIdeal Cert.InAIdeal.Gen
namespace Cert.InAIdeal.Arr
variable (V : (c : Dev nD) → (b : Ref sig .tc) → Buf (Elt Ideal) ((c : Thread nD τ).loc b)) (c : Dev nD)

/-- The product of an array of rows and a weight that holds its columns as rows. -/
def prodT {r k n : ℕ} (x : (⟨2, ![r, k]⟩ : Shape).Idx → EReal) (w : (⟨2, ![n, k]⟩ : Shape).Idx → EReal)
    (i : (⟨2, ![r, n]⟩ : Shape).Idx) : EReal :=
  ∑ a : Fin k, x (ix2 (i 0) a) * w (ix2 (i 1) a)

/-- Where the windows of the token projection sit at grid point `t`. -/
theorem idx0 : ∀ t : Fin cfg0.N, win0_0.index t = ![0, 0] ∧ win0_1.index t = ![t.val, 0] ∧ win0_2.index t = ![0, t.val] :=
  (by decide +kernel : ∀ t : Fin grid0.N, _)

/-- Where the windows of the memory queries' projection sit at grid point `t`. -/
theorem idx1 : ∀ t : Fin cfg1.N, win1_0.index t = ![0, 0] ∧ win1_1.index t = ![t.val, 0] ∧ win1_2.index t = ![0, t.val] :=
  (by decide +kernel : ∀ t : Fin grid1.N, _)

/-- Where the windows of the gates' projection sit at grid point `t`. -/
theorem idx2 : ∀ t : Fin cfg2.N, win2_0.index t = ![0, 0] ∧ win2_1.index t = ![t.val, 0] ∧ win2_2.index t = ![0, t.val] :=
  (by decide +kernel : ∀ t : Fin grid2.N, _)

/-- The token projections. -/
theorem final0 : (dat0 V c).arrAt 2 cfg0.N = prodT (r := 64) (k := 4096) (n := 9216) (V c main_v15) (V c main_v3) := by
  refine (dat0 V c).arrAt_eq_of_covers 2 _ (by decide +kernel) fun t _ y => ?_
  blk_simp
  rw [after0_2]; frame_out
  pointwise [k0_pay1, prodT]
  blk_point [iblk0, idx0 t]

/-- The memory queries. -/
theorem final1 : (dat1 V c).arrAt 2 cfg1.N = prodT (r := 64) (k := 4096) (n := 1024) (V c main_v15) (V c main_v6) := by
  refine (dat1 V c).arrAt_eq_of_covers 2 _ (by decide +kernel) fun t _ y => ?_
  blk_simp
  rw [after1_2]; frame_out
  pointwise [k1_pay1, prodT]
  blk_point [iblk1, idx1 t]

/-- The gates' projections, on lanes of which the first twelve are the gates. -/
theorem final2 : (dat2 V c).arrAt 2 cfg2.N = prodT (r := 64) (k := 4096) (n := 128) (V c main_v14) (V c main_v9) := by
  refine (dat2 V c).arrAt_eq_of_covers 2 _ (by decide +kernel) fun t _ y => ?_
  blk_simp
  rw [after2_2]; frame_out
  pointwise [k2_pay1, prodT]
  blk_point [iblk2, idx2 t]

end Cert.InAIdeal.Arr
-- ==== Proof.InAPay.lean ====
/- What the recurrence's body stores inside the first layer's mixer, read at an index: the padded chunk of `Cert.Chunk` over the loaded blocks. -/
module
public import proofs.«01_k».proof.Proof.Gen.InAIdeal.Skeleton
public import proofs.«01_k».proof.Proof.MlstmPay
@[expose] public section
set_option maxRecDepth 16384
noncomputable section
open Idealize.ShloMosaic Idealize.ShloMosaic.TcCoe Idealize.SL.Sem
open Cert.InAIdeal Cert.InAIdeal.Gen
open Cert.MlstmIdeal.Pay (gateI gateF rows keys sel_le sel_eq ninf)
namespace Cert.InAIdeal.Pay

/-- The input-gate row with its bias. -/
theorem gate_in (g : Vec Ideal S1x1x1x8 .f32) (b : Elt Ideal .f32) (s : Fin 128) :
    k3_pay8 (F := Ideal) g b (ix2 0 s) = gateI g b s := by
  pointwise [k3_pay8]
  exact congrArg (· + b) (dite_congr rfl (fun _ => rfl) fun _ => IdealRules.named_const.ideal_named_scalar (φ := .f32) κ "neg_big" 0xF149F2CA#32 ⊥ rfl)

/-- The forget-gate row before its bias. -/
theorem gate_forget (g : Vec Ideal S1x1x1x8 .f32) (s : Fin 128) :
    k3_pay9 (F := Ideal) g (ix2 0 s) = if h : s.val < 8 then g (ix4 0 0 0 ⟨s.val, h⟩) else ⊤ := by
  pointwise [k3_pay9]
  exact dite_congr rfl (fun _ => rfl) fun _ => IdealRules.named_const.ideal_named_scalar (φ := .f32) κ "pos_big" 0x7149F2CA#32 ⊤ rfl

/-- The column of summed log forget gates. -/
theorem cum_at (g : Vec Ideal S1x1x1x8 .f32) (b : Elt Ideal .f32) (t : Fin 128) :
    k3_pay11 (F := Ideal) (k3_pay9 g) b (ix2 t 0) = Chunk.cum (gateF g b) t := by
  pointwise [k3_pay11, k3_pay10]
  simp only [sel_le (n := 128) (by norm_num), gate_forget]
  rfl

/-- The input gates as a column. -/
theorem icol_at (g : Vec Ideal S1x1x1x8 .f32) (b : Elt Ideal .f32) (t : Fin 128) :
    k3_pay12 (F := Ideal) (k3_pay8 g b) (ix2 t 0) = gateI g b t := by
  pointwise [k3_pay12]
  simp only [sel_eq (n := 128) (by norm_num), Finset.sum_ite_eq, Finset.mem_univ, if_true, gate_in]

/-- The log weights. -/
theorem ld_at (gi gf : Vec Ideal S1x1x1x8 .f32) (bi bf : Elt Ideal .f32) (t s : Fin 128) :
    k3_pay14 (F := Ideal) (k3_pay8 gi bi) (k3_pay9 gf) bf (ix2 t s) = Chunk.ld (gateF gf bf) (gateI gi bi) t s := by
  pointwise [k3_pay14, k3_pay10]
  simp only [sel_le (n := 128) (by norm_num), sel_eq (n := 128) (by norm_num), Finset.sum_ite_eq', Finset.mem_univ, if_true,
    cum_at, gate_in, ninf]
  rfl

/-- The carried maximum with the summed gates. -/
theorem carry_at (gf : Vec Ideal S1x1x1x8 .f32) (bf : Elt Ideal .f32) (m0 : Vec Ideal S1x1x1x1 .f32) (t : Fin 128) :
    k3_pay16 (F := Ideal) (k3_pay11 (k3_pay9 gf) bf) (k3_pay15 m0) (ix2 t 0) = Chunk.cum (gateF gf bf) t + m0 (ix4 0 0 0 0) := by
  pointwise [k3_pay16, k3_pay15, k3_pay13]
  simp only [cum_at]

/-- The running maximum. -/
theorem mx_at (gi gf : Vec Ideal S1x1x1x8 .f32) (bi bf : Elt Ideal .f32) (m0 : Vec Ideal S1x1x1x1 .f32) (t : Fin 128) :
    k3_pay17 (F := Ideal) (k3_pay11 (k3_pay9 gf) bf) (k3_pay14 (k3_pay8 gi bi) (k3_pay9 gf) bf) (k3_pay15 m0) (ix2 t 0)
      = Chunk.mx (gateF gf bf) (gateI gi bi) (m0 (ix4 0 0 0 0)) t := by
  pointwise [k3_pay17]
  simp only [carry_at, ld_at, ninf]
  rfl

/-- The query rows. -/
theorem q_at (q : Vec Ideal S8x256 .f32) (t : Fin 128) (d : Fin 256) : k3_pay5 (F := Ideal) q (ix2 t d) = rows q t d := by
  pointwise [k3_pay5]

/-- The key rows, scaled. -/
theorem k_at (k : Vec Ideal S8x256 .f32) (t : Fin 128) (d : Fin 256) : k3_pay6 (F := Ideal) k (ix2 t d) = keys k t d := by
  pointwise [k3_pay6]

/-- The value rows. -/
theorem v_at (v : Vec Ideal S8x512 .f32) (t : Fin 128) (d : Fin 512) : k3_pay7 (F := Ideal) v (ix2 t d) = rows v t d := by
  pointwise [k3_pay7]

/-- The stored output rows: the sigmoid of the output gate times the padded chunk's row. -/
theorem tok_at (q k : Vec Ideal S8x256 .f32) (v og : Vec Ideal S8x512 .f32) (gi gf : Vec Ideal S1x1x1x8 .f32)
    (bi bf : Elt Ideal .f32) (c0 : Vec Ideal S1x1x256x512 .f32) (n0 : Vec Ideal S1x1x1x256 .f32) (m0 : Vec Ideal S1x1x1x1 .f32)
    (t : Fin 8) (j : Fin 512) :
    k3_pay23 (F := Ideal) (k3_pay20 (k3_pay5 q) (k3_pay6 k) (k3_pay7 v) (k3_pay11 (k3_pay9 gf) bf)
        (k3_pay14 (k3_pay8 gi bi) (k3_pay9 gf) bf) (k3_pay15 m0) c0 n0) (k3_pay21 og) k3_pay22 (ix2 t j)
      = Ideal.logistic (og (ix2 t j)) * Chunk.hid (rows q) (keys k) (fun s => rows v s j) (gateF gf bf) (gateI gi bi)
          (fun d => c0 (ix4 0 0 d j)) (fun d => n0 (ix4 0 0 0 d)) (m0 (ix4 0 0 0 0)) (Fin.castLE (by norm_num) t) := by
  pointwise [k3_pay23, k3_pay22, k3_pay21, k3_pay20, k3_pay19, k3_pay18]
  simp only [q_at, k_at, v_at, ld_at, carry_at, mx_at]
  rfl

/-- The stored matrix. -/
theorem c_at (k : Vec Ideal S8x256 .f32) (v : Vec Ideal S8x512 .f32) (gi gf : Vec Ideal S1x1x1x8 .f32)
    (bi bf : Elt Ideal .f32) (c0 : Vec Ideal S1x1x256x512 .f32) (m0 : Vec Ideal S1x1x1x1 .f32) (d : Fin 256) (j : Fin 512) :
    k3_pay28 (F := Ideal) (k3_pay6 k) (k3_pay7 v) (k3_pay11 (k3_pay9 gf) bf) (k3_pay12 (k3_pay8 gi bi)) (k3_pay13 m0)
        (k3_pay17 (k3_pay11 (k3_pay9 gf) bf) (k3_pay14 (k3_pay8 gi bi) (k3_pay9 gf) bf) (k3_pay15 m0)) (k3_pay18 c0) (ix4 0 0 d j)
      = Chunk.cNew (fun s => keys k s d) (fun s => rows v s j) (gateF gf bf) (gateI gi bi) (c0 (ix4 0 0 d j)) (m0 (ix4 0 0 0 0)) 127 := by
  pointwise [k3_pay28, k3_pay27, k3_pay26, k3_pay25, k3_pay24, k3_pay18, k3_pay13]
  simp only [k_at, v_at, cum_at, icol_at, mx_at]
  rfl

/-- The stored normalizer. -/
theorem n_at (k : Vec Ideal S8x256 .f32) (gi gf : Vec Ideal S1x1x1x8 .f32)
    (bi bf : Elt Ideal .f32) (n0 : Vec Ideal S1x1x1x256 .f32) (m0 : Vec Ideal S1x1x1x1 .f32) (d : Fin 256) :
    k3_pay29 (F := Ideal) (k3_pay6 k) (k3_pay11 (k3_pay9 gf) bf) (k3_pay12 (k3_pay8 gi bi)) (k3_pay13 m0)
        (k3_pay17 (k3_pay11 (k3_pay9 gf) bf) (k3_pay14 (k3_pay8 gi bi) (k3_pay9 gf) bf) (k3_pay15 m0)) (k3_pay19 n0) (ix4 0 0 0 d)
      = Chunk.nNew (fun s => keys k s d) (gateF gf bf) (gateI gi bi) (n0 (ix4 0 0 0 d)) (m0 (ix4 0 0 0 0)) 127 := by
  pointwise [k3_pay29, k3_pay27, k3_pay26, k3_pay25, k3_pay24, k3_pay19, k3_pay13]
  simp only [k_at, cum_at, icol_at, mx_at]
  rfl

/-- The stored maximum: the last row's. -/
theorem m_at (gi gf : Vec Ideal S1x1x1x8 .f32) (bi bf : Elt Ideal .f32) (m0 : Vec Ideal S1x1x1x1 .f32) (l : Fin 128) :
    k3_pay1 (F := Ideal) (k3_pay30 (k3_pay17 (k3_pay11 (k3_pay9 gf) bf) (k3_pay14 (k3_pay8 gi bi) (k3_pay9 gf) bf) (k3_pay15 m0))) (ix4 0 0 0 l)
      = Chunk.mx (gateF gf bf) (gateI gi bi) (m0 (ix4 0 0 0 0)) 127 := by
  pointwise [k3_pay1, k3_pay30, k3_pay24]
  exact mx_at gi gf bi bf m0 127

end Cert.InAIdeal.Pay
-- ==== Proof.InARec.lean ====
/- The recurrence inside the first layer's mixer: the four arrays its region leaves, as functions of the buffers it finds. -/
module
public import proofs.«01_k».proof.Proof.Gen.InAIdeal.Frame
public import proofs.«01_k».proof.Proof.InAPay
public import proofs.«01_k».proof.Proof.MlstmSpec
public import Idealize.ShloMosaic.Lib.Pipeline.Value
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.InAIdeal Cert.InAIdeal.Gen
open Cert.MlstmIdeal.Pay (gateI gateF rows keys)
namespace Cert.InAIdeal.Rec
variable (V : (c : Dev nD) → (b : Ref sig .tc) → Buf (Elt Ideal) ((c : Thread nD τ).loc b))

/-- Where every window sits at grid point `t`: sequence `t / 6`, head `t % 6`. -/
theorem idx : ∀ t : Fin cfg3.N, win3_1.index t = ![t.val / 6, t.val % 6] ∧ win3_2.index t = ![t.val / 6, 6 + t.val % 6]
  ∧ win3_3.index t = ![t.val / 6, 6 + t.val % 6] ∧ win3_4.index t = ![t.val / 6, 12 + t.val % 6]
  ∧ win3_5.index t = ![t.val % 6, t.val / 6, 0, 0] ∧ win3_6.index t = ![t.val % 6, t.val / 6, 0, 0]
  ∧ win3_7.index t = ![t.val / 6, t.val % 6, 0, 0] ∧ win3_8.index t = ![t.val / 6, t.val % 6, 0, 0]
  ∧ win3_9.index t = ![t.val / 6, t.val % 6, 0, 0] ∧ win3_10.index t = ![t.val / 6, t.val % 6]
  ∧ win3_11.index t = ![t.val / 6, t.val % 6, 0, 0] ∧ win3_12.index t = ![t.val / 6, t.val % 6, 0, 0]
  ∧ win3_13.index t = ![t.val / 6, t.val % 6, 0, 0] ∧ win3_0.index t = ![0] :=
  (by decide +kernel : ∀ t : Fin grid3.N, _)

/-- The two bias words a point reads: its head's input and forget gate. -/
theorem offs : ∀ t : Fin cfg3.N, k3_off1 (grid3.coords t) = ![t.val % 6] ∧ k3_off2 (grid3.coords t) = ![6 + t.val % 6]
    ∧ t.val / 6 < 8 ∧ t.val % 6 < 6 :=
  (by decide +kernel : ∀ t : Fin grid3.N, _)

/-- The sequence of point `t`. -/
abbrev sq (t : Fin cfg3.N) : Fin 8 := ⟨t.val / 6, (offs t).2.2.1⟩

/-- The head of point `t`. -/
abbrev hd (t : Fin cfg3.N) : Fin 6 := ⟨t.val % 6, (offs t).2.2.2⟩

variable (c : Dev nD)

/-- The projections. -/
abbrev U : FVec Ideal S64x9216 .f32 := V c main_v16
/-- The gates' bias. -/
abbrev B : FVec Ideal S12 .f32 := V c main_v10
/-- The carried matrices. -/
abbrev C0 : FVec Ideal S8x6x256x512 .f32 := V c main_v11

variable (G : FVec Ideal S12x64 .f32) (N0 : FVec Ideal S8x6x256 .f32) (M0 : FVec Ideal S8x6 .f32)

/-- What the region finds of the gate projections `G`, the normalizers `N0` and the maxima `M0`: their blocks. -/
structure Entry : Prop where
  gi (h : Fin 6) (b : Fin 8) (s : Fin 8) :
    (show FVec Ideal S6x8x1x8 .f32 from V c main_v22) (ix4 h b 0 s) = G (ix2 ⟨h.val, by omega⟩ (Spec.row b s))
  gf (h : Fin 6) (b : Fin 8) (s : Fin 8) :
    (show FVec Ideal S6x8x1x8 .f32 from V c main_v24) (ix4 h b 0 s) = G (ix2 ⟨6 + h.val, by omega⟩ (Spec.row b s))
  n (b : Fin 8) (h : Fin 6) (d : Fin 256) : (show FVec Ideal S8x6x1x256 .f32 from V c main_v25) (ix4 b h 0 d) = N0 (ix3 b h d)
  m (b : Fin 8) (h : Fin 6) (l : Fin 128) : (show FVec Ideal S8x6x1x128 .f32 from V c main_v27) (ix4 b h 0 l) = M0 (ix2 b h)

/-- The query block. -/
theorem blk1 (t : Fin cfg3.N) (a : Fin 8) (d : Fin 256) : iblk3 V c 1 t (ix2 a d) = Spec.q (U V c) (sq t) (hd t) a d := by
  unfold Spec.q; blk_ext [iblk3, idx t]

/-- The key block. -/
abbrev x2 (t : Fin cfg3.N) : Vec Ideal S8x256 .f32 := iblk3 V c 2 t

/-- The key block, scaled. -/
theorem blk2 (t : Fin cfg3.N) (a : Fin 8) (d : Fin 256) :
    x2 V c t (ix2 a d) * Ideal.ofBits .f32 0x3D800000#32 = Spec.k (U V c) (sq t) (hd t) a d := by
  unfold Spec.k; refine congrArg (fun x : EReal => x * _) ?_; unfold x2; blk_ext [iblk3, idx t]

/-- The value block. -/
theorem blk3 (t : Fin cfg3.N) (a : Fin 8) (j : Fin 512) : iblk3 V c 3 t (ix2 a j) = Spec.v (U V c) (sq t) (hd t) a j := by
  unfold Spec.v; blk_ext [iblk3, idx t]

/-- The output-gate block. -/
theorem blk4 (t : Fin cfg3.N) (a : Fin 8) (j : Fin 512) : iblk3 V c 4 t (ix2 a j) = Spec.og (U V c) (sq t) (hd t) a j := by
  unfold Spec.og; blk_ext [iblk3, idx t]

/-- The input-gate block. -/
theorem blk5 (E : Entry V c G N0 M0) (t : Fin cfg3.N) (s : Fin 8) :
    iblk3 V c 5 t (ix4 0 0 0 s) = G (ix2 ⟨(hd t).val, by omega⟩ (Spec.row (sq t) s)) := by
  refine Eq.trans ?_ (E.gi (hd t) (sq t) s)
  blk_ext [iblk3, idx t]

/-- The forget-gate block. -/
theorem blk6 (E : Entry V c G N0 M0) (t : Fin cfg3.N) (s : Fin 8) :
    iblk3 V c 6 t (ix4 0 0 0 s) = G (ix2 ⟨6 + (hd t).val, by omega⟩ (Spec.row (sq t) s)) := by
  refine Eq.trans ?_ (E.gf (hd t) (sq t) s)
  blk_ext [iblk3, idx t]

/-- The block of the carried matrix. -/
theorem blk7 (t : Fin cfg3.N) (d : Fin 256) (j : Fin 512) : iblk3 V c 7 t (ix4 0 0 d j) = C0 V c (ix4 (sq t) (hd t) d j) := by
  blk_ext [iblk3, idx t]

/-- The block of the carried normalizer. -/
theorem blk8 (E : Entry V c G N0 M0) (t : Fin cfg3.N) (d : Fin 256) : iblk3 V c 8 t (ix4 0 0 0 d) = N0 (ix3 (sq t) (hd t) d) := by
  refine Eq.trans ?_ (E.n (sq t) (hd t) d)
  blk_ext [iblk3, idx t]

/-- The block of the carried maximum. -/
theorem blk9 (E : Entry V c G N0 M0) (t : Fin cfg3.N) (s : Fin 128) : iblk3 V c 9 t (ix4 0 0 0 s) = M0 (ix2 (sq t) (hd t)) := by
  refine Eq.trans ?_ (E.m (sq t) (hd t) s)
  blk_ext [iblk3, idx t]

/-- The input gate's bias word. -/
abbrev bi (t : Fin cfg3.N) (h : 0 < (Rect.unit (s := S12) (k3_off1 (grid3.coords t)) ![1] (k3_off1_inb (grid3.coords t))).shape.numel) : Elt Ideal .f32 :=
  View.ld (iblk3 V c 0 t : Vec Ideal S12 .f32) (Rect.unit (k3_off1 (grid3.coords t)) ![1] (k3_off1_inb (grid3.coords t))) (Shape.Idx.first h)

/-- The forget gate's bias word. -/
abbrev bf (t : Fin cfg3.N) (h : 0 < (Rect.unit (s := S12) (k3_off2 (grid3.coords t)) ![1] (k3_off2_inb (grid3.coords t))).shape.numel) : Elt Ideal .f32 :=
  View.ld (iblk3 V c 0 t : Vec Ideal S12 .f32) (Rect.unit (k3_off2 (grid3.coords t)) ![1] (k3_off2_inb (grid3.coords t))) (Shape.Idx.first h)

/-- The input gate's bias word. -/
theorem bi_eq (t : Fin cfg3.N) (h) : bi V c t h = B V c (ix1 ⟨(hd t).val, by omega⟩) := by
  show View.ld (iblk3 V c 0 t : Vec Ideal S12 .f32) _ _ = _
  blk_simp [iblk3, View.ld]
  congr 1
  funext a
  have ha : a = (0 : Fin 1) := Subsingleton.elim (α := Fin 1) _ _
  subst ha
  apply Fin.ext
  blk_simp [idx t]
  show (k3_off1 (grid3.coords t)) 0 + 1 * 0 = _
  rw [(offs t).1]; rfl

/-- The forget gate's bias word. -/
theorem bf_eq (t : Fin cfg3.N) (h) : bf V c t h = B V c (ix1 ⟨6 + (hd t).val, by omega⟩) := by
  show View.ld (iblk3 V c 0 t : Vec Ideal S12 .f32) _ _ = _
  blk_simp [iblk3, View.ld]
  congr 1
  funext a
  have ha : a = (0 : Fin 1) := Subsingleton.elim (α := Fin 1) _ _
  subst ha
  apply Fin.ext
  blk_simp [idx t]
  show (k3_off2 (grid3.coords t)) 0 + 1 * 0 = _
  rw [(offs t).2.1]; rfl

/-- The carried maximum, read back from the block it was copied to. -/
abbrev mc (t : Fin cfg3.N) : Vec Ideal S1x1x1x1 .f32 := (ms3_13 t).view.readCov
  [⟨Rect.unit ![0, 0, 0, 0] ![1, 1, 1, 128] inb_S1x1x1x128_S1x1x1x128_0_0_0_0, k3_pay4 (F := Ideal) (iblk3 V c 9 t)⟩]
  (Rect.unit ![0, 0, 0, 0] ![1, 1, 1, 1] inb_S1x1x1x128_S1x1x1x1_0_0_0_0).toLoadRect

/-- The carried maximum is that of the point's sequence and head. -/
theorem mc_eq (E : Entry V c G N0 M0) (t : Fin cfg3.N) : mc V c t (ix4 0 0 0 0) = M0 (ix2 (sq t) (hd t)) := by
  have := congrFun (View.readCov_fill (Val := Elt Ideal) (ms3_13 t).view inb_S1x1x1x128_S1x1x1x128_0_0_0_0 (k3_pay4 (F := Ideal) (iblk3 V c 9 t)) []
     (Rect.unit ![0, 0, 0, 0] ![1, 1, 1, 1] inb_S1x1x1x128_S1x1x1x1_0_0_0_0) (by intro a; fin_cases a <;> rfl)) (ix4 0 0 0 0)
  refine this.trans (Eq.trans ?_ (blk9 V c G N0 M0 E t 0))
  pointwise [View.ld, k3_pay4]
  blk_ext

/-- The padded input gates. -/
theorem gateI_eq (E : Entry V c G N0 M0) (t : Fin cfg3.N) (h) : gateI (iblk3 V c 5 t) (bi V c t h) = Spec.igP G (B V c) (sq t) (hd t) := by
  funext s
  exact congrArg₂ (fun x y : EReal => x + y) (dite_congr rfl (fun hs => blk5 V c G N0 M0 E t ⟨s.val, hs⟩) fun _ => rfl) (bi_eq V c t h)

/-- The padded forget gates. -/
theorem gateF_eq (E : Entry V c G N0 M0) (t : Fin cfg3.N) (h) : gateF (iblk3 V c 6 t) (bf V c t h) = Spec.fgP G (B V c) (sq t) (hd t) := by
  funext s
  exact congrArg₂ (fun x y : EReal => x + y) (dite_congr rfl (fun hs => blk6 V c G N0 M0 E t ⟨s.val, hs⟩) fun _ => rfl) (bf_eq V c t h)

/-- The query rows. -/
theorem rows1 (t : Fin cfg3.N) (s : Fin 8) : rows (D := 256) (iblk3 V c 1 t) (Fin.castLE (by norm_num : 8 ≤ 128) s) = Spec.q (U V c) (sq t) (hd t) s := by
  funext d
  exact (dif_pos s.isLt).trans (blk1 V c t s d)

/-- The key rows. -/
theorem keys2 (t : Fin cfg3.N) (s : Fin 8) : keys (iblk3 V c 2 t) (Fin.castLE (by norm_num : 8 ≤ 128) s) = Spec.k (U V c) (sq t) (hd t) s := by
  funext d
  exact (congrArg (fun x : EReal => x * _) (dif_pos s.isLt)).trans (blk2 V c t s d)

/-- The value rows. -/
theorem rows3 (t : Fin cfg3.N) (s : Fin 8) (j : Fin 512) :
    rows (D := 512) (iblk3 V c 3 t) (Fin.castLE (by norm_num : 8 ≤ 128) s) j = Spec.v (U V c) (sq t) (hd t) s j := by
  exact (dif_pos s.isLt).trans (blk3 V c t s j)

/-- The constant zero. -/
theorem hz : (FloatOps.ofBits (F := Ideal) FTy.f32 0#32) = (0 : EReal) := by
  show Ideal.ofBits .f32 0#32 = 0
  simp [Ideal.ofBits, Ideal.ieee]

/-- Seven is the greatest of eight rows. -/
theorem le7 : ∀ s : Fin 8, s ≤ 7 := by decide
/-- 127 is the greatest of 128 rows. -/
theorem le127 : ∀ s : Fin 128, s ≤ 127 := by decide

/-- The copied matrix is the matrix. -/
theorem pay2_at (x : Vec Ideal S1x1x256x512 .f32) (d : Fin 256) (j : Fin 512) : k3_pay2 (F := Ideal) x (ix4 0 0 d j) = x (ix4 0 0 d j) := by
  pointwise [k3_pay2]

/-- The copied normalizer is the normalizer. -/
theorem pay8_at (x : Vec Ideal S1x1x1x256 .f32) (d : Fin 256) : k3_pay3 (F := Ideal) x (ix4 0 0 0 d) = x (ix4 0 0 0 d) := by
  pointwise [k3_pay3]

/-- The stored block of the output rows, in the whole array. -/
theorem tok_at (t : Fin cfg3.N) (a : Fin 8) (j : Fin 512) :
    Spec.tokArr (U V c) G (B V c) (C0 V c) N0 M0 (((View.whole main_v28_0).slice (win3_10.rect t)).emb (ix2 a j))
      = Spec.tok (U V c) G (B V c) (C0 V c) N0 M0 (sq t) (hd t) a j := by
  have h0 : ((((View.whole main_v28_0).slice (win3_10.rect t)).emb (ix2 a j)) 0).val = 8 * (t.val / 6) + a.val := by
    blk_simp [idx t]; omega
  have h1 : ((((View.whole main_v28_0).slice (win3_10.rect t)).emb (ix2 a j)) 1).val = 512 * (t.val % 6) + j.val := by
    blk_simp [idx t]; omega
  unfold Spec.tokArr
  congr 1 <;> apply Fin.ext
  · exact (congrArg (· / 8) h0).trans (by show (8 * (t.val / 6) + a.val) / 8 = t.val / 6; omega)
  · exact (congrArg (· / 512) h1).trans (by show (512 * (t.val % 6) + j.val) / 512 = t.val % 6; omega)
  · exact (congrArg (· % 8) h0).trans (by show (8 * (t.val / 6) + a.val) % 8 = a.val; omega)
  · exact (congrArg (· % 512) h1).trans (by show (512 * (t.val % 6) + j.val) % 512 = j.val; omega)

/-- The output rows after the run. -/
theorem final10 (E : Entry V c G N0 M0) : (dat3 V c).arrAt 10 cfg3.N = Spec.tokArr (U V c) G (B V c) (C0 V c) N0 M0 := by
  refine (dat3 V c).arrAt_eq_of_covers 10 _ (by decide +kernel) fun t _ y => ?_
  blk_simp
  rw [after3_10]; unfold outsAt3; frame_out
  idx_vars y
  refine Eq.trans ?_ (tok_at V c G N0 M0 t y0 y1).symm
  refine (Pay.tok_at (iblk3 V c 1 t) (iblk3 V c 2 t) (iblk3 V c 3 t) (iblk3 V c 4 t) (iblk3 V c 5 t) (iblk3 V c 6 t) (bi V c t _) (bf V c t _)
    (k3_pay2 (iblk3 V c 7 t)) (k3_pay3 (iblk3 V c 8 t)) (mc V c t) y0 y1).trans ?_
  rw [gateI_eq V c G N0 M0 E, gateF_eq V c G N0 M0 E, mc_eq V c G N0 M0 E, (Spec.padded _ _ _ _).hid (rows1 V c t) (keys2 V c t) _ _ (fun s => rows3 V c t s y1)]
  unfold Spec.tok
  refine congrArg₂ (fun x y : EReal => Ideal.logistic x * y) (blk4 V c t y0 y1) ?_
  congr 1
  · funext d; exact (pay2_at _ d y1).trans (blk7 V c t d y1)
  · funext d; exact (pay8_at _ d).trans (blk8 V c G N0 M0 E t d)

/-- The stored matrix, in the whole array. -/
theorem c_at (t : Fin cfg3.N) (d : Fin 256) (j : Fin 512) :
    Spec.cArr (U V c) G (B V c) (C0 V c) M0 (((View.whole main_v28_1).slice (win3_11.rect t)).emb (ix4 0 0 d j))
      = Spec.c (U V c) G (B V c) (C0 V c) M0 (sq t) (hd t) d j := by
  unfold Spec.cArr
  congr 1 <;> apply Fin.ext <;> (blk_simp [idx t]; try first | omega | rfl)

/-- The matrices after the run. -/
theorem final11 (E : Entry V c G N0 M0) : (dat3 V c).arrAt 11 cfg3.N = Spec.cArr (U V c) G (B V c) (C0 V c) M0 := by
  refine (dat3 V c).arrAt_eq_of_covers 11 _ (by decide +kernel) fun t _ y => ?_
  blk_simp
  rw [after3_11]; frame_out
  idx_vars y
  obtain rfl : y0 = 0 := Subsingleton.elim _ _
  obtain rfl : y1 = 0 := Subsingleton.elim _ _
  refine Eq.trans ?_ (c_at V c G M0 t y2 y3).symm
  refine (Pay.c_at (iblk3 V c 2 t) (iblk3 V c 3 t) (iblk3 V c 5 t) (iblk3 V c 6 t) (bi V c t _) (bf V c t _)
    (k3_pay2 (iblk3 V c 7 t)) (mc V c t) y2 y3).trans ?_
  rw [gateI_eq V c G N0 M0 E, gateF_eq V c G N0 M0 E, mc_eq V c G N0 M0 E, (Spec.padded _ _ _ _).cNew _ 7 127 le7 le127 _ _ _ _
    (fun s => congrFun (keys2 V c t s) y2) (fun s => rows3 V c t s y3)]
  unfold Spec.c
  congr 1
  exact (pay2_at _ y2 y3).trans (blk7 V c t y2 y3)

/-- The stored normalizer, in the whole array. -/
theorem n_at (t : Fin cfg3.N) (d : Fin 256) :
    Spec.nArr (U V c) G (B V c) N0 M0 (((View.whole main_v28_2).slice (win3_12.rect t)).emb (ix4 0 0 0 d))
      = Spec.n (U V c) G (B V c) N0 M0 (sq t) (hd t) d := by
  unfold Spec.nArr
  congr 1 <;> apply Fin.ext <;> (blk_simp [idx t]; try first | omega | rfl)

/-- The normalizers after the run. -/
theorem final12 (E : Entry V c G N0 M0) : (dat3 V c).arrAt 12 cfg3.N = Spec.nArr (U V c) G (B V c) N0 M0 := by
  refine (dat3 V c).arrAt_eq_of_covers 12 _ (by decide +kernel) fun t _ y => ?_
  blk_simp
  rw [after3_12]; frame_out
  idx_vars y
  obtain rfl : y0 = 0 := Subsingleton.elim _ _
  obtain rfl : y1 = 0 := Subsingleton.elim _ _
  obtain rfl : y2 = 0 := Subsingleton.elim _ _
  refine Eq.trans ?_ (n_at V c G N0 M0 t y3).symm
  refine (Pay.n_at (iblk3 V c 2 t) (iblk3 V c 5 t) (iblk3 V c 6 t) (bi V c t _) (bf V c t _)
    (k3_pay3 (iblk3 V c 8 t)) (mc V c t) y3).trans ?_
  rw [gateI_eq V c G N0 M0 E, gateF_eq V c G N0 M0 E, mc_eq V c G N0 M0 E, (Spec.padded _ _ _ _).nNew _ 7 127 le7 le127 _ _
    (fun s => congrFun (keys2 V c t s) y3)]
  unfold Spec.n
  congr 1
  exact (pay8_at _ y3).trans (blk8 V c G N0 M0 E t y3)

/-- The stored maximum, in the whole array. -/
theorem m_at (t : Fin cfg3.N) (l : Fin 128) :
    Spec.mArr G (B V c) M0 (((View.whole main_v28_3).slice (win3_13.rect t)).emb (ix4 0 0 0 l))
      = Spec.m G (B V c) M0 (sq t) (hd t) := by
  unfold Spec.mArr
  congr 1 <;> apply Fin.ext <;> (blk_simp [idx t]; try first | omega | rfl)

/-- The maxima after the run. -/
theorem final13 (E : Entry V c G N0 M0) : (dat3 V c).arrAt 13 cfg3.N = Spec.mArr G (B V c) M0 := by
  refine (dat3 V c).arrAt_eq_of_covers 13 _ (by decide +kernel) fun t _ y => ?_
  blk_simp
  rw [after3_13]; frame_out
  idx_vars y
  obtain rfl : y0 = 0 := Subsingleton.elim _ _
  obtain rfl : y1 = 0 := Subsingleton.elim _ _
  obtain rfl : y2 = 0 := Subsingleton.elim _ _
  refine Eq.trans ?_ (m_at V c G M0 t y3).symm
  refine (Pay.m_at (iblk3 V c 5 t) (iblk3 V c 6 t) (bi V c t _) (bf V c t _) (mc V c t) y3).trans ?_
  rw [gateI_eq V c G N0 M0 E, gateF_eq V c G N0 M0 E, mc_eq V c G N0 M0 E, (Spec.padded _ _ _ _).mx_last _ 7 127 le7 le127]
  rfl

end Cert.InAIdeal.Rec
-- ==== Proof.InARun.lean ====
/- The first layer's mixer of the sample group: its five results as functions of its six arguments. -/
module
public import proofs.«01_k».proof.Proof.InAArr
public import proofs.«01_k».proof.Proof.InARec
public import Idealize.ShloMosaic.Lib.Claim
public import Idealize.ShloMosaic.Lib.KernelVsHost
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.InAIdeal.Run
open Idealize.ShloMosaic.Rounds
open Cert.InAIdeal Cert.InAIdeal.Gen Cert.InAIdeal.Arr

/-! ## The arguments, as the recurrence takes them -/

/-- Column `n` of the projection of row `s`: its sequence is `s / 8`, its place in it `s % 8`. -/
def proj (x : FVec Ideal S8x8x4096 .f32) (w : FVec Ideal S1x4096x10252 .f32) (s : Fin 64) (n : Fin 10252) : EReal :=
  ∑ a : Fin 4096, x (ix3 (⟨s.val / 8, by omega⟩ : Fin 8) (⟨s.val % 8, by omega⟩ : Fin 8) a) * w (ix3 0 a n)

/-- The token projections: the first 9216 columns. -/
def tokP (x : FVec Ideal S8x8x4096 .f32) (w : FVec Ideal S1x4096x10252 .f32) (i : S64x9216.Idx) : EReal :=
  proj x w (i 0) ⟨(i 1).val, Nat.lt_trans (i 1).isLt (by decide)⟩

/-- The gates' projections, transposed: the next twelve columns. -/
def gateP (x : FVec Ideal S8x8x4096 .f32) (w : FVec Ideal S1x4096x10252 .f32) (i : S12x64.Idx) : EReal :=
  proj x w (i 1) ⟨9216 + (i 0).val, Nat.lt_trans (Nat.add_lt_add_left (i 0).isLt 9216) (by decide)⟩

/-- The memory queries: the last 1024 columns. -/
def memP (x : FVec Ideal S8x8x4096 .f32) (w : FVec Ideal S1x4096x10252 .f32) (i : S64x1024.Idx) : EReal :=
  proj x w (i 0) ⟨9228 + (i 1).val, Nat.add_lt_add_left (i 1).isLt 9228⟩

/-- The gates' bias of the only layer. -/
def b0 (b : FVec Ideal S1x12 .f32) (i : S12.Idx) : EReal := b (ix2 0 (i 0))

/-- The carried matrices of the only layer. -/
def c0 (x : FVec Ideal S1x8x6x256x512 .f32) (i : S8x6x256x512.Idx) : EReal := x (ix5 0 (i 0) (i 1) (i 2) (i 3))

/-- The carried normalizers of the only layer. -/
def n0 (x : FVec Ideal S1x8x6x256 .f32) (i : S8x6x256.Idx) : EReal := x (ix4 0 (i 0) (i 1) (i 2))

/-- The carried maxima of the only layer. -/
def m0 (x : FVec Ideal S1x8x6 .f32) (i : S8x6.Idx) : EReal := x (ix3 0 (i 0) (i 1))

local notation "𝕄" => MT nD τ sig Unit (Elt Ideal) ℕ (UR sig nD τ) ℕ

variable (m : (ℓ : Loc nD τ sig) → Buf (Elt Ideal) ℓ) (ρ : Dev nD → PrngReg)

/-- The stream. -/
abbrev ax (c : Dev nD) : FVec Ideal S8x8x4096 .f32 := m ((c : Thread nD τ).loc main_arg0)
/-- The mixer's weight. -/
abbrev aw (c : Dev nD) : FVec Ideal S1x4096x10252 .f32 := m ((c : Thread nD τ).loc main_arg1)
/-- The gates' bias. -/
abbrev ab (c : Dev nD) : FVec Ideal S12 .f32 := b0 (m ((c : Thread nD τ).loc main_arg2))
/-- The carried matrices. -/
abbrev ac (c : Dev nD) : FVec Ideal S8x6x256x512 .f32 := c0 (m ((c : Thread nD τ).loc main_arg3))
/-- The carried normalizers. -/
abbrev an (c : Dev nD) : FVec Ideal S8x6x256 .f32 := n0 (m ((c : Thread nD τ).loc main_arg4))
/-- The carried maxima. -/
abbrev am (c : Dev nD) : FVec Ideal S8x6 .f32 := m0 (m ((c : Thread nD τ).loc main_arg5))

/-! ## What the projections are entered with -/

/-- The rows of the stream. -/
theorem entry_x (c : Dev nD) (i : S64x4096.Idx) :
    V3 m ρ c main_v14 i = ax m c (ix3 (⟨(i 0).val / 8, by have := (i 0).isLt; change _ < 64 at this; omega⟩ : Fin 8) (⟨(i 0).val % 8, by omega⟩ : Fin 8) (i 1)) := by
  dsimp only [V3, W3, W2, W1]
  after_results_simp
  pointwise

/-- The narrowed rows of the stream. -/
theorem entry_xb (c : Dev nD) (i : S64x4096.Idx) :
    V3 m ρ c main_v15 i = ax m c (ix3 (⟨(i 0).val / 8, by have := (i 0).isLt; change _ < 64 at this; omega⟩ : Fin 8) (⟨(i 0).val % 8, by omega⟩ : Fin 8) (i 1)) := by
  dsimp only [V3, W3, W2, W1]
  after_results_simp
  pointwise

/-- The weight of the token projections. -/
theorem entry_wt (c : Dev nD) (i : S9216x4096.Idx) :
    V3 m ρ c main_v3 i = aw m c (ix3 0 (i 1) ⟨(i 0).val, Nat.lt_trans (i 0).isLt (by decide)⟩) := by
  dsimp only [V3, W3, W2, W1]
  after_results_simp
  pointwise

/-- The weight of the memory queries. -/
theorem entry_wm (c : Dev nD) (i : S1024x4096.Idx) :
    V3 m ρ c main_v6 i = aw m c (ix3 0 (i 1) ⟨9228 + (i 0).val, Nat.add_lt_add_left (i 0).isLt 9228⟩) := by
  dsimp only [V3, W3, W2, W1]
  after_results_simp
  pointwise

/-- The weight of the gates, before it is padded to whole lanes. -/
theorem entry_w12 (c : Dev nD) (g : Fin 12) (a : Fin 4096) :
    (show FVec Ideal S12x4096 .f32 from W1 m ρ c (Proc.devRef .tc main_v8)) (ix2 g a) = aw m c (ix3 0 a ⟨9216 + g.val, by omega⟩) := by
  dsimp only [W1]
  after_results_simp
  pointwise

/-- The weight of the gates: the first twelve rows of the padded array. -/
theorem entry_wg (c : Dev nD) (g : Fin 12) (a : Fin 4096) :
    V3 m ρ c main_v9 (ix2 ⟨g.val, by omega⟩ a) = aw m c (ix3 0 a ⟨9216 + g.val, by omega⟩) := by
  dsimp only [V3, W3, W2, W1]
  after_results_simp
  change pad S128x4096 ![0, 0] ![116, 0] ![0, 0] (_ : S12x4096.Idx → EReal) _ pads_S12x4096_S128x4096_01160_000 h_S_ _ = _
  refine (pad_apply_of_inside ![0, 0] ![116, 0] ![0, 0] _ _ _ h_S_ _ (ix2 g a) fun k => ?_).trans ?_
  · match k with
    | ⟨0, _⟩ => show g.val = 0 + g.val * (0 + 1); omega
    | ⟨1, _⟩ => show a.val = 0 + a.val * (0 + 1); omega
  exact entry_w12 m ρ c g a

/-- The bias. -/
theorem entry_b (c : Dev nD) : V3 m ρ c main_v10 = ab m c := by
  funext i
  dsimp only [V3, W3, W2, W1]
  after_results_simp
  pointwise [ab, b0]

/-- The carried matrices. -/
theorem entry_c (c : Dev nD) : V3 m ρ c main_v11 = ac m c := by
  funext i
  dsimp only [V3, W3, W2, W1]
  after_results_simp
  pointwise [ac, c0]

/-- The carried normalizers. -/
theorem entry_n (c : Dev nD) : V3 m ρ c main_v12 = an m c := by
  funext i
  dsimp only [V3, W3, W2, W1]
  after_results_simp
  pointwise [an, n0]

/-- The carried maxima. -/
theorem entry_m (c : Dev nD) : V3 m ρ c main_v13 = am m c := by
  funext i
  dsimp only [V3, W3, W2, W1]
  after_results_simp
  pointwise [am, m0]

/-! ## What the recurrence is entered with -/

/-- The token projections at the recurrence's entry. -/
theorem proj_tok (c : Dev nD) : V7 m ρ c main_v16 = tokP (ax m c) (aw m c) := by
  refine (W7_of m ρ c main_v16 (by decide)).trans ((W6_of m ρ c main_v16 (by decide)).trans
    ((W5_of m ρ c main_v16 (by decide)).trans (((W4_arr m ρ c 2).trans (final0 (V3 m ρ) c)).trans ?_)))
  funext i
  exact Finset.sum_congr rfl fun a _ => congrArg₂ (fun x y : EReal => x * y) (entry_xb m ρ c _) (entry_wt m ρ c _)

/-- The memory queries when the last projection is done. -/
theorem proj_mem (c : Dev nD) : W6 m ρ c (Proc.devRef .tc main_v17) = memP (ax m c) (aw m c) := by
  refine (W6_of m ρ c main_v17 (by decide)).trans (((W5_arr m ρ c 2).trans (final1 (V4 m ρ) c)).trans ?_)
  funext i
  exact Finset.sum_congr rfl fun a _ => congrArg₂ (fun x y : EReal => x * y)
    ((congrFun (W4_of m ρ c main_v15 (by decide)) _).trans (entry_xb m ρ c _))
    ((congrFun (W4_of m ρ c main_v6 (by decide)) _).trans (entry_wm m ρ c _))

/-- The gates' projections when the last projection is done. -/
theorem proj_gate (c : Dev nD) (g : Fin 12) (s : Fin 64) :
    (show FVec Ideal S64x128 .f32 from W6 m ρ c (Proc.devRef .tc main_v18)) (ix2 s ⟨g.val, by omega⟩)
      = gateP (ax m c) (aw m c) (ix2 g s) := by
  refine (congrFun ((W6_arr m ρ c 2).trans (final2 (V5 m ρ) c)) _).trans ?_
  exact Finset.sum_congr rfl fun a _ => congrArg₂ (fun x y : EReal => x * y)
    ((congrFun ((W5_of m ρ c main_v14 (by decide)).trans (W4_of m ρ c main_v14 (by decide))) _).trans (entry_x m ρ c _))
    ((congrFun ((W5_of m ρ c main_v9 (by decide)).trans (W4_of m ρ c main_v9 (by decide))) _).trans (entry_wg m ρ c g a))

/-- An array the projections leave alone, at the recurrence's entry. -/
theorem kept (c : Dev nD) (r : Ref sig .tc) (h4 : ∀ w : Fin cfg0.W, Pipeline.arrRef spec0 w = r → (cfg0.win w).isOut = false)
    (h5 : ∀ w : Fin cfg1.W, Pipeline.arrRef spec1 w = r → (cfg1.win w).isOut = false)
    (h6 : ∀ w : Fin cfg2.W, Pipeline.arrRef spec2 w = r → (cfg2.win w).isOut = false) :
    W6 m ρ c (Proc.devRef .tc r) = V3 m ρ c r :=
  (W6_of m ρ c r h6).trans ((W5_of m ρ c r h5).trans (W4_of m ρ c r h4))

/-- The recurrence finds its gates, normalizers and maxima in blocks. -/
theorem entry (c : Dev nD) : Rec.Entry (V7 m ρ) c (gateP (ax m c) (aw m c)) (an m c) (am m c) where
  gi h b s := by
    refine Eq.trans ?_ (proj_gate m ρ c ⟨h.val, by omega⟩ (Spec.row b s))
    dsimp only [V7, W7]
    after_results_simp
    pointwise
    rw [show Spec.row b s = ⟨b.val * 8 + s.val, by omega⟩ from Fin.ext (by show 8 * b.val + s.val = b.val * 8 + s.val; omega)]
  gf h b s := by
    refine Eq.trans ?_ (proj_gate m ρ c ⟨6 + h.val, by omega⟩ (Spec.row b s))
    dsimp only [V7, W7]
    after_results_simp
    pointwise
    rw [show Spec.row b s = ⟨b.val * 8 + s.val, by omega⟩ from Fin.ext (by show 8 * b.val + s.val = b.val * 8 + s.val; omega)]
  n b h d := by
    refine Eq.trans ?_ (congrFun ((kept m ρ c main_v12 (by decide) (by decide) (by decide)).trans (entry_n m ρ c)) (ix3 b h d))
    dsimp only [V7, W7]
    after_results_simp
    pointwise
  m b h l := by
    refine Eq.trans ?_ (congrFun ((kept m ρ c main_v13 (by decide) (by decide) (by decide)).trans (entry_m m ρ c)) (ix2 b h))
    dsimp only [V7, W7]
    after_results_simp
    pointwise

/-- The bias at the recurrence's entry. -/
theorem found_b (c : Dev nD) : Rec.B (V7 m ρ) c = ab m c :=
  (W7_of m ρ c main_v10 (by decide)).trans ((kept m ρ c main_v10 (by decide) (by decide) (by decide)).trans (entry_b m ρ c))

/-- The carried matrices at the recurrence's entry. -/
theorem found_c (c : Dev nD) : Rec.C0 (V7 m ρ) c = ac m c :=
  (W7_of m ρ c main_v11 (by decide)).trans ((kept m ρ c main_v11 (by decide) (by decide) (by decide)).trans (entry_c m ρ c))

/-! ## What the last boundary holds at the five results -/

/-- The output rows. -/
def tokR (c : Dev nD) : FVec Ideal S64x3072 .f32 :=
  Spec.tokArr (tokP (ax m c) (aw m c)) (gateP (ax m c) (aw m c)) (ab m c) (ac m c) (an m c) (am m c)

/-- The matrices. -/
def cR (c : Dev nD) : FVec Ideal S8x6x256x512 .f32 :=
  Spec.cArr (tokP (ax m c) (aw m c)) (gateP (ax m c) (aw m c)) (ab m c) (ac m c) (am m c)

/-- The normalizers. -/
def nR (c : Dev nD) : FVec Ideal S8x6x1x256 .f32 :=
  Spec.nArr (tokP (ax m c) (aw m c)) (gateP (ax m c) (aw m c)) (ab m c) (an m c) (am m c)

/-- The maxima. -/
def mR (c : Dev nD) : FVec Ideal S8x6x1x128 .f32 := Spec.mArr (gateP (ax m c) (aw m c)) (ab m c) (am m c)

/-- The output rows at the end. -/
theorem last_tok (c : Dev nD) : W9 m ρ c (Proc.devRef .tc main_v28_0) = tokR m c := by
  refine (W9_of m ρ c main_v28_0 (by decide)).trans (((W8_arr m ρ c 10).trans (Rec.final10 (V7 m ρ) c _ _ _ (entry m ρ c))).trans ?_)
  rw [found_b, found_c, show Rec.U (V7 m ρ) c = _ from proj_tok m ρ c]
  rfl

/-- The memory queries at the end. -/
theorem last_mem (c : Dev nD) : W9 m ρ c (Proc.devRef .tc main_v17) = memP (ax m c) (aw m c) :=
  (W9_of m ρ c main_v17 (by decide)).trans ((W8_of m ρ c main_v17 (by decide)).trans ((W7_of m ρ c main_v17 (by decide)).trans (proj_mem m ρ c)))

/-- The matrices at the end. -/
theorem last_c (c : Dev nD) : W9 m ρ c (Proc.devRef .tc main_v29) = fun i => cR m c (ix4 (i 1) (i 2) (i 3) (i 4)) := by
  have e : W8 m ρ c (Proc.devRef .tc main_v28_1) = cR m c := by
    refine ((W8_arr m ρ c 11).trans (Rec.final11 (V7 m ρ) c _ _ _ (entry m ρ c))).trans ?_
    rw [found_b, found_c, show Rec.U (V7 m ρ) c = _ from proj_tok m ρ c]
    rfl
  rw [← e]
  funext i
  dsimp only [W9]
  after_results_simp
  pointwise

/-- The normalizers at the end. -/
theorem last_n (c : Dev nD) : W9 m ρ c (Proc.devRef .tc main_v31) = fun i => nR m c (ix4 (i 1) (i 2) 0 (i 3)) := by
  have e : W8 m ρ c (Proc.devRef .tc main_v28_2) = nR m c := by
    refine ((W8_arr m ρ c 12).trans (Rec.final12 (V7 m ρ) c _ _ _ (entry m ρ c))).trans ?_
    rw [found_b, show Rec.U (V7 m ρ) c = _ from proj_tok m ρ c]
    rfl
  rw [← e]
  funext i
  dsimp only [W9]
  after_results_simp
  pointwise

/-- The maxima at the end. -/
theorem last_m (c : Dev nD) : W9 m ρ c (Proc.devRef .tc main_v34) = fun i => mR m c (ix4 (i 1) (i 2) 0 0) := by
  have e : W8 m ρ c (Proc.devRef .tc main_v28_3) = mR m c := by
    refine ((W8_arr m ρ c 13).trans (Rec.final13 (V7 m ρ) c _ _ _ (entry m ρ c))).trans ?_
    rw [found_b]
    rfl
  rw [← e]
  funext i
  dsimp only [W9]
  after_results_simp
  pointwise

/-! ## The run -/

set_option backward.isDefEq.respectTransparency.types false in
/-- Every execution ends with each buffer at the contents of the last boundary. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

/-- Every execution ends with the five results at their functions of the arguments, and the arguments as they were. -/
theorem run : θ_run defs (onTc (τ := τ) (main (F := Ideal))) ⟨m, fun _ => 0, ρ⟩ (fun r => ∀ c : Dev nD,
      r.2.mem ((c.tc : Thread nD τ).loc main_v28_0) = tokR m c
      ∧ r.2.mem ((c.tc : Thread nD τ).loc main_v17) = memP (ax m c) (aw m c)
      ∧ r.2.mem ((c.tc : Thread nD τ).loc main_v29) = (fun i => cR m c (ix4 (i 1) (i 2) (i 3) (i 4)))
      ∧ r.2.mem ((c.tc : Thread nD τ).loc main_v31) = (fun i => nR m c (ix4 (i 1) (i 2) 0 (i 3)))
      ∧ r.2.mem ((c.tc : Thread nD τ).loc main_v34) = (fun i => mR m c (ix4 (i 1) (i 2) 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_v28_0 (by decide))).trans (last_tok m ρ c),
      (h c _ (mem_uc main_v17 (by decide))).trans (last_mem m ρ c),
      (h c _ (mem_uc main_v29 (by decide))).trans (last_c m ρ c),
      (h c _ (mem_uc main_v31 (by decide))).trans (last_n m ρ c),
      (h c _ (mem_uc main_v34 (by decide))).trans (last_m m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c)⟩) (run_all m ρ)

end Cert.InAIdeal.Run
-- ==== Proof.InARef.lean ====
/- The reference of the first layer's mixer: its five results are the projections and the arrays of `Cert.Spec`. -/
module
public import proofs.«01_k».proof.Proof.InARun
public import proofs.«01_k».proof.Proof.MlstmRef
public import proofs.«01_k».proof.Proof.Gen.InARefIdeal.Read
@[expose] public section
set_option maxRecDepth 16384
noncomputable section
open Idealize.ShloMosaic Cert.InARefIdeal Cert.InARefIdeal.Gen Cert.InARefIdeal.Read
open Cert.InAIdeal.Run (proj tokP gateP memP b0 c0 n0 m0)
namespace Cert.InARefIdeal.Ref

variable (x0 : FVec Ideal S8x8x4096 .f32) (x1 : FVec Ideal S1x4096x10252 .f32) (x2 : FVec Ideal S1x12 .f32)
  (x3 : FVec Ideal S1x8x6x256x512 .f32) (x4 : FVec Ideal S1x8x6x256 .f32) (x5 : FVec Ideal S1x8x6 .f32)

/-! ## The recurrence's arguments -/

/-- The token projections. -/
theorem tokP_eq : val_main_v3 (F := Ideal) x0 x1 = tokP x0 x1 := by
  unfold val_main_v3 val_main_v2 val_main_v1 val_main_v0
  funext i
  pointwise [tokP, proj]

/-- The gates' projections. -/
theorem gateP_eq : val_main_v5 (F := Ideal) x0 x1 = gateP x0 x1 := by
  unfold val_main_v5 val_main_v4 val_main_v2 val_main_v1 val_main_v0
  funext i
  pointwise [gateP, proj]

/-- The memory queries. -/
theorem mem_eq : val_main_v119 (F := Ideal) x0 x1 = memP x0 x1 := by
  unfold val_main_v119 val_main_v2 val_main_v1 val_main_v0
  funext i
  pointwise [memP, proj]

/-- The bias. -/
theorem b0_eq : val_main_v6 (F := Ideal) x2 = b0 x2 := by
  unfold val_main_v6
  funext i
  pointwise [b0]

/-- The carried matrices. -/
theorem c0_eq : val_main_v7 (F := Ideal) x3 = c0 x3 := by
  unfold val_main_v7
  funext i
  pointwise [c0]

/-- The carried normalizers. -/
theorem n0_eq : val_main_v8 (F := Ideal) x4 = n0 x4 := by
  unfold val_main_v8
  funext i
  pointwise [n0]

/-- The carried maxima. -/
theorem m0_eq : val_main_v9 (F := Ideal) x5 = m0 x5 := by
  unfold val_main_v9
  funext i
  pointwise [m0]

/-! ## The recurrence is that of the mLSTM call's reference -/

/-- The maxima are the same operations on these arguments. -/
theorem m_stage : val_main_v80 (F := Ideal) x0 x1 x2 x5 = MlstmRefIdeal.Read.val_main_v70 (F := Ideal) (val_main_v5 x0 x1) (val_main_v6 x2) (val_main_v9 x5) := rfl

/-- The matrices likewise. -/
theorem c_stage : val_main_v101 (F := Ideal) x0 x1 x2 x3 x5
    = MlstmRefIdeal.Read.val_main_v91 (F := Ideal) (val_main_v3 x0 x1) (val_main_v5 x0 x1) (val_main_v6 x2) (val_main_v7 x3) (val_main_v9 x5) := rfl

/-- The normalizers likewise. -/
theorem n_stage : val_main_v109 (F := Ideal) x0 x1 x2 x4 x5
    = MlstmRefIdeal.Read.val_main_v99 (F := Ideal) (val_main_v3 x0 x1) (val_main_v5 x0 x1) (val_main_v6 x2) (val_main_v8 x4) (val_main_v9 x5) := rfl

/-- The output rows likewise. -/
theorem tok_stage : val_main_v118 (F := Ideal) x0 x1 x2 x3 x4 x5
    = MlstmRefIdeal.Read.val_main_v108 (F := Ideal) (val_main_v3 x0 x1) (val_main_v5 x0 x1) (val_main_v6 x2) (val_main_v7 x3) (val_main_v8 x4) (val_main_v9 x5) := rfl

/-! ## The five results -/

/-- The output rows. -/
theorem tok_eq : val_main_v118 (F := Ideal) x0 x1 x2 x3 x4 x5
    = Spec.tokArr (tokP x0 x1) (gateP x0 x1) (b0 x2) (c0 x3) (n0 x4) (m0 x5) := by
  rw [tok_stage, MlstmRefIdeal.Ref.tok_eq, tokP_eq, gateP_eq, b0_eq, c0_eq, n0_eq, m0_eq]

/-- The matrices. -/
theorem c_eq : val_main_v120 (F := Ideal) x0 x1 x2 x3 x5
    = fun i => Spec.cArr (tokP x0 x1) (gateP x0 x1) (b0 x2) (c0 x3) (m0 x5) (ix4 (i 1) (i 2) (i 3) (i 4)) := by
  funext i
  rw [val_main_v120_apply, c_stage, MlstmRefIdeal.Ref.c_eq, tokP_eq, gateP_eq, b0_eq, c0_eq, m0_eq]
  exact congrArg (Spec.cArr _ _ _ _ _) (eq_ix4 _)

/-- The normalizers. -/
theorem n_eq : val_main_v121 (F := Ideal) x0 x1 x2 x4 x5
    = fun i => Spec.nArr (tokP x0 x1) (gateP x0 x1) (b0 x2) (n0 x4) (m0 x5) (ix4 (i 1) (i 2) 0 (i 3)) := by
  funext i
  rw [val_main_v121_apply, n_stage, MlstmRefIdeal.Ref.n_at, tokP_eq, gateP_eq, b0_eq, n0_eq, m0_eq]
  rfl

/-- The maxima. -/
theorem m_eq : val_main_v122 (F := Ideal) x0 x1 x2 x5
    = fun i => Spec.mArr (gateP x0 x1) (b0 x2) (m0 x5) (ix4 (i 1) (i 2) 0 0) := by
  funext i
  rw [val_main_v122_apply, m_stage, MlstmRefIdeal.Ref.mlast_at, gateP_eq, b0_eq, m0_eq]
  rfl

end Cert.InARefIdeal.Ref
-- ==== Proof.InAClaim.lean ====
/- The claims about the first layer's mixer of the sample group. -/
module
public import proofs.«01_k».proof.Defs
public import proofs.«01_k».proof.Proof.InARef
public import proofs.«01_k».proof.Proof.Gen.InARefIdeal.Run
public import Idealize.ShloMosaic.Lib.Claim
@[expose] public section
set_option maxRecDepth 16384
noncomputable section
open Idealize.ShloMosaic Idealize.ShloMosaic.Rounds Idealize.SL.Sem
namespace Cert.Proof.InAClaim

/-- The reference runs, leaves its arguments as they were and its counters at zero. -/
theorem frame_ref : Cert.quiescent_InARefIdeal (hInARefIdeal := Cert.InARefIdeal.Gen.facts) := by
  intro m g _
  refine (θ_run _ _ _).mono (fun r h => ⟨fun c => ?_, sem_eq_zero_of_no_sems (by decide) r.2⟩) (Cert.InARefIdeal.Value.run m g)
  exact (h c).2.2.2.2.2

/-- The two named literals stand for the two infinities. -/
theorem preserves : Cert.preserves_InA_InAIdeal :=
  ⟨IdealRules.named_const.statement Cert.InAIdeal.κ "neg_big" .f32 0xF149F2CA#32 ⊥ rfl,
    IdealRules.named_const.statement Cert.InAIdeal.κ "pos_big" .f32 0x7149F2CA#32 ⊤ rfl⟩

/-- The kernel's five results are the reference's, as functions of the six arguments. -/
theorem algebraic : Cert.algebraic_InAIdeal_InARefIdeal (hInAIdeal := Cert.InAIdeal.Gen.facts)
    (hInARefIdeal := Cert.InARefIdeal.Gen.facts) := by
  intro m g m' g' _ hagree
  refine ⟨fun c => Cert.InAIdeal.Run.tokR m c, fun c => Cert.InAIdeal.Run.memP (Cert.InAIdeal.Run.ax m c) (Cert.InAIdeal.Run.aw m c),
    fun c i => Cert.InAIdeal.Run.cR m c (ix4 (i 1) (i 2) (i 3) (i 4)), fun c i => Cert.InAIdeal.Run.nR m c (ix4 (i 1) (i 2) 0 (i 3)),
    fun c i => Cert.InAIdeal.Run.mR m c (ix4 (i 1) (i 2) 0 0), Cert.InAIdeal.Run.run m g, ?_⟩
  refine (θ_run _ _ _).mono (fun r h c => ?_) (Cert.InARefIdeal.Value.run m' g')
  obtain ⟨a0, a1, a2, a3, a4, a5⟩ := hagree c
  obtain ⟨h0, h1, h2, h3, h4, hargs⟩ := h c
  have e0 : StableHlo.launchContents m' c (Proc.devRef .tc Cert.InARefIdeal.main_arg0) = m ((c.tc : Thread Cert.InAIdeal.nD Cert.InAIdeal.τ).loc Cert.InAIdeal.main_arg0) := a0
  have e1 : StableHlo.launchContents m' c (Proc.devRef .tc Cert.InARefIdeal.main_arg1) = m ((c.tc : Thread Cert.InAIdeal.nD Cert.InAIdeal.τ).loc Cert.InAIdeal.main_arg1) := a1
  have e2 : StableHlo.launchContents m' c (Proc.devRef .tc Cert.InARefIdeal.main_arg2) = m ((c.tc : Thread Cert.InAIdeal.nD Cert.InAIdeal.τ).loc Cert.InAIdeal.main_arg2) := a2
  have e3 : StableHlo.launchContents m' c (Proc.devRef .tc Cert.InARefIdeal.main_arg3) = m ((c.tc : Thread Cert.InAIdeal.nD Cert.InAIdeal.τ).loc Cert.InAIdeal.main_arg3) := a3
  have e4 : StableHlo.launchContents m' c (Proc.devRef .tc Cert.InARefIdeal.main_arg4) = m ((c.tc : Thread Cert.InAIdeal.nD Cert.InAIdeal.τ).loc Cert.InAIdeal.main_arg4) := a4
  have e5 : StableHlo.launchContents m' c (Proc.devRef .tc Cert.InARefIdeal.main_arg5) = m ((c.tc : Thread Cert.InAIdeal.nD Cert.InAIdeal.τ).loc Cert.InAIdeal.main_arg5) := a5
  refine ⟨h0.trans ?_, h1.trans ?_, h2.trans ?_, h3.trans ?_, h4.trans ?_, hargs⟩
  · refine (Cert.InARefIdeal.Read.val_main_v118_eq ..).trans (Eq.trans ?_ (Cert.InARefIdeal.Ref.tok_eq ..))
    rw [e0, e1, e2, e3, e4, e5]
  · refine (Cert.InARefIdeal.Read.val_main_v119_eq ..).trans (Eq.trans ?_ (Cert.InARefIdeal.Ref.mem_eq ..))
    rw [e0, e1]
  · refine (Cert.InARefIdeal.Read.val_main_v120_eq ..).trans (Eq.trans ?_ (Cert.InARefIdeal.Ref.c_eq ..))
    rw [e0, e1, e2, e3, e5]
  · refine (Cert.InARefIdeal.Read.val_main_v121_eq ..).trans (Eq.trans ?_ (Cert.InARefIdeal.Ref.n_eq ..))
    rw [e0, e1, e2, e4, e5]
  · refine (Cert.InARefIdeal.Read.val_main_v122_eq ..).trans (Eq.trans ?_ (Cert.InARefIdeal.Ref.m_eq ..))
    rw [e0, e1, e2, e5]

end Cert.Proof.InAClaim
-- ==== Proof.OutProjArr.lean ====
/- The array the output projection leaves, as a function of its arguments. -/
module
public import proofs.«01_k».proof.Proof.Gen.OutProjIdeal.Value
public import proofs.«01_k».proof.Proof.Dense
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.OutProjIdeal Cert.OutProjIdeal.Gen
namespace Cert.OutProjIdeal.Arr
variable (m : (ℓ : Loc nD τ sig) → Buf (Elt Ideal) ℓ) (c : Dev nD)

/-- Where the windows sit at grid point `t`: the weight's second matrix, whose last 1024 rows window 3 reads. -/
theorem idx : ∀ t : Fin cfg0.N, win0_0.index t = ![t.val / 8, 0] ∧ win0_1.index t = ![t.val / 8, 0]
    ∧ win0_2.index t = ![1, 0, t.val % 8] ∧ win0_3.index t = ![1, 3, t.val % 8] ∧ win0_4.index t = ![t.val / 8, t.val % 8] :=
  (by decide +kernel : ∀ t : Fin grid0.N, _)

/-- The projection of one token: the mixer's 3072 lanes and the memory's 1024 lanes, against the second matrix. -/
def mixed (x : FVec Ideal S8192x3072 .f32) (y : FVec Ideal S8192x1024 .f32) (w : FVec Ideal S2x4096x4096 .f32)
    (i : S8192x4096.Idx) : EReal :=
  (∑ a : Fin 3072, x (ix2 (i 0) a) * w (ix3 1 ⟨a.val, by omega⟩ (i 1)))
    + ∑ a : Fin 1024, y (ix2 (i 0) a) * w (ix3 1 ⟨3072 + a.val, by omega⟩ (i 1))

/-- Eight points share a block of rows. -/
theorem rows_lt : ∀ t : Fin cfg0.N, t.val / 8 < 16 := (by decide +kernel : ∀ t : Fin grid0.N, t.val / 8 < 16)

/-- The token that row `r` of point `t`'s block is. -/
abbrev tokRow (t : Fin cfg0.N) (r : Fin 512) : Fin 8192 := ⟨512 * (t.val / 8) + r.val, by have := rows_lt t; omega⟩

/-- The column of the weight that lane `j` of point `t`'s block is. -/
abbrev col (t : Fin cfg0.N) (j : Fin 512) : Fin 4096 := ⟨512 * (t.val % 8) + j.val, by omega⟩

/-- The mixer's block. -/
theorem blk0 (t : Fin cfg0.N) (r : Fin 512) (a : Fin 3072) : (iblk m c 0 t : Vec Ideal S512x3072 .f32) (ix2 r a)
    = (m ((c : Thread nD τ).loc main_arg0) : FVec Ideal S8192x3072 .f32) (ix2 (tokRow t r) a) := by
  blk_ext [iblk, V, idx t]

/-- The memory's block. -/
theorem blk1 (t : Fin cfg0.N) (r : Fin 512) (a : Fin 1024) : (iblk m c 1 t : Vec Ideal S512x1024 .f32) (ix2 r a)
    = (m ((c : Thread nD τ).loc main_arg1) : FVec Ideal S8192x1024 .f32) (ix2 (tokRow t r) a) := by
  blk_ext [iblk, V, idx t]

/-- The weight block that meets the mixer's lanes: the first 3072 rows of the second matrix. -/
theorem blk2 (t : Fin cfg0.N) (z : Fin 1) (a : Fin 3072) (j : Fin 512) :
    (X0_2 m c t : Vec Ideal S1x3072x512 .bf16) (ix3 z a j)
      = (m ((c : Thread nD τ).loc main_arg2) : FVec Ideal S2x4096x4096 .f32) (ix3 1 ⟨a.val, by omega⟩ (col t j)) := by
  show X0_2 m c t (ix3 z a j) = _
  unfold X0_2 Pipeline.Window.fill
  rw [dif_pos (moved0_2 t _)]
  blk_simp [iblk]
  entry_read
  pointwise
  blk_ext [idx t]

/-- The weight block that meets the memory's lanes: the last 1024 rows of the second matrix. -/
theorem blk3 (t : Fin cfg0.N) (z : Fin 1) (a : Fin 1024) (j : Fin 512) :
    (iblk m c 3 t : Vec Ideal S1x1024x512 .bf16) (ix3 z a j)
      = (m ((c : Thread nD τ).loc main_arg2) : FVec Ideal S2x4096x4096 .f32) (ix3 1 ⟨3072 + a.val, by omega⟩ (col t j)) := by
  show iblk m c 3 t (ix3 z a j) = _
  blk_simp [iblk]
  entry_read
  pointwise
  blk_ext [idx t]

/-- Where an index of point `t`'s block lies in the result. -/
theorem place (t : Fin cfg0.N) (y : S512x512.Idx) :
    ((View.whole main_v1).slice (win0_4.rect t)).emb y = ix2 (tokRow t (y 0)) (col t (y 1)) := by
  blk_ext [idx t]

/-- A block's product, at an index. -/
theorem pay_at (x : Vec Ideal S512x3072 .f32) (u : Vec Ideal S1x3072x512 .bf16) (y : Vec Ideal S512x1024 .f32)
    (w : Vec Ideal S1x1024x512 .bf16) (i : S512x512.Idx) : k0_pay1 x u y w i
      = (∑ a : Fin 3072, x (ix2 (i 0) a) * u (ix3 0 a (i 1))) + ∑ a : Fin 1024, y (ix2 (i 0) a) * w (ix3 0 a (i 1)) := by
  pointwise [k0_pay1]

/-- The projection the kernel leaves. -/
theorem final : (dats m 0 c).arrAt 4 cfg0.N = mixed (m ((c : Thread nD τ).loc main_arg0)) (m ((c : Thread nD τ).loc main_arg1))
    (m ((c : Thread nD τ).loc main_arg2)) := by
  refine (dats m 0 c).arrAt_eq_of_covers 4 _ (by decide +kernel) fun t _ y => ?_
  blk_simp
  rw [after0_4]; unfold outsAt0; frame_out
  refine (pay_at (iblk m c 0 t) (X0_2 m c t) (iblk m c 1 t) (iblk m c 3 t) y).trans ?_
  refine Eq.trans ?_ (congrArg _ (place t y).symm)
  exact congrArg₂ (fun p q : EReal => p + q)
    (Finset.sum_congr rfl fun a _ => congrArg₂ (fun p q : EReal => p * q) (blk0 m c t (y 0) a) (blk2 m c t 0 a (y 1)))
    (Finset.sum_congr rfl fun a _ => congrArg₂ (fun p q : EReal => p * q) (blk1 m c t (y 0) a) (blk3 m c t 0 a (y 1)))

end Cert.OutProjIdeal.Arr
-- ==== Proof.OutProjClaim.lean ====
/- The claims about the last layer's output projection. -/
module
public import proofs.«01_k».proof.Defs
public import proofs.«01_k».proof.Proof.OutProjArr
public import proofs.«01_k».proof.Proof.Gen.OutProjRefIdeal.Run
public import proofs.«01_k».proof.Proof.Gen.OutProjRefIdeal.Read
public import Idealize.ShloMosaic.Lib.Pipeline.ValueKit
public import Idealize.ShloMosaic.Lib.IdealHost
public import Idealize.ShloMosaic.Lib.Claim
@[expose] public section
set_option maxRecDepth 16384
noncomputable section
open Idealize.ShloMosaic Idealize.SL.Sem

namespace Cert.OutProjRefIdeal.Ref
open Cert.OutProjRefIdeal Cert.OutProjRefIdeal.Gen Cert.OutProjRefIdeal.Read
open Cert.OutProjIdeal.Arr (mixed)

variable (x0 : FVec Ideal S8192x3072 .f32) (x1 : FVec Ideal S8192x1024 .f32) (x2 : FVec Ideal S2x4096x4096 .f32)

/-- The joined lanes are the mixer's up to 3072. -/
theorem joined_left (t : Fin 8192) (a : Fin 3072) : val_main_v0 (F := Ideal) x0 x1 (ix2 t ⟨a.val, by omega⟩) = x0 (ix2 t a) := by
  unfold val_main_v0
  pointwise
  skip

/-- The joined lanes are the memory's from 3072 on. -/
theorem joined_right (t : Fin 8192) (a : Fin 1024) :
    val_main_v0 (F := Ideal) x0 x1 (ix2 t ⟨3072 + a.val, by omega⟩) = x1 (ix2 t a) := by
  unfold val_main_v0
  pointwise
  skip

/-- The weight is the second matrix of the stack. -/
theorem weight (a b : Fin 4096) : val_main_v2 (F := Ideal) x2 (ix2 a b) = x2 (ix3 1 a b) := by
  unfold val_main_v2 val_main_v1
  pointwise

/-- The projection: the sum over the 4096 joined lanes, split where they are joined. -/
theorem mixed_eq : val_main_v3 (F := Ideal) x0 x1 x2 = mixed x0 x1 x2 := by
  funext i
  have h : val_main_v3 (F := Ideal) x0 x1 x2 i
      = ∑ k : Fin (3072 + 1024), val_main_v0 (F := Ideal) x0 x1 (ix2 (i 0) k) * val_main_v2 (F := Ideal) x2 (ix2 k (i 1)) := by
    rw [val_main_v3_apply]
    refine Finset.sum_congr rfl fun k _ => congrArg₂ (fun p q : EReal => p * q) (congrArg _ ?_) (congrArg _ ?_)
      <;> funext a <;> fin_cases a <;> rfl
  rw [h, Fin.sum_univ_add]
  unfold mixed
  refine congrArg₂ (fun p q : EReal => p + q) (Finset.sum_congr rfl fun a _ => ?_) (Finset.sum_congr rfl fun a _ => ?_)
  · exact congrArg₂ (fun p q : EReal => p * q) (joined_left x0 x1 (i 0) a) (weight x2 _ (i 1))
  · exact congrArg₂ (fun p q : EReal => p * q) (joined_right x0 x1 (i 0) a) (weight x2 _ (i 1))

end Cert.OutProjRefIdeal.Ref

namespace Cert.Proof.OutProjClaim

/-- The reference runs, leaves its arguments as they were and its counters at zero. -/
theorem frame_ref : Cert.quiescent_OutProjRefIdeal (hOutProjRefIdeal := Cert.OutProjRefIdeal.Gen.facts) := by
  intro m g _
  refine (θ_run _ _ _).mono (fun r h => ⟨fun c => ?_, sem_eq_zero_of_no_sems (by decide) r.2⟩) (Cert.OutProjRefIdeal.Value.run m g)
  exact (h c).2

/-- The kernel's result is the reference's, as functions of the three arguments. -/
theorem algebraic : Cert.algebraic_OutProjIdeal_OutProjRefIdeal (hOutProjIdeal := Cert.OutProjIdeal.Gen.facts)
    (hOutProjRefIdeal := Cert.OutProjRefIdeal.Gen.facts) := by
  pair_intro
  · run_from Cert.OutProjIdeal.Value.run_blocks m g
  · run_from Cert.OutProjRefIdeal.Value.run m' g'
    exact (Cert.OutProjRefIdeal.Read.val_main_v3_eq ..).trans
      ((Cert.OutProjRefIdeal.Ref.mixed_eq ..).trans (Cert.OutProjIdeal.Arr.final m c).symm)

end Cert.Proof.OutProjClaim
-- ==== Proof.QueryArr.lean ====
/- What the two kernel regions of the last layer's queries leave, as functions of the arrays they are entered with. -/
module
public import proofs.«01_k».proof.Proof.Gen.QueryIdeal.Frame
public import proofs.«01_k».proof.Proof.Dense
public import Idealize.ShloMosaic.Lib.Pipeline.Value
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.QueryIdeal Cert.QueryIdeal.Gen Cert.Dense
namespace Cert.QueryIdeal.Arr
variable (V : (c : Dev nD) → (b : Ref sig .tc) → Buf (Elt Ideal) ((c : Thread nD τ).loc b)) (c : Dev nD)

/-- Where the windows of the normalization sit at grid point `t`. -/
theorem idx0 : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0] :=
  (by decide +kernel : ∀ t : Fin grid0.N, _)

/-- Where the windows of the projection sit at grid point `t`: the second matrix of the stack. -/
theorem idx1 : ∀ t : Fin cfg1.N, win1_0.index t = ![t.val / 2, 0] ∧ win1_1.index t = ![1, 0, t.val % 2]
    ∧ win1_2.index t = ![t.val / 2, t.val % 2] :=
  (by decide +kernel : ∀ t : Fin grid1.N, _)

/-- The layer's sum before its normalization: the scaled stream and the mixer's output. -/
def row (x y : FVec Ideal S8192x4096 .f32) (t : Fin 8192) (a : Fin 4096) : EReal :=
  Ideal.ofBits .f32 0x3FB504F3#32 * x (ix2 t a) + y (ix2 t a)

/-- The normalized stream. -/
def stream (x y : FVec Ideal S8192x4096 .f32) (g b : FVec Ideal S1x4096 .f32) (i : S8192x4096.Idx) : EReal :=
  lnorm (row x y (i 0)) (g (ix2 0 (i 1))) (b (ix2 0 (i 1))) (i 1)

/-- The second matrix of a stack. -/
def second (w : FVec Ideal S2x4096x1024 .bf16) (i : (⟨2, ![4096, 1024]⟩ : Shape).Idx) : EReal := w (ix3 1 (i 0) (i 1))

/-- The stream that the normalization leaves. -/
theorem final0_4 : (dat0 V c).arrAt 4 cfg0.N = stream (V c main_arg0) (V c main_arg1) (V c main_v4) (V c main_v5) := by
  refine (dat0 V c).arrAt_eq_of_covers 4 _ (by decide +kernel) fun t _ y => ?_
  blk_simp
  rw [after0_4]; frame_out
  pointwise [k0_pay1, stream, lnorm, mean, row]
  blk_point [iblk0, idx0 t]

/-- The narrowed stream: the same at the ideal values. -/
theorem final0_5 : (dat0 V c).arrAt 5 cfg0.N = stream (V c main_arg0) (V c main_arg1) (V c main_v4) (V c main_v5) := by
  refine (dat0 V c).arrAt_eq_of_covers 5 _ (by decide +kernel) fun t _ y => ?_
  blk_simp
  rw [after0_5]; frame_out
  pointwise [k0_pay2, k0_pay1, stream, lnorm, mean, row]
  blk_point [iblk0, idx0 t]

/-- The projection: the queries. -/
theorem final1 : (dat1 V c).arrAt 2 cfg1.N = prod (r := 8192) (k := 4096) (n := 1024) (V c main_v6_1) (second (V c main_v7)) := by
  refine (dat1 V c).arrAt_eq_of_covers 2 _ (by decide +kernel) fun t _ y => ?_
  blk_simp
  rw [after1_2]; frame_out
  pointwise [k1_pay1, prod, second]
  blk_point [iblk1, idx1 t]

end Cert.QueryIdeal.Arr
-- ==== Proof.QueryRun.lean ====
/- The queries' run: its two results as functions of its five arguments. -/
module
public import proofs.«01_k».proof.Proof.QueryArr
public import Idealize.ShloMosaic.Lib.Claim
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Dense

namespace Cert.QueryIdeal.Run
open Idealize.ShloMosaic.Rounds
open Cert.QueryIdeal Cert.QueryIdeal.Gen Cert.QueryIdeal.Arr

/-! ## The two results as functions of the five arguments -/

/-- The normalized stream, with the second row of the scales and of the shifts. -/
def sx (x y : FVec Ideal S8192x4096 .f32) (g b : FVec Ideal S2x4096 .f32) (i : S8192x4096.Idx) : EReal :=
  lnorm (row x y (i 0)) (g (ix2 1 (i 1))) (b (ix2 1 (i 1))) (i 1)

local notation "𝕄" => MT nD τ sig Unit (Elt Ideal) ℕ (UR sig nD τ) ℕ

variable (m : (ℓ : Loc nD τ sig) → Buf (Elt Ideal) ℓ) (ρ : Dev nD → PrngReg)

/-! ## What the regions are entered with -/

/-- The last layer's scale, as the row the normalization reads. -/
theorem entry_scale (c : Dev nD) (i : S1x4096.Idx) :
    V1 m ρ c main_v4 i = m ((c : Thread nD τ).loc main_arg2) (ix2 1 (i 1)) := by
  dsimp only [V1, W1]
  after_results_simp
  pointwise

/-- The last layer's shift, as the row the normalization reads. -/
theorem entry_shift (c : Dev nD) (i : S1x4096.Idx) :
    V1 m ρ c main_v5 i = m ((c : Thread nD τ).loc main_arg3) (ix2 1 (i 1)) := by
  dsimp only [V1, W1]
  after_results_simp
  pointwise

/-- The stream, as a function of the arguments. -/
theorem stream_entry (c : Dev nD) : stream (V1 m ρ c main_arg0) (V1 m ρ c main_arg1) (V1 m ρ c main_v4) (V1 m ρ c main_v5)
    = sx (m ((c : Thread nD τ).loc main_arg0)) (m ((c : Thread nD τ).loc main_arg1)) (m ((c : Thread nD τ).loc main_arg2))
        (m ((c : Thread nD τ).loc main_arg3)) := by
  funext i
  unfold stream sx
  rw [entry_scale, entry_shift]
  rfl

/-- The stream at the first region's exit. -/
theorem wide (c : Dev nD) : V2 m ρ c main_v6_0
    = sx (m ((c : Thread nD τ).loc main_arg0)) (m ((c : Thread nD τ).loc main_arg1)) (m ((c : Thread nD τ).loc main_arg2))
        (m ((c : Thread nD τ).loc main_arg3)) :=
  ((W2_arr m ρ c 4).trans (final0_4 (V1 m ρ) c)).trans (stream_entry m ρ c)

/-- The narrowed stream at the first region's exit. -/
theorem narrow (c : Dev nD) : V2 m ρ c main_v6_1
    = sx (m ((c : Thread nD τ).loc main_arg0)) (m ((c : Thread nD τ).loc main_arg1)) (m ((c : Thread nD τ).loc main_arg2))
        (m ((c : Thread nD τ).loc main_arg3)) :=
  ((W2_arr m ρ c 5).trans (final0_5 (V1 m ρ) c)).trans (stream_entry m ρ c)

/-- The narrowed weights at the projection's entry. -/
theorem entry_w (c : Dev nD) : V3 m ρ c main_v7 = (m ((c : Thread nD τ).loc main_arg4) : FVec Ideal S2x4096x1024 .f32) := by
  rw [← W2_args m ρ c main_arg4 (by decide)]
  funext i
  dsimp only [V3, W3]
  after_results_simp
  pointwise

/-! ## What the last boundary holds at the two results -/

/-- The stream. -/
theorem last_x (c : Dev nD) : W4 m ρ c (Proc.devRef .tc main_v6_0) = V2 m ρ c main_v6_0 :=
  (W4_of m ρ c main_v6_0 (by decide)).trans (W3_of m ρ c main_v6_0 (by decide))

/-- The queries. -/
theorem last_q (c : Dev nD) : W4 m ρ c (Proc.devRef .tc main_v8)
    = prod (r := 8192) (k := 4096) (n := 1024) (V2 m ρ c main_v6_1) (second (m ((c : Thread nD τ).loc main_arg4))) := by
  refine ((W4_arr m ρ c 2).trans (final1 (V3 m ρ) c)).trans ?_
  rw [entry_w m ρ c]
  exact congrArg (fun x => prod (r := 8192) (k := 4096) (n := 1024) x _) (W3_of m ρ c main_v6_1 (by decide))

/-! ## The run -/

set_option backward.isDefEq.respectTransparency.types false in
/-- Every execution ends with each buffer at the contents of the last boundary. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- Every execution ends with the two results at their functions of the arguments, and the arguments as they were. -/
theorem run : θ_run defs (onTc (τ := τ) (main (F := Ideal))) ⟨m, fun _ => 0, ρ⟩ (fun r => ∀ c : Dev nD,
      r.2.mem ((c.tc : Thread nD τ).loc main_v6_0) = V2 m ρ c main_v6_0
      ∧ r.2.mem ((c.tc : Thread nD τ).loc main_v8)
          = prod (r := 8192) (k := 4096) (n := 1024) (V2 m ρ c main_v6_1) (second (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨(h c _ (mem_uc main_v6_0 (by decide))).trans (last_x m ρ c),
      (h c _ (mem_uc main_v8 (by decide))).trans (last_q m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_all m ρ)

end Cert.QueryIdeal.Run
-- ==== Proof.QueryClaim.lean ====
/- The claims about the last layer's first normalization and the queries of its experts. -/
module
public import proofs.«01_k».proof.Defs
public import proofs.«01_k».proof.Proof.QueryRun
public import proofs.«01_k».proof.Proof.Gen.QueryRefIdeal.Run
public import proofs.«01_k».proof.Proof.Gen.QueryRefIdeal.Read
public import Idealize.ShloMosaic.Lib.Pipeline.ValueKit
public import Idealize.ShloMosaic.Lib.IdealHost
public import Idealize.ShloMosaic.Lib.Claim
@[expose] public section
set_option maxRecDepth 16384
noncomputable section
open Idealize.ShloMosaic Idealize.SL.Sem
open Cert.Dense

namespace Cert.QueryRefIdeal.Ref
open Cert.QueryRefIdeal Cert.QueryRefIdeal.Gen Cert.QueryRefIdeal.Read
open Cert.QueryIdeal.Run (sx)
open Cert.QueryIdeal.Arr (row second)

variable (x0 x1 : FVec Ideal S8192x4096 .f32) (x2 x3 : FVec Ideal S2x4096 .f32) (x4 : FVec Ideal S2x4096x1024 .f32)

/-- The normalized stream. -/
theorem x_eq : val_main_v30 (F := Ideal) x0 x1 x2 x3 = sx x0 x1 x2 x3 := by
  rw [← val_main_v30_eq]
  funext i
  pointwise [sx, lnorm, mean, row]

/-- The queries. -/
theorem q_eq : val_main_v33 (F := Ideal) x0 x1 x2 x3 x4 = prod (r := 8192) (k := 4096) (n := 1024) (sx x0 x1 x2 x3) (second x4) := by
  unfold val_main_v33 val_main_v32 val_main_v31
  rw [x_eq]
  funext i
  pointwise [prod, second]

end Cert.QueryRefIdeal.Ref

namespace Cert.Proof.QueryClaim

/-- The reference runs, leaves its arguments as they were and its counters at zero. -/
theorem frame_ref : Cert.quiescent_QueryRefIdeal (hQueryRefIdeal := Cert.QueryRefIdeal.Gen.facts) := by
  intro m g _
  refine (θ_run _ _ _).mono (fun r h => ⟨fun c => ?_, sem_eq_zero_of_no_sems (by decide) r.2⟩) (Cert.QueryRefIdeal.Value.run m g)
  exact (h c).2.2

/-- The kernel's two results are the reference's, as functions of the five arguments. -/
theorem algebraic : Cert.algebraic_QueryIdeal_QueryRefIdeal (hQueryIdeal := Cert.QueryIdeal.Gen.facts)
    (hQueryRefIdeal := Cert.QueryRefIdeal.Gen.facts) := by
  pair_intro
  · run_from Cert.QueryIdeal.Run.run m g
  · run_from Cert.QueryRefIdeal.Value.run m' g'
    · exact (Cert.QueryRefIdeal.Read.val_main_v30_eq ..).trans
        ((Cert.QueryRefIdeal.Ref.x_eq ..).trans (Cert.QueryIdeal.Run.wide m g c).symm)
    · rw [Cert.QueryIdeal.Run.narrow]
      exact (Cert.QueryRefIdeal.Read.val_main_v33_eq ..).trans (Cert.QueryRefIdeal.Ref.q_eq ..)

end Cert.Proof.QueryClaim
-- ==== Proof.SharedArr.lean ====
/- What the four kernel regions of the shared projections leave, as functions of the arrays they are entered with. -/
module
public import proofs.«01_k».proof.Proof.Gen.SharedIdeal.Frame
public import proofs.«01_k».proof.Proof.Dense
public import Idealize.ShloMosaic.Lib.Pipeline.Value
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.SharedIdeal Cert.SharedIdeal.Gen Cert.Dense
namespace Cert.SharedIdeal.Arr
variable (V : (c : Dev nD) → (b : Ref sig .tc) → Buf (Elt Ideal) ((c : Thread nD τ).loc b)) (c : Dev nD)

/-- Where the windows of the normalization sit at grid point `t`. -/
theorem idx0 : ∀ t : Fin cfg0.N, win0_0.index t = ![t.val, 0] ∧ win0_1.index t = ![0, t.val]
    ∧ win0_2.index t = ![0, 0] ∧ win0_3.index t = ![0, 0] ∧ win0_4.index t = ![t.val, 0] ∧ win0_5.index t = ![t.val, 0] :=
  (by decide +kernel : ∀ t : Fin grid0.N, _)

/-- Where the windows of the first projection sit at grid point `t`. -/
theorem idx1 : ∀ t : Fin cfg1.N, win1_0.index t = ![t.val / 6, 0] ∧ win1_1.index t = ![0, t.val % 6]
    ∧ win1_2.index t = ![t.val / 6, t.val % 6] :=
  (by decide +kernel : ∀ t : Fin grid1.N, _)

/-- Where the windows of the second projection sit at grid point `t`. -/
theorem idx2 : ∀ t : Fin cfg2.N, win2_0.index t = ![t.val / 6, 0] ∧ win2_1.index t = ![0, t.val % 6]
    ∧ win2_2.index t = ![t.val / 6, t.val % 6] :=
  (by decide +kernel : ∀ t : Fin grid2.N, _)

/-- Where the windows of the third projection sit at grid point `t`. -/
theorem idx3 : ∀ t : Fin cfg3.N, win3_0.index t = ![t.val / 8, 0] ∧ win3_1.index t = ![0, t.val % 8]
    ∧ win3_2.index t = ![t.val / 8, t.val % 8] :=
  (by decide +kernel : ∀ t : Fin grid3.N, _)

/-- The layer's sum before its normalization: the scaled stream and the transposed output of the experts. -/
def row (x : FVec Ideal S8192x4096 .f32) (y : FVec Ideal S4096x8192 .f32) (t : Fin 8192) (a : Fin 4096) : EReal :=
  Ideal.ofBits .f32 0x3FB504F3#32 * x (ix2 t a) + y (ix2 a t)

/-- The normalized stream. -/
def stream (x : FVec Ideal S8192x4096 .f32) (y : FVec Ideal S4096x8192 .f32) (g b : FVec Ideal S1x4096 .f32)
    (i : S8192x4096.Idx) : EReal :=
  lnorm (row x y (i 0)) (g (ix2 0 (i 1))) (b (ix2 0 (i 1))) (i 1)

/-- The stream that the normalization leaves. -/
theorem final0_4 : (dat0 V c).arrAt 4 cfg0.N = stream (V c main_arg0) (V c main_arg1) (V c main_v10) (V c main_v11) := by
  refine (dat0 V c).arrAt_eq_of_covers 4 _ (by decide +kernel) fun t _ y => ?_
  blk_simp
  rw [after0_4]; frame_out
  pointwise [k0_pay1, stream, lnorm, mean, row]
  blk_point [iblk0, idx0 t]

/-- The narrowed stream: the same at the ideal values. -/
theorem final0_5 : (dat0 V c).arrAt 5 cfg0.N = stream (V c main_arg0) (V c main_arg1) (V c main_v10) (V c main_v11) := by
  refine (dat0 V c).arrAt_eq_of_covers 5 _ (by decide +kernel) fun t _ y => ?_
  blk_simp
  rw [after0_5]; frame_out
  pointwise [k0_pay2, k0_pay1, stream, lnorm, mean, row]
  blk_point [iblk0, idx0 t]

/-- The first projection: the keys. -/
theorem final1 : (dat1 V c).arrAt 2 cfg1.N = prod (r := 8192) (k := 4096) (n := 3072) (V c main_v12_1) (V c main_v3) := by
  refine (dat1 V c).arrAt_eq_of_covers 2 _ (by decide +kernel) fun t _ y => ?_
  blk_simp
  rw [after1_2]; frame_out
  pointwise [k1_pay1, prod]
  blk_point [iblk1, idx1 t]

/-- The second projection: the values. -/
theorem final2 : (dat2 V c).arrAt 2 cfg2.N = prod (r := 8192) (k := 4096) (n := 3072) (V c main_v12_1) (V c main_v5) := by
  refine (dat2 V c).arrAt_eq_of_covers 2 _ (by decide +kernel) fun t _ y => ?_
  blk_simp
  rw [after2_2]; frame_out
  pointwise [k2_pay1, prod]
  blk_point [iblk2, idx2 t]

/-- The third projection: the last layer's mixer. -/
theorem final3 : (dat3 V c).arrAt 2 cfg3.N = prod (r := 8192) (k := 4096) (n := 4096) (V c main_v12_1) (V c main_v1) := by
  refine (dat3 V c).arrAt_eq_of_covers 2 _ (by decide +kernel) fun t _ y => ?_
  blk_simp
  rw [after3_2]; frame_out
  pointwise [k3_pay1, prod]
  blk_point [iblk3, idx3 t]
end Cert.SharedIdeal.Arr
-- ==== Proof.SharedRun.lean ====
/- The shared projections' run: its four results as functions of its six arguments. -/
module
public import proofs.«01_k».proof.Proof.SharedArr
public import Idealize.ShloMosaic.Lib.Claim
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Dense

namespace Cert.SharedIdeal.Run
open Idealize.ShloMosaic.Rounds
open Cert.SharedIdeal Cert.SharedIdeal.Gen Cert.SharedIdeal.Arr

/-! ## The four results as functions of the six arguments -/

/-- The normalized stream, with the first row of the scales and of the shifts. -/
def sx (x : FVec Ideal S8192x4096 .f32) (y : FVec Ideal S4096x8192 .f32) (g b : FVec Ideal S2x4096 .f32)
    (i : S8192x4096.Idx) : EReal :=
  lnorm (row x y (i 0)) (g (ix2 0 (i 1))) (b (ix2 0 (i 1))) (i 1)

/-- The weight of the keys: the first half of the columns. -/
def wk (w : FVec Ideal S4096x6144 .f32) (i : S4096x3072.Idx) : EReal :=
  w (ix2 (i 0) ⟨(i 1).val, Nat.lt_trans (i 1).isLt (by decide)⟩)

/-- The weight of the values: the second half of the columns. -/
def wv (w : FVec Ideal S4096x6144 .f32) (i : S4096x3072.Idx) : EReal :=
  w (ix2 (i 0) ⟨3072 + (i 1).val, Nat.add_lt_add_left (i 1).isLt 3072⟩)

/-- The weight of the mixer: the only matrix of the stack. -/
def wu (w : FVec Ideal S1x4096x4096 .f32) (i : S4096x4096.Idx) : EReal := w (ix3 0 (i 0) (i 1))

local notation "𝕄" => MT nD τ sig Unit (Elt Ideal) ℕ (UR sig nD τ) ℕ

variable (m : (ℓ : Loc nD τ sig) → Buf (Elt Ideal) ℓ) (ρ : Dev nD → PrngReg)

/-! ## What the regions are entered with -/

/-- The first layer's scale, as the row the normalization reads. -/
theorem entry_scale (c : Dev nD) (i : S1x4096.Idx) :
    V1 m ρ c main_v10 i = m ((c : Thread nD τ).loc main_arg2) (ix2 0 (i 1)) := by
  dsimp only [V1, W1]
  after_results_simp
  pointwise

/-- The first layer's shift, as the row the normalization reads. -/
theorem entry_shift (c : Dev nD) (i : S1x4096.Idx) :
    V1 m ρ c main_v11 i = m ((c : Thread nD τ).loc main_arg3) (ix2 0 (i 1)) := by
  dsimp only [V1, W1]
  after_results_simp
  pointwise

/-- The narrowed weight of the keys. -/
theorem entry_wk (c : Dev nD) : V1 m ρ c main_v3 = wk (m ((c : Thread nD τ).loc main_arg4)) := by
  funext i
  dsimp only [V1, W1]
  after_results_simp
  pointwise [wk]

/-- The narrowed weight of the values. -/
theorem entry_wv (c : Dev nD) : V1 m ρ c main_v5 = wv (m ((c : Thread nD τ).loc main_arg4)) := by
  funext i
  dsimp only [V1, W1]
  after_results_simp
  pointwise [wv]

/-- The narrowed weight of the mixer. -/
theorem entry_wu (c : Dev nD) : V1 m ρ c main_v1 = wu (m ((c : Thread nD τ).loc main_arg5)) := by
  funext i
  dsimp only [V1, W1]
  after_results_simp
  pointwise [wu]

/-- The stream, as a function of the arguments. -/
theorem stream_entry (c : Dev nD) : stream (V1 m ρ c main_arg0) (V1 m ρ c main_arg1) (V1 m ρ c main_v10) (V1 m ρ c main_v11)
    = sx (m ((c : Thread nD τ).loc main_arg0)) (m ((c : Thread nD τ).loc main_arg1)) (m ((c : Thread nD τ).loc main_arg2))
        (m ((c : Thread nD τ).loc main_arg3)) := by
  funext i
  unfold stream sx
  rw [entry_scale, entry_shift]
  rfl

/-- The narrowed stream at every projection's entry. -/
theorem narrow (c : Dev nD) : V2 m ρ c main_v12_1
    = sx (m ((c : Thread nD τ).loc main_arg0)) (m ((c : Thread nD τ).loc main_arg1)) (m ((c : Thread nD τ).loc main_arg2))
        (m ((c : Thread nD τ).loc main_arg3)) :=
  ((W2_arr m ρ c 5).trans (final0_5 (V1 m ρ) c)).trans (stream_entry m ρ c)

/-! ## What the last boundary holds at the four results -/

/-- The stream. -/
theorem last_x (c : Dev nD) : W5 m ρ c (Proc.devRef .tc main_v12_0)
    = sx (m ((c : Thread nD τ).loc main_arg0)) (m ((c : Thread nD τ).loc main_arg1)) (m ((c : Thread nD τ).loc main_arg2))
        (m ((c : Thread nD τ).loc main_arg3)) := by
  rw [W5_of m ρ c main_v12_0 (by decide), W4_of m ρ c main_v12_0 (by decide), W3_of m ρ c main_v12_0 (by decide)]
  exact ((W2_arr m ρ c 4).trans (final0_4 (V1 m ρ) c)).trans (stream_entry m ρ c)

/-- The keys. -/
theorem last_k (c : Dev nD) : W5 m ρ c (Proc.devRef .tc main_v13)
    = prod (r := 8192) (k := 4096) (n := 3072) (V2 m ρ c main_v12_1) (wk (m ((c : Thread nD τ).loc main_arg4))) := by
  rw [W5_of m ρ c main_v13 (by decide), W4_of m ρ c main_v13 (by decide)]
  refine ((W3_arr m ρ c 2).trans (final1 (V2 m ρ) c)).trans ?_
  rw [← entry_wk m ρ c]
  exact congrArg (prod (r := 8192) (k := 4096) (n := 3072) _) (W2_of m ρ c main_v3 (by decide))

/-- The values. -/
theorem last_v (c : Dev nD) : W5 m ρ c (Proc.devRef .tc main_v14)
    = prod (r := 8192) (k := 4096) (n := 3072) (V2 m ρ c main_v12_1) (wv (m ((c : Thread nD τ).loc main_arg4))) := by
  rw [W5_of m ρ c main_v14 (by decide)]
  refine ((W4_arr m ρ c 2).trans (final2 (V3 m ρ) c)).trans ?_
  rw [← entry_wv m ρ c]
  exact congrArg₂ (prod (r := 8192) (k := 4096) (n := 3072)) (W3_of m ρ c main_v12_1 (by decide))
    ((W3_of m ρ c main_v5 (by decide)).trans (W2_of m ρ c main_v5 (by decide)))

/-- The mixer's projections. -/
theorem last_u (c : Dev nD) : W5 m ρ c (Proc.devRef .tc main_v15)
    = prod (r := 8192) (k := 4096) (n := 4096) (V2 m ρ c main_v12_1) (wu (m ((c : Thread nD τ).loc main_arg5))) := by
  refine ((W5_arr m ρ c 2).trans (final3 (V4 m ρ) c)).trans ?_
  rw [← entry_wu m ρ c]
  exact congrArg₂ (prod (r := 8192) (k := 4096) (n := 4096))
    ((W4_of m ρ c main_v12_1 (by decide)).trans (W3_of m ρ c main_v12_1 (by decide)))
    ((W4_of m ρ c main_v1 (by decide)).trans ((W3_of m ρ c main_v1 (by decide)).trans (W2_of m ρ c main_v1 (by decide))))

/-! ## The run -/

set_option backward.isDefEq.respectTransparency.types false in
/-- Every execution ends with each buffer at the contents of the last boundary. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- Every execution ends with the four results at their functions of the arguments, and the arguments as they were. -/
theorem run : θ_run defs (onTc (τ := τ) (main (F := Ideal))) ⟨m, fun _ => 0, ρ⟩ (fun r => ∀ c : Dev nD,
      r.2.mem ((c.tc : Thread nD τ).loc main_v12_0) = V2 m ρ c main_v12_1
      ∧ r.2.mem ((c.tc : Thread nD τ).loc main_v13)
          = prod (r := 8192) (k := 4096) (n := 3072) (V2 m ρ c main_v12_1) (wk (m ((c : Thread nD τ).loc main_arg4)))
      ∧ r.2.mem ((c.tc : Thread nD τ).loc main_v14)
          = prod (r := 8192) (k := 4096) (n := 3072) (V2 m ρ c main_v12_1) (wv (m ((c : Thread nD τ).loc main_arg4)))
      ∧ r.2.mem ((c.tc : Thread nD τ).loc main_v15)
          = prod (r := 8192) (k := 4096) (n := 4096) (V2 m ρ c main_v12_1) (wu (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_v12_0 (by decide))).trans ((last_x m ρ c).trans (narrow m ρ c).symm),
      (h c _ (mem_uc main_v13 (by decide))).trans (last_k m ρ c),
      (h c _ (mem_uc main_v14 (by decide))).trans (last_v m ρ c),
      (h c _ (mem_uc main_v15 (by decide))).trans (last_u m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c)⟩) (run_all m ρ)

end Cert.SharedIdeal.Run
-- ==== Proof.SharedRef.lean ====
/- The reference's four results of the shared projections, as functions of its six arguments. -/
module
public import proofs.«01_k».proof.Proof.SharedRun
public import proofs.«01_k».proof.Proof.Gen.SharedRefIdeal.Read
public import Idealize.ShloMosaic.Lib.Pipeline.ValueKit
public import Idealize.ShloMosaic.Lib.IdealHost
@[expose] public section
set_option maxRecDepth 16384
noncomputable section
open Idealize.ShloMosaic Idealize.SL.Sem
open Cert.Dense

namespace Cert.SharedRefIdeal.Ref
open Cert.SharedRefIdeal Cert.SharedRefIdeal.Gen Cert.SharedRefIdeal.Read
open Cert.SharedIdeal.Run (sx wk wv wu)
open Cert.SharedIdeal.Arr (row)

variable (x0 : FVec Ideal S8192x4096 .f32) (x1 : FVec Ideal S4096x8192 .f32) (x2 x3 : FVec Ideal S2x4096 .f32)
  (x4 : FVec Ideal S4096x6144 .f32) (x5 : FVec Ideal S1x4096x4096 .f32)

/-- The normalized stream. -/
theorem x_eq : val_main_v31 (F := Ideal) x0 x1 x2 x3 = sx x0 x1 x2 x3 := by
  rw [← val_main_v31_eq]
  funext i
  pointwise [sx, lnorm, mean, row]

/-- The keys. -/
theorem k_eq : val_main_v33 (F := Ideal) x0 x1 x2 x3 x4 = prod (r := 8192) (k := 4096) (n := 3072) (sx x0 x1 x2 x3) (wk x4) := by
  unfold val_main_v33 val_main_v32
  rw [x_eq]
  funext i
  pointwise [prod, wk]

/-- The values. -/
theorem v_eq : val_main_v34 (F := Ideal) x0 x1 x2 x3 x4 = prod (r := 8192) (k := 4096) (n := 3072) (sx x0 x1 x2 x3) (wv x4) := by
  unfold val_main_v34 val_main_v32
  rw [x_eq]
  funext i
  pointwise [prod, wv]

/-- The mixer's projections. -/
theorem u_eq : val_main_v36 (F := Ideal) x0 x1 x2 x3 x5 = prod (r := 8192) (k := 4096) (n := 4096) (sx x0 x1 x2 x3) (wu x5) := by
  unfold val_main_v36 val_main_v35
  rw [x_eq]
  funext i
  pointwise [prod, wu]

end Cert.SharedRefIdeal.Ref
-- ==== Proof.SharedClaim.lean ====
/- The claims about the normalization after the first layer's experts and the three projections of its stream. -/
module
public import proofs.«01_k».proof.Defs
public import proofs.«01_k».proof.Proof.SharedRef
public import proofs.«01_k».proof.Proof.Gen.SharedRefIdeal.Run
public import Idealize.ShloMosaic.Lib.Claim
@[expose] public section
set_option maxRecDepth 16384
noncomputable section
open Idealize.ShloMosaic Idealize.SL.Sem

namespace Cert.Proof.SharedClaim

/-- The reference runs, leaves its arguments as they were and its counters at zero. -/
theorem frame_ref : Cert.quiescent_SharedRefIdeal (hSharedRefIdeal := Cert.SharedRefIdeal.Gen.facts) := by
  intro m g _
  refine (θ_run _ _ _).mono (fun r h => ⟨fun c => ?_, sem_eq_zero_of_no_sems (by decide) r.2⟩) (Cert.SharedRefIdeal.Value.run m g)
  exact (h c).2.2.2.2

/-- The kernel's four results are the reference's, as functions of the six arguments. -/
theorem algebraic : Cert.algebraic_SharedIdeal_SharedRefIdeal (hSharedIdeal := Cert.SharedIdeal.Gen.facts)
    (hSharedRefIdeal := Cert.SharedRefIdeal.Gen.facts) := by
  pair_intro
  · run_from Cert.SharedIdeal.Run.run m g
  · run_from Cert.SharedRefIdeal.Value.run m' g'
    · exact (Cert.SharedRefIdeal.Read.val_main_v31_eq ..).trans
        ((Cert.SharedRefIdeal.Ref.x_eq ..).trans (Cert.SharedIdeal.Run.narrow m g c).symm)
    · rw [Cert.SharedIdeal.Run.narrow]
      exact (Cert.SharedRefIdeal.Read.val_main_v33_eq ..).trans (Cert.SharedRefIdeal.Ref.k_eq ..)
    · rw [Cert.SharedIdeal.Run.narrow]
      exact (Cert.SharedRefIdeal.Read.val_main_v34_eq ..).trans (Cert.SharedRefIdeal.Ref.v_eq ..)
    · rw [Cert.SharedIdeal.Run.narrow]
      exact (Cert.SharedRefIdeal.Read.val_main_v36_eq ..).trans (Cert.SharedRefIdeal.Ref.u_eq ..)

end Cert.Proof.SharedClaim
-- ==== Proof.MemAttendArr.lean ====
/- What the two regions of the memory's attention leave, as functions of the arrays they are entered with. -/
module
public import proofs.«01_k».proof.Proof.Gen.MemAttendIdeal.Frame
public import proofs.«01_k».proof.Proof.Dense
public import Idealize.ShloMosaic.Lib.Pipeline.Value
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.MemAttendIdeal Cert.MemAttendIdeal.Gen Cert.Dense
namespace Cert.MemAttendIdeal.Arr
variable (V : (c : Dev nD) → (b : Ref sig .tc) → Buf (Elt Ideal) ((c : Thread nD τ).loc b)) (c : Dev nD)

/-- Where the windows of the projection sit at grid point `t`. -/
theorem idx0 : ∀ t : Fin cfg0.N, win0_0.index t = ![0, 0] ∧ win0_1.index t = ![0, t.val] ∧ win0_2.index t = ![0, t.val] :=
  (by decide +kernel : ∀ t : Fin grid0.N, _)

/-- Where the windows of the attention sit at grid point `t`. -/
theorem idx1 : ∀ t : Fin cfg1.N, win1_0.index t = ![t.val / 4, 12 + t.val % 4] ∧ win1_1.index t = ![t.val / 16, 0, 8 + t.val % 4]
    ∧ win1_2.index t = ![t.val / 16, 0, 12 + t.val % 4] ∧ win1_3.index t = ![t.val / 4, t.val % 4] :=
  (by decide +kernel : ∀ t : Fin grid1.N, _)

/-- The product the projection leaves. -/
theorem final0 : (dat0 V c).arrAt 2 cfg0.N = prod (r := 1024) (k := 4096) (n := 4096) (V c main_v7) (V c main_v5) := by
  refine (dat0 V c).arrAt_eq_of_covers 2 _ (by decide +kernel) fun t _ y => ?_
  blk_simp
  rw [after0_2]; frame_out
  pointwise [k0_pay1, prod]
  blk_point [iblk0, idx0 t]

/-- The logit of slot `s` for one row: query times key, scaled by the power of two `256 ^ (-1/2)`. -/
def logit (q : Fin 256 → EReal) (k : Fin 256 → Fin 256 → EReal) (s : Fin 256) : EReal :=
  (∑ d, q d * k s d) * Ideal.ofBits .f32 0x3D800000#32

/-- A row's attention over the memory's slots at one value column. -/
def att (q : Fin 256 → EReal) (k : Fin 256 → Fin 256 → EReal) (v : Fin 256 → EReal) : EReal :=
  ∑ s, softmax (logit q k) s * v s

/-- The attention of all rows, the four heads side by side: the queries are the last 1024 columns of `u`, the keys and the
    values the last two blocks of 1024 columns of `a`. -/
def attend (u : FVec Ideal S8192x4096 .f32) (a : FVec Ideal S4x256x4096 .f32) (b : Fin 4) (t : Fin 2048) (h : Fin 4) (e : Fin 256) : EReal :=
  att (fun d => u (ix2 ⟨2048 * b.val + t.val, by omega⟩ ⟨3072 + (256 * h.val + d.val), by omega⟩))
    (fun s d => a (ix3 b s ⟨2048 + (256 * h.val + d.val), by omega⟩)) (fun s => a (ix3 b s ⟨3072 + (256 * h.val + e.val), by omega⟩))

/-- The array of that. -/
def attendArr (u : FVec Ideal S8192x4096 .f32) (a : FVec Ideal S4x256x4096 .f32) (i : S8192x1024.Idx) : EReal :=
  attend u a ⟨(i 0).val / 2048, by have : (i 0).val < 8192 := (i 0).isLt; omega⟩ ⟨(i 0).val % 2048, by omega⟩
    ⟨(i 1).val / 256, by have : (i 1).val < 1024 := (i 1).isLt; omega⟩ ⟨(i 1).val % 256, by omega⟩

/-- A block's attention, at an index. -/
theorem pay_at (q : Vec Ideal S512x256 .f32) (k v : Vec Ideal S1x256x256 .f32) (i : S512x256.Idx) : k1_pay1 q k v i
    = att (fun d => q (ix2 (i 0) d)) (fun s d => k (ix3 0 s d)) (fun s => v (ix3 0 s (i 1))) := by
  pointwise [k1_pay1, att, softmax, logit]
  rw [neg_inf]

/-- There are 64 grid points. -/
theorem pts : ∀ t : Fin cfg1.N, t.val < 64 := (by decide +kernel : ∀ t : Fin grid1.N, t.val < 64)

/-- The sequence of point `t`. -/
abbrev seqOf (t : Fin cfg1.N) : Fin 4 := ⟨t.val / 16, by have := pts t; omega⟩

/-- The token that row `r` of point `t`'s block is. -/
abbrev tokOf (t : Fin cfg1.N) (r : Fin 512) : Fin 2048 := ⟨512 * (t.val / 4 % 4) + r.val, by omega⟩

/-- The head of point `t`. -/
abbrev headOf (t : Fin cfg1.N) : Fin 4 := ⟨t.val % 4, by omega⟩

/-- The query block. -/
theorem blk0 (t : Fin cfg1.N) (r : Fin 512) (d : Fin 256) : (iblk1 V c 0 t : Vec Ideal S512x256 .f32) (ix2 r d)
    = (V c main_arg0 : FVec Ideal S8192x4096 .f32) (ix2 ⟨2048 * (seqOf t).val + (tokOf t r).val, by have := pts t; omega⟩ ⟨3072 + (256 * (headOf t).val + d.val), by omega⟩) := by
  blk_ext [iblk1, idx1 t]

/-- The key block. -/
theorem blk1 (t : Fin cfg1.N) (z : Fin 1) (s d : Fin 256) : (iblk1 V c 1 t : Vec Ideal S1x256x256 .f32) (ix3 z s d)
    = (V c main_v9 : FVec Ideal S4x256x4096 .f32) (ix3 (seqOf t) s ⟨2048 + (256 * (headOf t).val + d.val), by omega⟩) := by
  blk_ext [iblk1, idx1 t]

/-- The value block. -/
theorem blk2 (t : Fin cfg1.N) (z : Fin 1) (s d : Fin 256) : (iblk1 V c 2 t : Vec Ideal S1x256x256 .f32) (ix3 z s d)
    = (V c main_v9 : FVec Ideal S4x256x4096 .f32) (ix3 (seqOf t) s ⟨3072 + (256 * (headOf t).val + d.val), by omega⟩) := by
  blk_ext [iblk1, idx1 t]

/-- Where an index of point `t`'s block lies in the result. -/
theorem place (t : Fin cfg1.N) (y : S512x256.Idx) : ((View.whole main_v10).slice (win1_3.rect t)).emb y
    = ix2 (⟨2048 * (seqOf t).val + (tokOf t (y 0)).val, by have := pts t; omega⟩ : Fin 8192) (⟨256 * (headOf t).val + (y 1).val, by have : (y 1).val < 256 := (y 1).isLt; omega⟩ : Fin 1024) := by
  blk_ext [idx1 t]

/-- The array's entry at a sequence, a token, a head and a column. -/
theorem attendArr_at (u : FVec Ideal S8192x4096 .f32) (a : FVec Ideal S4x256x4096 .f32) (b : Fin 4) (t : Fin 2048) (h : Fin 4) (e : Fin 256)
    (h0 : 2048 * b.val + t.val < 8192) (h1 : 256 * h.val + e.val < 1024) :
    attendArr u a (ix2 (⟨2048 * b.val + t.val, h0⟩ : Fin 8192) (⟨256 * h.val + e.val, h1⟩ : Fin 1024)) = attend u a b t h e := by
  unfold attendArr
  congr 1 <;> refine Fin.ext ?_
  · show (2048 * b.val + t.val) / 2048 = b.val; omega
  · show (2048 * b.val + t.val) % 2048 = t.val; omega
  · show (256 * h.val + e.val) / 256 = h.val; omega
  · show (256 * h.val + e.val) % 256 = e.val; omega

/-- The attention the kernel leaves. -/
theorem final1 : (dat1 V c).arrAt 3 cfg1.N = attendArr (V c main_arg0) (V c main_v9) := by
  refine (dat1 V c).arrAt_eq_of_covers 3 _ (by decide +kernel) fun t _ y => ?_
  blk_simp
  rw [after1_3]; frame_out
  refine (pay_at (iblk1 V c 0 t) (iblk1 V c 1 t) (iblk1 V c 2 t) y).trans ?_
  refine Eq.trans ?_ (congrArg _ (place t y).symm)
  refine Eq.trans ?_ (attendArr_at _ _ (seqOf t) (tokOf t (y 0)) (headOf t) (y 1) _ _).symm
  unfold attend
  congr 1
  · exact funext fun d => blk0 V c t (y 0) d
  · exact funext fun s => funext fun d => blk1 V c t 0 s d
  · exact funext fun s => blk2 V c t 0 s (y 1)

end Cert.MemAttendIdeal.Arr
-- ==== Proof.MemAttendRun.lean ====
/- The memory's attention: its result as a function of its three arguments. -/
module
public import proofs.«01_k».proof.Proof.MemAttendArr
public import Idealize.ShloMosaic.Lib.Claim
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Dense

namespace Cert.MemAttendIdeal.Run
open Idealize.ShloMosaic.Rounds
open Cert.MemAttendIdeal Cert.MemAttendIdeal.Gen Cert.MemAttendIdeal.Arr

/-- Column `j` of the projection of slot `s` of sequence `b` by the last layer's weight. -/
def proj (x : FVec Ideal S4x256x4096 .f32) (w : FVec Ideal S2x4096x2048 .f32) (b : Fin 4) (s : Fin 256) (j : Fin 2048) : EReal :=
  ∑ a : Fin 4096, x (ix3 b s a) * w (ix3 1 a j)

/-- The attention of token `t` of sequence `b` in head `h`, at column `e`: over the projected slots. -/
def result (u : FVec Ideal S8192x4096 .f32) (x : FVec Ideal S4x256x4096 .f32) (w : FVec Ideal S2x4096x2048 .f32)
    (b : Fin 4) (t : Fin 2048) (h : Fin 4) (e : Fin 256) : EReal :=
  att (fun d => u (ix2 ⟨2048 * b.val + t.val, by omega⟩ ⟨3072 + (256 * h.val + d.val), by omega⟩))
    (fun s d => proj x w b s ⟨256 * h.val + d.val, by omega⟩) (fun s => proj x w b s ⟨1024 + (256 * h.val + e.val), by omega⟩)

/-- The array of that. -/
def resultArr (u : FVec Ideal S8192x4096 .f32) (x : FVec Ideal S4x256x4096 .f32) (w : FVec Ideal S2x4096x2048 .f32)
    (i : S8192x1024.Idx) : EReal :=
  result u x w ⟨(i 0).val / 2048, by have : (i 0).val < 8192 := (i 0).isLt; omega⟩ ⟨(i 0).val % 2048, by omega⟩
    ⟨(i 1).val / 256, by have : (i 1).val < 1024 := (i 1).isLt; omega⟩ ⟨(i 1).val % 256, by omega⟩

local notation "𝕄" => MT nD τ sig Unit (Elt Ideal) ℕ (UR sig nD τ) ℕ

variable (m : (ℓ : Loc nD τ sig) → Buf (Elt Ideal) ℓ) (ρ : Dev nD → PrngReg)

/-- The rows the projection reads: the slots of the four sequences, one after the other. -/
theorem rows_at (c : Dev nD) (b : Fin 4) (s : Fin 256) (a : Fin 4096) (h : b.val * 256 + s.val < 1024) :
    (V1 m ρ c main_v7 : FVec Ideal S1024x4096 .bf16) (ix2 ⟨b.val * 256 + s.val, h⟩ a)
      = (m ((c : Thread nD τ).loc main_arg1) : FVec Ideal S4x256x4096 .f32) (ix3 b s a) := by
  dsimp only [V1, W1]
  after_results_simp
  pointwise
  have hb : (b.val * 256 + s.val) / 256 = b.val := by omega
  have hs : (b.val * 256 + s.val) % 256 = s.val := by omega
  simp only [hb, hs]

/-- The weight the projection reads, in its second half: the last layer's. -/
theorem weight_at (c : Dev nD) (a : Fin 4096) (j : Fin 2048) :
    (V1 m ρ c main_v5 : FVec Ideal S4096x4096 .bf16) (ix2 a ⟨2048 + j.val, by omega⟩)
      = (m ((c : Thread nD τ).loc main_arg2) : FVec Ideal S2x4096x2048 .f32) (ix3 1 a j) := by
  dsimp only [V1, W1]
  after_results_simp
  pointwise
  after_results_simp
  pointwise

/-- The keys and values the attention is entered with. -/
theorem kv_at (c : Dev nD) (b : Fin 4) (s : Fin 256) (j : Fin 2048) :
    (V3 m ρ c main_v9 : FVec Ideal S4x256x4096 .f32) (ix3 b s ⟨2048 + j.val, by omega⟩)
      = proj (m ((c : Thread nD τ).loc main_arg1)) (m ((c : Thread nD τ).loc main_arg2)) b s j := by
  dsimp only [V3, W3]
  after_results_simp
  pointwise
  have e : (W2 m ρ c (Proc.devRef .tc main_v8) : FVec Ideal S1024x4096 .f32)
      = prod (r := 1024) (k := 4096) (n := 4096) (V1 m ρ c main_v7) (V1 m ρ c main_v5) := (W2_arr m ρ c 2).trans (final0 (V1 m ρ) c)
  refine (congrFun e _).trans ?_
  exact Finset.sum_congr (M := EReal) rfl fun a _ => congrArg₂ (fun y z : EReal => y * z) (rows_at m ρ c b s a _) (weight_at m ρ c a j)

/-- The attention over those, at an index. -/
theorem attend_at (u : FVec Ideal S8192x4096 .f32) (c : Dev nD) (b : Fin 4) (t : Fin 2048) (h : Fin 4) (e : Fin 256) :
    attend u (V3 m ρ c main_v9) b t h e
      = result u (m ((c : Thread nD τ).loc main_arg1)) (m ((c : Thread nD τ).loc main_arg2)) b t h e := by
  have hk : (fun (s : Fin 256) (d : Fin 256) => (V3 m ρ c main_v9 : FVec Ideal S4x256x4096 .f32) (ix3 b s ⟨2048 + (256 * h.val + d.val), by omega⟩))
      = fun s d => proj (m ((c : Thread nD τ).loc main_arg1)) (m ((c : Thread nD τ).loc main_arg2)) b s ⟨256 * h.val + d.val, by omega⟩ :=
    funext fun s => funext fun d => kv_at m ρ c b s ⟨256 * h.val + d.val, by omega⟩
  have hv : (fun (s : Fin 256) => (V3 m ρ c main_v9 : FVec Ideal S4x256x4096 .f32) (ix3 b s ⟨3072 + (256 * h.val + e.val), by omega⟩))
      = fun s => proj (m ((c : Thread nD τ).loc main_arg1)) (m ((c : Thread nD τ).loc main_arg2)) b s ⟨1024 + (256 * h.val + e.val), by omega⟩ := by
    funext s
    rw [← kv_at]
    have en : (⟨3072 + (256 * h.val + e.val), by omega⟩ : Fin 4096) = ⟨2048 + (1024 + (256 * h.val + e.val)), by omega⟩ := Fin.ext (by
      show 3072 + (256 * h.val + e.val) = 2048 + (1024 + (256 * h.val + e.val)); omega)
    rw [en]
  unfold attend result
  rw [hk, hv]

/-- The attention at the end. -/
theorem last (c : Dev nD) : W4 m ρ c (Proc.devRef .tc main_v10)
    = resultArr (m ((c : Thread nD τ).loc main_arg0)) (m ((c : Thread nD τ).loc main_arg1)) (m ((c : Thread nD τ).loc main_arg2)) := by
  refine ((W4_arr m ρ c 3).trans (final1 (V3 m ρ) c)).trans ?_
  have e : (V3 m ρ c main_arg0 : FVec Ideal S8192x4096 .f32) = m ((c : Thread nD τ).loc main_arg0) := W3_args m ρ c main_arg0 (by decide)
  rw [e]
  funext i
  exact attend_at m ρ _ c _ _ _ _

set_option backward.isDefEq.respectTransparency.types false in
/-- Every execution ends with each buffer at the contents of the last boundary. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- Every execution ends with the result at its function of the arguments, and the arguments as they were. -/
theorem run : θ_run defs (onTc (τ := τ) (main (F := Ideal))) ⟨m, fun _ => 0, ρ⟩ (fun r => ∀ c : Dev nD,
      r.2.mem ((c.tc : Thread nD τ).loc main_v10)
          = resultArr (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨(h c _ (mem_uc main_v10 (by decide))).trans (last m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c)⟩) (run_all m ρ)

end Cert.MemAttendIdeal.Run
-- ==== Proof.MemAttendClaim.lean ====
/- The claims about the memory's attention. -/
module
public import proofs.«01_k».proof.Defs
public import proofs.«01_k».proof.Proof.MemAttendRun
public import proofs.«01_k».proof.Proof.Gen.MemAttendRefIdeal.Run
public import proofs.«01_k».proof.Proof.Gen.MemAttendRefIdeal.Read
public import Idealize.ShloMosaic.Lib.Pipeline.ValueKit
public import Idealize.ShloMosaic.Lib.IdealHost
public import Idealize.ShloMosaic.Lib.Claim
@[expose] public section
set_option maxRecDepth 16384
noncomputable section
open Idealize.ShloMosaic Idealize.SL.Sem

namespace Cert.MemAttendRefIdeal.Ref
open Cert.MemAttendRefIdeal Cert.MemAttendRefIdeal.Gen Cert.MemAttendRefIdeal.Read
open Cert.MemAttendIdeal.Arr (att logit)
open Cert.MemAttendIdeal.Run (proj result resultArr)
open Cert.Dense

variable (x0 : FVec Ideal S8192x4096 .f32) (x1 : FVec Ideal S4x256x4096 .f32) (x2 : FVec Ideal S2x4096x2048 .f32)

/-- The projected slots. -/
theorem kv_at (b : Fin 4) (s : Fin 256) (j : Fin 2048) : val_main_v2 (F := Ideal) x1 x2 (ix3 b s j) = proj x1 x2 b s j := by
  unfold val_main_v2 val_main_v1 val_main_v0
  pointwise [proj]

/-- The keys. -/
theorem k_at (b : Fin 4) (s : Fin 256) (h : Fin 4) (d : Fin 256) :
    val_main_v4 (F := Ideal) x1 x2 (ix4 b s h d) = proj x1 x2 b s ⟨256 * h.val + d.val, by omega⟩ := by
  rw [val_main_v4_apply, val_main_v3_apply, ← kv_at]
  refine congrArg _ (funext fun a => Fin.ext ?_)
  match a with
  | ⟨0, _⟩ => show (((b.val * 256 + s.val) * 4 + h.val) * 256 + d.val) / 262144 = b.val; omega
  | ⟨1, _⟩ => show (((b.val * 256 + s.val) * 4 + h.val) * 256 + d.val) / 1024 % 256 = s.val; omega
  | ⟨2, _⟩ => show (((b.val * 256 + s.val) * 4 + h.val) * 256 + d.val) % 1024 = 256 * h.val + d.val; omega

/-- The values. -/
theorem v_at (b : Fin 4) (s : Fin 256) (h : Fin 4) (d : Fin 256) :
    val_main_v6 (F := Ideal) x1 x2 (ix4 b s h d) = proj x1 x2 b s ⟨1024 + (256 * h.val + d.val), by omega⟩ := by
  rw [val_main_v6_apply, val_main_v5_apply, ← kv_at]
  refine congrArg _ (funext fun a => Fin.ext ?_)
  match a with
  | ⟨0, _⟩ => show (((b.val * 256 + s.val) * 4 + h.val) * 256 + d.val) / 262144 = b.val; omega
  | ⟨1, _⟩ => show (((b.val * 256 + s.val) * 4 + h.val) * 256 + d.val) / 1024 % 256 = s.val; omega
  | ⟨2, _⟩ => show 1024 + (((b.val * 256 + s.val) * 4 + h.val) * 256 + d.val) % 1024 = 1024 + (256 * h.val + d.val); omega

/-- The queries. -/
theorem q_at (b : Fin 4) (t : Fin 2048) (h : Fin 4) (d : Fin 256) : val_main_v8 (F := Ideal) x0 (ix4 b t h d)
    = x0 (ix2 ⟨2048 * b.val + t.val, by omega⟩ ⟨3072 + (256 * h.val + d.val), by omega⟩) := by
  rw [val_main_v8_apply, val_main_v7_apply]
  refine congrArg _ (funext fun a => Fin.ext ?_)
  match a with
  | ⟨0, _⟩ => show (((b.val * 2048 + t.val) * 4 + h.val) * 256 + d.val) / 1024 = 2048 * b.val + t.val; omega
  | ⟨1, _⟩ => show 3072 + (((b.val * 2048 + t.val) * 4 + h.val) * 256 + d.val) % 1024 = 3072 + (256 * h.val + d.val); omega

/-- The logits of a row. -/
abbrev lg (b : Fin 4) (t : Fin 2048) (h : Fin 4) : Fin 256 → EReal :=
  logit (fun d => x0 (ix2 ⟨2048 * b.val + t.val, by omega⟩ ⟨3072 + (256 * h.val + d.val), by omega⟩))
    (fun s d => proj x1 x2 b s ⟨256 * h.val + d.val, by omega⟩)

/-- The logits. -/
theorem logit_at (b : Fin 4) (h : Fin 4) (t : Fin 2048) (s : Fin 256) :
    val_main_v11 (F := Ideal) x0 x1 x2 (ix4 b h t s) = lg x0 x1 x2 b t h s := by
  rw [val_main_v11_apply, val_main_v9_apply, val_main_v10_apply]
  show (∑ d : Fin 256, val_main_v8 (F := Ideal) x0 (ix4 b t h d) * val_main_v4 (F := Ideal) x1 x2 (ix4 b s h d)) * _ = _
  simp only [q_at, k_at]
  rfl

/-- The largest logit of a row. -/
theorem max_at (b : Fin 4) (h : Fin 4) (t : Fin 2048) :
    val_main_v14 (F := Ideal) x0 x1 x2 (ix3 b h t) = Finset.univ.fold max ⊥ (lg x0 x1 x2 b t h) := by
  have e : val_main_v12 (F := Ideal) x0 x1 x2 (ix3 b h t) = Finset.univ.fold max ⊥ (lg x0 x1 x2 b t h) := by
    unfold val_main_v12
    refine (Host.reduce_eq_fold_single (FloatOps.maximumf (F := Ideal) (φ := .f32)) _ _ _ (by decide) h_S_ (ix3 b h t)).trans ?_
    rw [val_main_cst_0_apply, show FloatOps.ofBits (F := Ideal) .f32 0xFF800000#32 = (⊥ : EReal) from neg_inf]
    refine congrArg (fun g : Fin 256 → EReal => (Finset.univ : Finset (Fin 256)).fold max ⊥ g) (funext fun s => ?_)
    exact (congrArg (val_main_v11 (F := Ideal) x0 x1 x2) (eq_ix4 _)).trans (logit_at x0 x1 x2 b h t s)
  rw [val_main_v14_apply, e, val_main_v13_apply, val_main_cst_1_apply,
    show FloatOps.ofBits (F := Ideal) .f32 0xFF800000#32 = (⊥ : EReal) from neg_inf]
  exact max_eq_right bot_le

/-- The weight of a slot before the division. -/
theorem exp_at (b : Fin 4) (h : Fin 4) (t : Fin 2048) (s : Fin 256) : val_main_v18 (F := Ideal) x0 x1 x2 (ix4 b h t s)
    = Ideal.exp (lg x0 x1 x2 b t h s - Finset.univ.fold max ⊥ (lg x0 x1 x2 b t h)) := by
  rw [val_main_v18_apply, val_main_v17_apply, logit_at, val_main_v16_apply, val_main_v15_apply]
  exact congrArg (fun z : EReal => Ideal.exp (lg x0 x1 x2 b t h s - z))
    ((congrArg (val_main_v14 (F := Ideal) x0 x1 x2) (eq_ix3 _)).trans (max_at x0 x1 x2 b h t))

/-- The weight of a slot. -/
theorem p_at (b : Fin 4) (h : Fin 4) (t : Fin 2048) (s : Fin 256) : val_main_v22 (F := Ideal) x0 x1 x2 (ix4 b h t s)
    = softmax (lg x0 x1 x2 b t h) s := by
  have e : val_main_v21 (F := Ideal) x0 x1 x2 (ix4 b h t s)
      = ∑ r : Fin 256, Ideal.exp (lg x0 x1 x2 b t h r - Finset.univ.fold max ⊥ (lg x0 x1 x2 b t h)) := by
    rw [val_main_v21_apply, val_main_v20_apply, val_main_v19_apply, val_main_cst_2_apply,
      show FloatOps.ofBits (F := Ideal) .f32 0x00000000#32 = (0 : EReal) from by simp [FloatOps.ofBits, Ideal.ofBits, Ideal.ieee], zero_add]
    exact Finset.sum_congr rfl fun r _ => (congrArg (val_main_v18 (F := Ideal) x0 x1 x2) (eq_ix4 _)).trans (exp_at x0 x1 x2 b h t r)
  rw [val_main_v22_apply, exp_at, e]
  rfl

/-- The reference's attention is the result's. -/
theorem result_eq : val_main_v25 (F := Ideal) x0 x1 x2 = resultArr x0 x1 x2 := by
  funext i
  have h0 : (i 0).val < 8192 := (i 0).isLt
  have h1 : (i 1).val < 1024 := (i 1).isLt
  have ei : idx_main_v25 i = ix4 ⟨(i 0).val / 2048, by omega⟩ ⟨(i 0).val % 2048, by omega⟩ ⟨(i 1).val / 256, by omega⟩ ⟨(i 1).val % 256, by omega⟩ := by
    refine funext fun a => Fin.ext ?_
    match a with
    | ⟨0, _⟩ => show ((i 0).val * 1024 + (i 1).val) / 2097152 = (i 0).val / 2048; omega
    | ⟨1, _⟩ => show ((i 0).val * 1024 + (i 1).val) / 1024 % 2048 = (i 0).val % 2048; omega
    | ⟨2, _⟩ => show ((i 0).val * 1024 + (i 1).val) / 256 % 4 = (i 1).val / 256; omega
    | ⟨3, _⟩ => show ((i 0).val * 1024 + (i 1).val) % 256 = (i 1).val % 256; omega
  rw [val_main_v25_apply, ei, val_main_v24_apply, val_main_v23_apply]
  unfold resultArr result att
  refine Finset.sum_congr rfl fun s _ => ?_
  rw [mul_comm]
  exact congrArg₂ (fun y z : EReal => y * z)
    ((congrArg (val_main_v22 (F := Ideal) x0 x1 x2) (eq_ix4 _)).trans (p_at x0 x1 x2 _ _ _ s))
    ((congrArg (val_main_v6 (F := Ideal) x1 x2) (eq_ix4 _)).trans (v_at x1 x2 _ s _ _))

end Cert.MemAttendRefIdeal.Ref

namespace Cert.Proof.MemAttendClaim

/-- The reference runs, leaves its arguments as they were and its counters at zero. -/
theorem frame_ref : Cert.quiescent_MemAttendRefIdeal (hMemAttendRefIdeal := Cert.MemAttendRefIdeal.Gen.facts) := by
  intro m g _
  refine (θ_run _ _ _).mono (fun r h => ⟨fun c => ?_, sem_eq_zero_of_no_sems (by decide) r.2⟩) (Cert.MemAttendRefIdeal.Value.run m g)
  exact (h c).2

/-- The attention over the memory agrees with the reference. -/
theorem algebraic : Cert.algebraic_MemAttendIdeal_MemAttendRefIdeal (hMemAttendIdeal := Cert.MemAttendIdeal.Gen.facts) (hMemAttendRefIdeal := Cert.MemAttendRefIdeal.Gen.facts) := by
  intro m g m' g' _ hagree
  refine ⟨fun c => _, Cert.MemAttendIdeal.Run.run m g, ?_⟩
  refine (θ_run _ _ _).mono (fun r h c => ?_) (Cert.MemAttendRefIdeal.Value.run m' g')
  obtain ⟨a0, a1, a2⟩ := hagree c
  obtain ⟨h0, hargs⟩ := h c
  refine ⟨h0.trans ?_, hargs⟩
  refine (Cert.MemAttendRefIdeal.Read.val_main_v25_eq ..).trans (Eq.trans ?_ (Cert.MemAttendRefIdeal.Ref.result_eq ..))
  rw [a0, a1, a2]

end Cert.Proof.MemAttendClaim
-- ==== Proof.StateArr.lean ====
/- What the two projections of the prompt group's mixer leave, as functions of the arrays they are entered with. -/
module
public import proofs.«01_k».proof.Proof.Gen.StateIdeal.Frame
public import Idealize.ShloMosaic.Lib.Pointwise
public import Idealize.ShloMosaic.Lib.Pipeline.Value
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.StateIdeal Cert.StateIdeal.Gen
namespace Cert.StateIdeal.Arr
variable (V : (c : Dev nD) → (b : Ref sig .tc) → Buf (Elt Ideal) ((c : Thread nD τ).loc b)) (c : Dev nD)

/-- The product of an array of rows and a weight that holds its columns as rows. -/
def prodT {r k n : ℕ} (x : (⟨2, ![r, k]⟩ : Shape).Idx → EReal) (w : (⟨2, ![n, k]⟩ : Shape).Idx → EReal)
    (i : (⟨2, ![r, n]⟩ : Shape).Idx) : EReal :=
  ∑ a : Fin k, x (ix2 (i 0) a) * w (ix2 (i 1) a)

/-- Where the windows of the token projection sit at grid point `t`: row block `t / 18`, column block `t % 18`. -/
theorem idx0 : ∀ t : Fin cfg0.N, win0_0.index t = ![t.val / 18, 0] ∧ win0_1.index t = ![t.val % 18, 0] ∧ win0_2.index t = ![t.val / 18, t.val % 18] :=
  (by decide +kernel : ∀ t : Fin grid0.N, _)

/-- Where the windows of the gates' projection sit at grid point `t`: row block `t`. -/
theorem idx1 : ∀ t : Fin cfg1.N, win1_0.index t = ![t.val, 0] ∧ win1_1.index t = ![0, 0] ∧ win1_2.index t = ![t.val, 0] :=
  (by decide +kernel : ∀ t : Fin grid1.N, _)

/-- The token projections. -/
theorem final0 : (dat0 V c).arrAt 2 cfg0.N = prodT (r := 8192) (k := 4096) (n := 9216) (V c main_v12) (V c main_v3) := by
  refine (dat0 V c).arrAt_eq_of_covers 2 _ (by decide +kernel) fun t _ y => ?_
  blk_simp
  rw [after0_2]; frame_out
  pointwise [k0_pay1, prodT]
  blk_point [iblk0, idx0 t]

/-- The gates' projections, on lanes of which the first twelve are the gates. -/
theorem final1 : (dat1 V c).arrAt 2 cfg1.N = prodT (r := 8192) (k := 4096) (n := 128) (V c main_v11) (V c main_v6) := by
  refine (dat1 V c).arrAt_eq_of_covers 2 _ (by decide +kernel) fun t _ y => ?_
  blk_simp
  rw [after1_2]; frame_out
  pointwise [k1_pay1, prodT]
  blk_point [iblk1, idx1 t]

end Cert.StateIdeal.Arr
-- ==== Proof.StatePay.lean ====
/- What the recurrence's body stores of the state in the prompt group, read at an index: one chunk of `Cert.Chunk`, of 256 tokens, over the loaded blocks. -/
module
public import proofs.«01_k».proof.Proof.Gen.StateIdeal.Skeleton
public import proofs.«01_k».proof.Proof.MlstmPay
@[expose] public section
set_option maxRecDepth 16384
noncomputable section
open Idealize.ShloMosaic Idealize.ShloMosaic.TcCoe Idealize.SL.Sem
open Cert.StateIdeal Cert.StateIdeal.Gen
open Cert.MlstmIdeal.Pay (sel_le sel_eq ninf)
namespace Cert.StateIdeal.Pay

/-- A gate row with its bias. -/
abbrev gate (g : Vec Ideal S1x1x1x256 .f32) (b : Elt Ideal .f32) : Fin 256 → EReal := fun s => g (ix4 0 0 0 s) + b

/-- The key rows, scaled. -/
abbrev keys (x : Vec Ideal S256x256 .f32) : Fin 256 → Fin 256 → EReal := fun t d => x (ix2 t d) * Ideal.ofBits .f32 0x3D800000#32

/-- The value rows. -/
abbrev vals (x : Vec Ideal S256x512 .f32) : Fin 256 → Fin 512 → EReal := fun t d => x (ix2 t d)

/-- The input-gate row with its bias. -/
theorem gate_in (g : Vec Ideal S1x1x1x256 .f32) (b : Elt Ideal .f32) (s : Fin 256) :
    k2_pay11 (F := Ideal) g b (ix2 0 s) = gate g b s := by
  pointwise [k2_pay11]

/-- The logs of the forget gates. -/
theorem gate_forget (g : Vec Ideal S1x1x1x256 .f32) (b : Elt Ideal .f32) (s : Fin 256) :
    k2_pay12 (F := Ideal) g b (ix2 0 s) = Chunk.lsg (gate g b s) := by
  pointwise [k2_pay12]
  rfl

/-- The column of summed log forget gates. -/
theorem cum_at (g : Vec Ideal S1x1x1x256 .f32) (b : Elt Ideal .f32) (t : Fin 256) :
    k2_pay14 (F := Ideal) (k2_pay12 g b) k2_pay13 (ix2 t 0) = Chunk.cum (gate g b) t := by
  pointwise [k2_pay14, k2_pay13]
  simp only [sel_le (n := 256) (by norm_num), gate_forget]
  rfl

/-- The input gates as a column. -/
theorem icol_at (g : Vec Ideal S1x1x1x256 .f32) (b : Elt Ideal .f32) (t : Fin 256) :
    k2_pay15 (F := Ideal) (k2_pay11 g b) (ix2 t 0) = gate g b t := by
  pointwise [k2_pay15]
  simp only [sel_eq (n := 256) (by norm_num), Finset.sum_ite_eq, Finset.mem_univ, if_true, gate_in]

/-- The log weights. -/
theorem ld_at (gi gf : Vec Ideal S1x1x1x256 .f32) (bi bf : Elt Ideal .f32) (t s : Fin 256) :
    k2_pay17 (F := Ideal) (k2_pay11 gi bi) (k2_pay12 gf bf) k2_pay13 (ix2 t s) = Chunk.ld (gate gf bf) (gate gi bi) t s := by
  pointwise [k2_pay17]
  simp only [cum_at, gate_in]
  pointwise [k2_pay13]
  simp only [sel_le (n := 256) (by norm_num), sel_eq (n := 256) (by norm_num), Finset.sum_ite_eq', Finset.mem_univ, if_true, ninf]
  rfl

/-- The running maximum. -/
theorem mx_at (gi gf : Vec Ideal S1x1x1x256 .f32) (bi bf : Elt Ideal .f32) (m0 : Vec Ideal S1x1x1x1 .f32) (t : Fin 256) :
    k2_pay19 (F := Ideal) (k2_pay11 gi bi) (k2_pay12 gf bf) k2_pay13 m0 (ix2 t 0)
      = Chunk.mx (gate gf bf) (gate gi bi) (m0 (ix4 0 0 0 0)) t := by
  pointwise [k2_pay19, k2_pay18, k2_pay16]
  simp only [cum_at, ld_at, ninf]
  rfl

/-- The key rows, scaled. -/
theorem k_at (k : Vec Ideal S256x256 .f32) (t : Fin 256) (d : Fin 256) : k2_pay9 (F := Ideal) k (ix2 t d) = keys k t d := by
  pointwise [k2_pay9]

/-- The value rows. -/
theorem v_at (v : Vec Ideal S256x512 .f32) (t : Fin 256) (d : Fin 512) : k2_pay10 (F := Ideal) v (ix2 t d) = vals v t d := by
  pointwise [k2_pay10]

/-- The weight of a row at the end of the chunk. -/
theorem we_at (gi gf : Vec Ideal S1x1x1x256 .f32) (bi bf : Elt Ideal .f32) (m0 : Vec Ideal S1x1x1x1 .f32) (s : Fin 256) :
    k2_pay28 (F := Ideal) (k2_pay14 (k2_pay12 gf bf) k2_pay13) (k2_pay15 (k2_pay11 gi bi)) (k2_pay19 (k2_pay11 gi bi) (k2_pay12 gf bf) k2_pay13 m0) (ix2 s 0)
      = Chunk.we (gate gf bf) (gate gi bi) (m0 (ix4 0 0 0 0)) 255 s := by
  pointwise [k2_pay28, k2_pay26, k2_pay27]
  exact congrArg Ideal.exp (congrArg₂ (fun x y : EReal => x - y)
    (congrArg₂ (fun x y : EReal => x + y) (congrArg₂ (fun x y : EReal => x - y) (cum_at gf bf 255) (cum_at gf bf s)) (icol_at gi bi s))
    (mx_at gi gf bi bf m0 255))

/-- The weight of the carried state at the end of the chunk. -/
theorem wi_at (gi gf : Vec Ideal S1x1x1x256 .f32) (bi bf : Elt Ideal .f32) (m0 : Vec Ideal S1x1x1x1 .f32) :
    k2_pay29 (F := Ideal) (k2_pay14 (k2_pay12 gf bf) k2_pay13) (k2_pay16 m0) (k2_pay19 (k2_pay11 gi bi) (k2_pay12 gf bf) k2_pay13 m0) (ix2 0 0)
      = Chunk.wi (gate gf bf) (gate gi bi) (m0 (ix4 0 0 0 0)) 255 := by
  pointwise [k2_pay29, k2_pay26, k2_pay27, k2_pay16]
  exact congrArg Ideal.exp (congrArg₂ (fun x y : EReal => x - y)
    (congrArg (fun x : EReal => x + m0 (ix4 0 0 0 0)) (cum_at gf bf 255)) (mx_at gi gf bi bf m0 255))

/-- The stored matrix, from the weights. -/
theorem c_gen (k : FVec Ideal S256x256 .f32) (v : FVec Ideal S256x512 .bf16) (c0 : Vec Ideal S1x1x256x512 .f32) (w : FVec Ideal S256x1 .f32)
    (z : FVec Ideal S1x1 .f32) (d : Fin 256) (j : Fin 512) :
    k2_pay2 (F := Ideal) k v (k2_pay23 c0) w z (ix4 0 0 d j)
      = z (ix2 0 0) * c0 (ix4 0 0 d j) + ∑ s : Fin 256, k (ix2 s d) * w (ix2 s 0) * v (ix2 s j) := by
  pointwise [k2_pay2, k2_pay1, k2_pay23]

/-- The stored normalizer, from the weights. -/
theorem n_gen (k : FVec Ideal S256x256 .f32) (n0 : Vec Ideal S1x1x1x256 .f32) (w : FVec Ideal S256x1 .f32)
    (z : FVec Ideal S1x1 .f32) (d : Fin 256) :
    k2_pay3 (F := Ideal) k (k2_pay24 n0) w z (ix4 0 0 0 d)
      = z (ix2 0 0) * n0 (ix4 0 0 0 d) + ∑ s : Fin 256, k (ix2 s d) * w (ix2 s 0) := by
  pointwise [k2_pay3, k2_pay1, k2_pay24]

/-- The stored matrix. -/
theorem c_at (k : Vec Ideal S256x256 .f32) (v : Vec Ideal S256x512 .f32) (gi gf : Vec Ideal S1x1x1x256 .f32)
    (bi bf : Elt Ideal .f32) (c0 : Vec Ideal S1x1x256x512 .f32) (m0 : Vec Ideal S1x1x1x1 .f32) (d : Fin 256) (j : Fin 512) :
    k2_pay2 (F := Ideal) (k2_pay9 k) (k2_pay10 v) (k2_pay23 c0)
        (k2_pay28 (k2_pay14 (k2_pay12 gf bf) k2_pay13) (k2_pay15 (k2_pay11 gi bi)) (k2_pay19 (k2_pay11 gi bi) (k2_pay12 gf bf) k2_pay13 m0))
        (k2_pay29 (k2_pay14 (k2_pay12 gf bf) k2_pay13) (k2_pay16 m0) (k2_pay19 (k2_pay11 gi bi) (k2_pay12 gf bf) k2_pay13 m0)) (ix4 0 0 d j)
      = Chunk.cNew (fun s => keys k s d) (fun s => vals v s j) (gate gf bf) (gate gi bi) (c0 (ix4 0 0 d j)) (m0 (ix4 0 0 0 0)) 255 := by
  rw [c_gen, wi_at]
  exact congrArg (_ + ·) (Finset.sum_congr rfl fun s _ => congrArg₂ (fun x y : EReal => x * y)
    (congrArg₂ (fun x y : EReal => x * y) (k_at k s d) (we_at gi gf bi bf m0 s)) (v_at v s j))

/-- The stored normalizer. -/
theorem n_at (k : Vec Ideal S256x256 .f32) (gi gf : Vec Ideal S1x1x1x256 .f32)
    (bi bf : Elt Ideal .f32) (n0 : Vec Ideal S1x1x1x256 .f32) (m0 : Vec Ideal S1x1x1x1 .f32) (d : Fin 256) :
    k2_pay3 (F := Ideal) (k2_pay9 k) (k2_pay24 n0)
        (k2_pay28 (k2_pay14 (k2_pay12 gf bf) k2_pay13) (k2_pay15 (k2_pay11 gi bi)) (k2_pay19 (k2_pay11 gi bi) (k2_pay12 gf bf) k2_pay13 m0))
        (k2_pay29 (k2_pay14 (k2_pay12 gf bf) k2_pay13) (k2_pay16 m0) (k2_pay19 (k2_pay11 gi bi) (k2_pay12 gf bf) k2_pay13 m0)) (ix4 0 0 0 d)
      = Chunk.nNew (fun s => keys k s d) (gate gf bf) (gate gi bi) (n0 (ix4 0 0 0 d)) (m0 (ix4 0 0 0 0)) 255 := by
  rw [n_gen, wi_at]
  exact congrArg (_ + ·) (Finset.sum_congr rfl fun s _ => congrArg₂ (fun x y : EReal => x * y) (k_at k s d) (we_at gi gf bi bf m0 s))

/-- The stored maximum: the last row's. -/
theorem m_at (gi gf : Vec Ideal S1x1x1x256 .f32) (bi bf : Elt Ideal .f32) (m0 : Vec Ideal S1x1x1x1 .f32) (l : Fin 128) :
    k2_pay4 (F := Ideal) (k2_pay26 (k2_pay19 (k2_pay11 gi bi) (k2_pay12 gf bf) k2_pay13 m0)) (ix4 0 0 0 l)
      = Chunk.mx (gate gf bf) (gate gi bi) (m0 (ix4 0 0 0 0)) 255 := by
  pointwise [k2_pay4, k2_pay26]
  exact mx_at gi gf bi bf m0 255

end Cert.StateIdeal.Pay
-- ==== Proof.Compose.lean ====
/- One chunk of the recurrence with real log forget gates is the recurrence token by token: so several chunks one after the other
   leave what the same tokens leave as one chunk. -/
module
public import proofs.«01_k».proof.Proof.Chunk
@[expose] public section
noncomputable section
open Idealize.ShloMosaic
namespace Cert.Compose

/-- The maximum after `n` tokens: `l` the log forget gates, which are real, `g` the input gates. -/
def mS (l : ℕ → ℝ) (g : ℕ → EReal) (m0 : EReal) : ℕ → EReal
  | 0 => m0
  | n + 1 => max ((l n : EReal) + mS l g m0 n) (g n)

/-- One element of the state after `n` tokens: the key `k` against the value `v`. -/
def cS (l : ℕ → ℝ) (g : ℕ → EReal) (k v : ℕ → EReal) (c0 m0 : EReal) : ℕ → EReal
  | 0 => c0
  | n + 1 => Ideal.exp ((l n : EReal) + mS l g m0 n - mS l g m0 (n + 1)) * cS l g k v c0 m0 n
      + k n * Ideal.exp (g n - mS l g m0 (n + 1)) * v n

/-- The maximum after `p + n` tokens is that of `n` tokens from the one after `p`. -/
theorem mS_add (l : ℕ → ℝ) (g : ℕ → EReal) (m0 : EReal) (p n : ℕ) :
    mS l g m0 (p + n) = mS (fun s => l (p + s)) (fun s => g (p + s)) (mS l g m0 p) n := by
  induction n with
  | zero => rfl
  | succ n ih => rw [← Nat.add_assoc]; show max _ _ = max _ _; rw [ih]

/-- The state after `p + n` tokens is that of `n` tokens from the one after `p`. -/
theorem cS_add (l : ℕ → ℝ) (g k v : ℕ → EReal) (c0 m0 : EReal) (p n : ℕ) :
    cS l g k v c0 m0 (p + n) = cS (fun s => l (p + s)) (fun s => g (p + s)) (fun s => k (p + s)) (fun s => v (p + s))
      (cS l g k v c0 m0 p) (mS l g m0 p) n := by
  induction n with
  | zero => rfl
  | succ n ih =>
    have e := mS_add l g m0 p (n + 1)
    rw [← Nat.add_assoc] at e ⊢
    show _ * _ + _ = _ * _ + _
    rw [ih, e, mS_add l g m0 p n]

/-- The sum of the first `n` log forget gates. -/
def B (l : ℕ → ℝ) (n : ℕ) : ℝ := ∑ s ∈ Finset.range n, l s

/-- One more gate. -/
theorem B_succ (l : ℕ → ℝ) (n : ℕ) : B l (n + 1) = B l n + l n := Finset.sum_range_succ _ _

/-- A real added to a supremum. -/
theorem add_sup (a : ℝ) (n : ℕ) (x : ℕ → EReal) :
    (Finset.range n).sup (fun s => (a : EReal) + x s) = (a : EReal) + (Finset.range n).sup x := by
  refine (Finset.comp_sup_eq_sup_comp (fun y : EReal => (a : EReal) + y) (fun y z => ?_) ?_).symm
  · exact (max_add_add_left (a : EReal) y z).symm
  · exact EReal.add_bot _

/-- A nonnegative real times a sum of two. -/
theorem mul_add_coe (a : ℝ) (ha : 0 ≤ a) (y z : EReal) : (a : EReal) * (y + z) = a * y + a * z :=
  EReal.left_distrib_of_nonneg_of_ne_top (EReal.coe_nonneg.mpr ha) (EReal.coe_ne_top a) y z

/-- A sum of reals is a real. -/
theorem coe_sum (l : ℕ → ℝ) (n : ℕ) : ((∑ s ∈ Finset.range n, l s : ℝ) : EReal) = ∑ s ∈ Finset.range n, ((l s : ℝ) : EReal) := by
  induction n with
  | zero => rfl
  | succ n ih => rw [Finset.sum_range_succ, Finset.sum_range_succ, EReal.coe_add, ih]

/-- A nonnegative real times a sum. -/
theorem mul_sum (a : ℝ) (ha : 0 ≤ a) (n : ℕ) (x : ℕ → EReal) :
    ∑ s ∈ Finset.range n, (a : EReal) * x s = (a : EReal) * ∑ s ∈ Finset.range n, x s := by
  induction n with
  | zero => simp
  | succ n ih => rw [Finset.sum_range_succ, Finset.sum_range_succ, ih, mul_add_coe a ha]

/-- The maximum in closed form: over the carried one and the tokens, each with the gates that follow it. -/
theorem mS_closed (l : ℕ → ℝ) (g : ℕ → EReal) (m0 : EReal) (n : ℕ) : mS l g m0 n
    = max (((B l n : ℝ) : EReal) + m0) ((Finset.range n).sup fun s => ((B l n - B l (s + 1) : ℝ) : EReal) + g s) := by
  induction n with
  | zero => simp [mS, B]
  | succ n ih =>
    rw [Finset.range_add_one, Finset.sup_insert]
    have e : ((Finset.range n).sup fun s => ((B l (n + 1) - B l (s + 1) : ℝ) : EReal) + g s)
        = ((l n : ℝ) : EReal) + (Finset.range n).sup fun s => ((B l n - B l (s + 1) : ℝ) : EReal) + g s := by
      rw [← add_sup]
      refine Finset.sup_congr rfl fun s _ => ?_
      rw [← add_assoc, ← EReal.coe_add, B_succ]; congr 2; ring
    have e' : ((B l (n + 1) : ℝ) : EReal) + m0 = ((l n : ℝ) : EReal) + (((B l n : ℝ) : EReal) + m0) := by
      rw [B_succ, EReal.coe_add, add_comm ((B l n : ℝ) : EReal), add_assoc]
    rw [e, e']
    show max ((l n : EReal) + mS l g m0 n) (g n) = _
    rw [ih, ← max_add_add_left, sub_self, EReal.coe_zero, zero_add]
    show max (max _ _) _ = max _ (max _ _)
    rw [max_assoc]; congr 1; exact max_comm _ _

/-- The weight of a logit below the maximum is a nonnegative real. -/
theorem exp_real (x y : EReal) (h : x ≤ y) : ∃ r : ℝ, 0 ≤ r ∧ Ideal.exp (x - y) = (r : EReal) := by
  induction y with
  | bot => exact ⟨0, le_refl _, by rw [le_bot_iff.mp h]; rfl⟩
  | top => exact ⟨0, le_refl _, by rw [EReal.sub_top]; rfl⟩
  | coe y =>
    induction x with
    | bot => exact ⟨0, le_refl _, rfl⟩
    | top => exact absurd h (not_le.mpr (EReal.coe_lt_top y))
    | coe x => exact ⟨Real.exp (x - y), Real.exp_nonneg _, rfl⟩

/-- A weight against the new maximum is the one against the old maximum, scaled by the state's weight. -/
theorem exp_scale (l : ℝ) (x y z : EReal) (hx : x ≤ y) (hz : (l : EReal) + y ≤ z) :
    Ideal.exp ((l : EReal) + x - z) = Ideal.exp ((l : EReal) + y - z) * Ideal.exp (x - y) := by
  induction z with
  | top => rw [EReal.sub_top, EReal.sub_top]; exact (zero_mul _).symm
  | bot =>
    have hy : (l : EReal) + y = ⊥ := le_bot_iff.mp hz
    have hxl : (l : EReal) + x = ⊥ := le_bot_iff.mp ((add_le_add_right hx _).trans hz)
    rw [hy, hxl]; exact (zero_mul _).symm
  | coe z =>
    induction y with
    | top => exact absurd hz (not_le.mpr (by rw [EReal.coe_add_top]; exact EReal.coe_lt_top z))
    | bot => rw [le_bot_iff.mp hx, EReal.add_bot]; exact (zero_mul _).symm
    | coe y =>
      induction x with
      | top => exact absurd hx (not_le.mpr (EReal.coe_lt_top y))
      | bot => rw [EReal.add_bot]; exact (mul_zero _).symm
      | coe x =>
        show ((Real.exp (l + x - z) : ℝ) : EReal) = ((Real.exp (l + y - z) : ℝ) : EReal) * ((Real.exp (x - y) : ℝ) : EReal)
        rw [← EReal.coe_mul, ← Real.exp_add]; congr 2; ring

/-- The carried maximum, with the gates that follow it, is at most the maximum. -/
theorem le_first (l : ℕ → ℝ) (g : ℕ → EReal) (m0 : EReal) (n : ℕ) : ((B l n : ℝ) : EReal) + m0 ≤ mS l g m0 n := by
  rw [mS_closed]; exact le_max_left _ _

/-- A token's input gate, with the forget gates that follow it, is at most the maximum. -/
theorem le_token (l : ℕ → ℝ) (g : ℕ → EReal) (m0 : EReal) (n s : ℕ) (h : s ∈ Finset.range n) :
    ((B l n - B l (s + 1) : ℝ) : EReal) + g s ≤ mS l g m0 n := by
  rw [mS_closed]
  exact le_trans (Finset.le_sup (f := fun s => ((B l n - B l (s + 1) : ℝ) : EReal) + g s) h) (le_max_right _ _)

/-- The state in closed form, after a token at least. -/
theorem cS_closed (l : ℕ → ℝ) (g k v : ℕ → EReal) (c0 m0 : EReal) (n : ℕ) (hn : 1 ≤ n) : cS l g k v c0 m0 n
    = Ideal.exp (((B l n : ℝ) : EReal) + m0 - mS l g m0 n) * c0
      + ∑ s ∈ Finset.range n, k s * Ideal.exp (((B l n - B l (s + 1) : ℝ) : EReal) + g s - mS l g m0 n) * v s := by
  induction n, hn using Nat.le_induction with
  | base =>
    rw [Finset.sum_range_one, sub_self, EReal.coe_zero, zero_add, B, Finset.sum_range_one]
    rfl
  | succ n hn ih =>
    have hz : (l n : EReal) + mS l g m0 n ≤ mS l g m0 (n + 1) := le_max_left _ _
    have h (x : EReal) (hx : x ≤ mS l g m0 n) := exp_scale (l n) x _ _ hx hz
    obtain ⟨r, hr, er⟩ := exp_real _ _ hz
    rw [Finset.sum_range_succ]
    show _ * cS l g k v c0 m0 n + _ = _
    rw [ih, er, mul_add_coe r hr, ← mul_sum r hr, add_assoc]
    refine congrArg₂ (· + ·) ?_ (congrArg₂ (· + ·) (Finset.sum_congr rfl fun s hs => ?_) ?_)
    · have := h _ (le_first l g m0 n)
      rw [er, ← add_assoc, ← EReal.coe_add, add_comm (l n), ← B_succ] at this
      rw [this, mul_assoc]
    · have := h _ (le_token l g m0 n s hs)
      rw [er, ← add_assoc, ← EReal.coe_add, ← add_sub_assoc, add_comm (l n), ← B_succ] at this
      rw [this]
      ac_rfl
    · rw [sub_self, EReal.coe_zero, zero_add]

/-! ## A chunk with real log forget gates -/

/-- The log sigmoid of a real is a real. -/
theorem lsg_coe (x : ℝ) : Chunk.lsg (x : EReal) = (((Chunk.lsg (x : EReal)).toReal : ℝ) : EReal) := by
  have h : Chunk.lsg (x : EReal) = ((min x 0 - Real.log (1 + Real.exp (0 - max x (-x))) : ℝ) : EReal) := by
    unfold Chunk.lsg Ideal.log1p
    have e : Ideal.exp (0 - max (x : EReal) (-(x : EReal))) = ((Real.exp (0 - max x (-x)) : ℝ) : EReal) := by
      rw [← EReal.coe_neg, ← EReal.coe_strictMono.monotone.map_max, ← EReal.coe_zero, ← EReal.coe_sub]; rfl
    have e' : (1 : EReal) + ((Real.exp (0 - max x (-x)) : ℝ) : EReal) = ((1 + Real.exp (0 - max x (-x)) : ℝ) : EReal) := by
      rw [EReal.coe_add]; rfl
    rw [e, e']
    have e2 : Ideal.log ((1 + Real.exp (0 - max x (-x)) : ℝ) : EReal) = ((Real.log (1 + Real.exp (0 - max x (-x))) : ℝ) : EReal) :=
      if_neg (not_le.mpr (by have := Real.exp_pos (0 - max x (-x)); linarith))
    rw [e2, EReal.coe_sub, EReal.coe_strictMono.monotone.map_min]; rfl
  rw [h, EReal.toReal_coe]

variable {N : ℕ} (f i : Fin N → EReal) (l : ℕ → ℝ) (g : ℕ → EReal) (hl : ∀ s : Fin N, Chunk.lsg (f s) = ((l s : ℝ) : EReal))
  (hg : ∀ s : Fin N, i s = g s) (m0 : EReal) (e : Fin N) (he : ∀ s : Fin N, s ≤ e)

include hl in
/-- The chunk's running sum at a row. -/
theorem cum_eq (t : Fin N) : Chunk.cum f t = ((B l (t.val + 1) : ℝ) : EReal) := by
  unfold Chunk.cum B
  have h : ∀ s : Fin N, (if s ≤ t then Chunk.lsg (f s) else 0) = (if s.val ≤ t.val then ((l s : ℝ) : EReal) else 0) :=
    fun s => by rw [hl]; rfl
  rw [Finset.sum_congr rfl fun s _ => h s, Fin.sum_univ_eq_sum_range (fun s => if s ≤ t.val then ((l s : ℝ) : EReal) else 0) N,
    ← Finset.sum_filter, coe_sum]
  refine Finset.sum_congr (Finset.ext fun s => ?_) fun _ _ => rfl
  simp only [Finset.mem_filter, Finset.mem_range]
  have := t.isLt; omega

/-- The last row's number. -/
theorem last_eq {N : ℕ} (e : Fin N) (he : ∀ s : Fin N, s ≤ e) : e.val + 1 = N := by
  have h := e.isLt
  have := Fin.le_def.mp (he ⟨N - 1, by omega⟩)
  simp only at this; omega

include hl hg he

/-- The maximum a chunk carries on is the one after its tokens. -/
theorem mx_eq : Chunk.mx f i m0 e = mS l g m0 N := by
  unfold Chunk.mx
  rw [mS_closed, cum_eq f l hl, last_eq e he]
  congr 1
  show Finset.univ.sup _ = _
  have h : ∀ s : Fin N, Chunk.ld f i e s = ((B l N - B l (s.val + 1) : ℝ) : EReal) + g s := fun s => by
    unfold Chunk.ld
    rw [if_pos (he s), cum_eq f l hl, cum_eq f l hl, last_eq e he, hg, ← EReal.coe_sub]
  refine le_antisymm (Finset.sup_le fun s _ => ?_) (Finset.sup_le fun s hs => ?_)
  · rw [h s]
    exact Finset.le_sup (f := fun s : ℕ => ((B l N - B l (s + 1) : ℝ) : EReal) + g s) (Finset.mem_range.mpr s.isLt)
  · have := Finset.le_sup (f := fun s => Chunk.ld f i e s) (Finset.mem_univ (⟨s, Finset.mem_range.mp hs⟩ : Fin N))
    exact le_trans (le_of_eq (h ⟨s, Finset.mem_range.mp hs⟩).symm) this

/-- The state a chunk carries on is the one after its tokens. -/
theorem cNew_eq (k v : Fin N → EReal) (k' v' : ℕ → EReal) (hk : ∀ s : Fin N, k s = k' s) (hv : ∀ s : Fin N, v s = v' s) (c0 : EReal) :
    Chunk.cNew k v f i c0 m0 e = cS l g k' v' c0 m0 N := by
  unfold Chunk.cNew
  rw [cS_closed _ _ _ _ _ _ _ (by have := e.isLt; omega), ← Fin.sum_univ_eq_sum_range
    (fun s => k' s * Ideal.exp (((B l N - B l (s + 1) : ℝ) : EReal) + g s - mS l g m0 N) * v' s) N]
  refine congrArg₂ (· + ·) (congrArg (· * c0) ?_) (Finset.sum_congr rfl fun s _ => ?_)
  · unfold Chunk.wi
    rw [mx_eq f i l g hl hg m0 e he, cum_eq f l hl, last_eq e he]
  · unfold Chunk.we
    rw [mx_eq f i l g hl hg m0 e he, cum_eq f l hl, cum_eq f l hl, last_eq e he, hg, ← EReal.coe_sub, hk, hv]

/-- The normalizer a chunk carries on is the state after its tokens against the value one. -/
theorem nNew_eq (k : Fin N → EReal) (k' : ℕ → EReal) (hk : ∀ s : Fin N, k s = k' s) (n0 : EReal) :
    Chunk.nNew k f i n0 m0 e = cS l g k' (fun _ => 1) n0 m0 N := by
  rw [← cNew_eq f i l g hl hg m0 e he k (fun _ => 1) k' (fun _ => 1) hk (fun _ => rfl)]
  unfold Chunk.nNew Chunk.cNew
  simp only [mul_one]

end Cert.Compose
-- ==== Proof.StateSpec.lean ====
/- The state of the prompt group's mixer after its 2048 tokens, token by token, and chunk by chunk of 256 tokens. -/
module
public import proofs.«01_k».proof.Proof.Compose
public import Idealize.ShloMosaic.Lib.Pointwise
@[expose] public section
noncomputable section
open Idealize.ShloMosaic
namespace Cert.StateSpec

/-- A sequence of 2048 entries, carried on by zeros. -/
def ext (x : Fin 2048 → EReal) (s : ℕ) : EReal := if h : s < 2048 then x ⟨s, h⟩ else 0

/-- The real entries of a sequence of 2048, carried on by zeros. -/
def reals (x : Fin 2048 → EReal) (s : ℕ) : ℝ := (ext x s).toReal

/-- The log-sigmoids of 2048 forget gates. -/
def logs (f : Fin 2048 → EReal) (s : Fin 2048) : EReal := Chunk.lsg (f s)

variable (f i : Fin 2048 → EReal)

/-- The maximum after `n` tokens, from an empty state. -/
def m (n : ℕ) : EReal := Compose.mS (reals (logs f)) (ext i) 0 n

/-- One entry of the state after `n` tokens, from an empty state. -/
def st (k v : Fin 2048 → EReal) (n : ℕ) : EReal := Compose.cS (reals (logs f)) (ext i) (ext k) (ext v) 0 0 n

/-- One entry of the normalizer after `n` tokens, from an empty state. -/
def nt (k : Fin 2048 → EReal) (n : ℕ) : EReal := Compose.cS (reals (logs f)) (ext i) (ext k) (fun _ => 1) 0 0 n

/-- A sequence inside its length. -/
theorem ext_of (x : Fin 2048 → EReal) (s : ℕ) (h : s < 2048) : ext x s = x ⟨s, h⟩ := dif_pos h

/-- 255 is the greatest of 256 rows. -/
theorem le255 : ∀ s : Fin 256, s ≤ 255 := by decide

section
variable (hf : ∀ s, f s ≠ ⊥)

include hf in
/-- The log-sigmoids of gates above -∞ are real. -/
theorem logs_coe (s : ℕ) (h : s < 2048) : Chunk.lsg (f ⟨s, h⟩) = ((reals (logs f) s : ℝ) : EReal) := by
  have e := hf ⟨s, h⟩
  unfold reals
  rw [ext_of _ s h, logs]
  generalize f ⟨s, h⟩ = x at e
  induction x with
  | bot => exact absurd rfl e
  | top => rw [Chunk.lsg_top]; rfl
  | coe x => exact Compose.lsg_coe x

variable (c : ℕ) (hc : c < 8) (fb ib : Fin 256 → EReal)
  (hfb : ∀ (s : Fin 256) (h : 256 * c + s.val < 2048), fb s = f ⟨256 * c + s.val, h⟩) (hib : ∀ (s : Fin 256) (h : 256 * c + s.val < 2048), ib s = i ⟨256 * c + s.val, h⟩)

include hf hc hfb hib

/-- A chunk carries the maximum on by 256 tokens. -/
theorem m_step : Chunk.mx fb ib (m f i (256 * c)) 255 = (m f i (256 * (c + 1))) := by
  unfold m
  rw [Nat.mul_add, Nat.mul_one, Compose.mS_add]
  exact Compose.mx_eq fb ib _ _ (fun s => by rw [hfb s (by omega)]; exact logs_coe f hf _ _) (fun s => by rw [hib s (by omega)]; exact (ext_of i _ _).symm) _ 255 le255

/-- A chunk carries an entry of the state on by 256 tokens. -/
theorem st_step (k v : Fin 2048 → EReal) (kb vb : Fin 256 → EReal) (hk : ∀ (s : Fin 256) (h : 256 * c + s.val < 2048), kb s = k ⟨256 * c + s.val, h⟩)
    (hv : ∀ (s : Fin 256) (h : 256 * c + s.val < 2048), vb s = v ⟨256 * c + s.val, h⟩) :
    Chunk.cNew kb vb fb ib (st f i k v (256 * c)) (m f i (256 * c)) 255 = st f i k v (256 * (c + 1)) := by
  unfold m st
  rw [Nat.mul_add, Nat.mul_one, Compose.cS_add]
  exact Compose.cNew_eq fb ib _ _ (fun s => by rw [hfb s (by omega)]; exact logs_coe f hf _ _) (fun s => by rw [hib s (by omega)]; exact (ext_of i _ _).symm) _ 255 le255
    kb vb _ _ (fun s => by rw [hk s (by omega)]; exact (ext_of k _ _).symm) (fun s => by rw [hv s (by omega)]; exact (ext_of v _ _).symm) _

/-- A chunk carries an entry of the normalizer on by 256 tokens. -/
theorem nt_step (k : Fin 2048 → EReal) (kb : Fin 256 → EReal) (hk : ∀ (s : Fin 256) (h : 256 * c + s.val < 2048), kb s = k ⟨256 * c + s.val, h⟩) :
    Chunk.nNew kb fb ib (nt f i k (256 * c)) (m f i (256 * c)) 255 = nt f i k (256 * (c + 1)) := by
  unfold m nt
  rw [Nat.mul_add, Nat.mul_one, Compose.cS_add]
  exact Compose.nNew_eq fb ib _ _ (fun s => by rw [hfb s (by omega)]; exact logs_coe f hf _ _) (fun s => by rw [hib s (by omega)]; exact (ext_of i _ _).symm) _ 255 le255
    kb _ (fun s => by rw [hk s (by omega)]; exact (ext_of k _ _).symm) _

omit hc hfb hib
variable (e : Fin 2048) (he : ∀ s, s ≤ e)
include he

/-- The whole sequence as one chunk carries on the same maximum. -/
theorem m_whole : Chunk.mx f i 0 e = (m f i 2048) :=
  Compose.mx_eq f i _ _ (fun s => logs_coe f hf s.val s.isLt) (fun s => (ext_of i s.val s.isLt).symm) 0 e he

/-- The whole sequence as one chunk carries on the same entry of the state. -/
theorem st_whole (k v : Fin 2048 → EReal) : Chunk.cNew k v f i 0 0 e = st f i k v 2048 :=
  Compose.cNew_eq f i _ _ (fun s => logs_coe f hf s.val s.isLt) (fun s => (ext_of i s.val s.isLt).symm) 0 e he k v _ _
    (fun s => (ext_of k s.val s.isLt).symm) (fun s => (ext_of v s.val s.isLt).symm) 0

/-- The whole sequence as one chunk carries on the same entry of the normalizer. -/
theorem nt_whole (k : Fin 2048 → EReal) : Chunk.nNew k f i 0 0 e = nt f i k 2048 :=
  Compose.nNew_eq f i _ _ (fun s => logs_coe f hf s.val s.isLt) (fun s => (ext_of i s.val s.isLt).symm) 0 e he k _
    (fun s => (ext_of k s.val s.isLt).symm) 0
end

/-! ## The sequences, as functions of the arguments -/

/-- Column `n` of the projection of a token. -/
def proj (x : FVec Ideal ⟨3, ![4, 2048, 4096]⟩ .f32) (w : FVec Ideal ⟨3, ![1, 4096, 10252]⟩ .f32) (b : Fin 4) (s : Fin 2048) (n : Fin 10252) : EReal :=
  ∑ a : Fin 4096, x (ix3 b s a) * w (ix3 0 a n)

variable (x : FVec Ideal ⟨3, ![4, 2048, 4096]⟩ .f32) (w : FVec Ideal ⟨3, ![1, 4096, 10252]⟩ .f32) (bb : FVec Ideal ⟨2, ![1, 12]⟩ .f32)

/-- Gate `g` of a token: the first six are the heads' input gates, the others their forget gates. -/
def gt (b : Fin 4) (g : Fin 12) (s : Fin 2048) : EReal := proj x w b s ⟨9216 + g.val, by omega⟩ + bb (ix2 0 g)

/-- The input gates of a sequence and head. -/
def ig (b : Fin 4) (h : Fin 6) : Fin 2048 → EReal := gt x w bb b ⟨h.val, by omega⟩

/-- The forget gates of a sequence and head. -/
def fg (b : Fin 4) (h : Fin 6) : Fin 2048 → EReal := gt x w bb b ⟨6 + h.val, by omega⟩

/-- One key column of a sequence and head, scaled. -/
def key (b : Fin 4) (h : Fin 6) (d : Fin 256) (s : Fin 2048) : EReal :=
  proj x w b s ⟨1536 + (256 * h.val + d.val), by omega⟩ * Ideal.ofBits .f32 0x3D800000#32

/-- One value column of a sequence and head. -/
def val (b : Fin 4) (h : Fin 6) (j : Fin 512) (s : Fin 2048) : EReal := proj x w b s ⟨3072 + (512 * h.val + j.val), by omega⟩

/-- No forget gate is -∞. -/
def Open : Prop := ∀ b h s, fg x w bb b h s ≠ ⊥

end Cert.StateSpec
-- ==== Proof.StateRec.lean ====
/- The recurrence in the prompt group: the state its region leaves, as a function of the buffers it finds. -/
module
public import proofs.«01_k».proof.Proof.Gen.StateIdeal.Frame
public import proofs.«01_k».proof.Proof.StatePay
public import proofs.«01_k».proof.Proof.StateSpec
public import Idealize.ShloMosaic.Lib.Pipeline.Value
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.StateIdeal Cert.StateIdeal.Gen
open Cert.StateIdeal.Pay (gate keys vals)
namespace Cert.StateIdeal.Rec
variable (V : (c : Dev nD) → (b : Ref sig .tc) → Buf (Elt Ideal) ((c : Thread nD τ).loc b))

/-- Where every window sits at grid point `t`: sequence `t / 48`, head `t / 8 % 6`, chunk `t % 8`. -/
theorem idx : ∀ t : Fin cfg2.N, win2_0.index t = ![0] ∧ win2_2.index t = ![8 * (t.val / 48) + t.val % 8, 6 + t.val / 8 % 6]
  ∧ win2_3.index t = ![8 * (t.val / 48) + t.val % 8, 6 + t.val / 8 % 6]
  ∧ win2_5.index t = ![t.val / 8 % 6, 8 * (t.val / 48) + t.val % 8, 0, 0] ∧ win2_6.index t = ![t.val / 8 % 6, 8 * (t.val / 48) + t.val % 8, 0, 0]
  ∧ win2_7.index t = ![t.val / 48, t.val / 8 % 6, 0, 0] ∧ win2_8.index t = ![t.val / 48, t.val / 8 % 6, 0, 0]
  ∧ win2_9.index t = ![t.val / 48, t.val / 8 % 6, 0, 0] ∧ win2_11.index t = ![t.val / 48, t.val / 8 % 6, 0, 0]
  ∧ win2_12.index t = ![t.val / 48, t.val / 8 % 6, 0, 0] ∧ win2_13.index t = ![t.val / 48, t.val / 8 % 6, 0, 0] :=
  (by decide +kernel : ∀ t : Fin grid2.N, _)

/-- The two bias words a point reads: its head's input and forget gate. -/
theorem offs : ∀ t : Fin cfg2.N, k2_off1 (grid2.coords t) = ![t.val / 8 % 6] ∧ k2_off2 (grid2.coords t) = ![6 + t.val / 8 % 6]
    ∧ t.val / 48 < 4 ∧ t.val / 8 % 6 < 6 :=
  (by decide +kernel : ∀ t : Fin grid2.N, _)

/-- A state block is written back after its last chunk only. -/
theorem flush : ∀ t : Fin cfg2.N, ((cfg2.win 11).flush t = true → t.val % 8 = 7) ∧ ((cfg2.win 12).flush t = true → t.val % 8 = 7)
    ∧ ((cfg2.win 13).flush t = true → t.val % 8 = 7) :=
  (by decide +kernel : ∀ t : Fin cfg2.N, _)

/-- The sequence of point `t`. -/
abbrev sq (t : Fin cfg2.N) : Fin 4 := ⟨t.val / 48, (offs t).2.2.1⟩

/-- The head of point `t`. -/
abbrev hd (t : Fin cfg2.N) : Fin 6 := ⟨t.val / 8 % 6, (offs t).2.2.2⟩

/-- Row `s` of point `t`'s chunk, in its sequence. -/
abbrev tok (t : Fin cfg2.N) (s : Fin 256) : Fin 2048 := ⟨256 * (t.val % 8) + s.val, by omega⟩

variable (c : Dev nD)
variable (K : Fin 4 → Fin 6 → Fin 256 → Fin 2048 → EReal) (W : Fin 4 → Fin 6 → Fin 512 → Fin 2048 → EReal) (I F : Fin 4 → Fin 6 → Fin 2048 → EReal)

/-- What the region finds: the keys `K`, the values `W`, the input gates `I` and the forget gates `F`, which are above -∞, and an empty state. -/
structure Entry : Prop where
  k (b : Fin 4) (h : Fin 6) (d : Fin 256) (s : Fin 2048) :
    (show FVec Ideal S8192x9216 .f32 from V c main_v13) (ix2 ⟨2048 * b.val + s.val, by omega⟩ ⟨1536 + (256 * h.val + d.val), by omega⟩)
      * Ideal.ofBits .f32 0x3D800000#32 = K b h d s
  v (b : Fin 4) (h : Fin 6) (j : Fin 512) (s : Fin 2048) :
    (show FVec Ideal S8192x9216 .f32 from V c main_v13) (ix2 ⟨2048 * b.val + s.val, by omega⟩ ⟨3072 + (512 * h.val + j.val), by omega⟩) = W b h j s
  i (b : Fin 4) (h : Fin 6) (ch : Fin 8) (s : Fin 256) :
    (show FVec Ideal S6x32x1x256 .f32 from V c main_v18) (ix4 h ⟨8 * b.val + ch.val, by omega⟩ 0 s)
      + (show FVec Ideal S12 .f32 from V c main_v7) (ix1 ⟨h.val, by omega⟩) = I b h ⟨256 * ch.val + s.val, by omega⟩
  f (b : Fin 4) (h : Fin 6) (ch : Fin 8) (s : Fin 256) :
    (show FVec Ideal S6x32x1x256 .f32 from V c main_v20) (ix4 h ⟨8 * b.val + ch.val, by omega⟩ 0 s)
      + (show FVec Ideal S12 .f32 from V c main_v7) (ix1 ⟨6 + h.val, by omega⟩) = F b h ⟨256 * ch.val + s.val, by omega⟩
  c0 (i : S4x6x256x512.Idx) : (show FVec Ideal S4x6x256x512 .f32 from V c main_v8) i = 0
  n0 (i : S4x6x1x256.Idx) : (show FVec Ideal S4x6x1x256 .f32 from V c main_v21) i = 0
  m0 (i : S4x6x1x128.Idx) : (show FVec Ideal S4x6x1x128 .f32 from V c main_v23) i = 0
  fr (b : Fin 4) (h : Fin 6) (s : Fin 2048) : F b h s ≠ ⊥

variable {V c K W I F} (E : Entry V c K W I F)
include E

/-- The key block, scaled. -/
theorem blk2 (t : Fin cfg2.N) (d s : Fin 256) : keys (iblk2 V c 2 t) s d = K (sq t) (hd t) d (tok t s) := by
  refine Eq.trans ?_ (E.k (sq t) (hd t) d (tok t s))
  refine congrArg (fun x : EReal => x * _) ?_
  blk_ext [iblk2, idx t]

/-- The value block. -/
theorem blk3 (t : Fin cfg2.N) (j : Fin 512) (s : Fin 256) : vals (iblk2 V c 3 t) s j = W (sq t) (hd t) j (tok t s) := by
  refine Eq.trans ?_ (E.v (sq t) (hd t) j (tok t s))
  unfold vals
  blk_ext [iblk2, idx t]

omit E in
/-- The input gate's bias word. -/
abbrev bi (V : (c : Dev nD) → (b : Ref sig .tc) → Buf (Elt Ideal) ((c : Thread nD τ).loc b)) (c : Dev nD) (t : Fin cfg2.N)
    (h : 0 < (Rect.unit (s := S12) (k2_off1 (grid2.coords t)) ![1] (k2_off1_inb (grid2.coords t))).shape.numel) : Elt Ideal .f32 :=
  View.ld (iblk2 V c 0 t : Vec Ideal S12 .f32) (Rect.unit (k2_off1 (grid2.coords t)) ![1] (k2_off1_inb (grid2.coords t))) (Shape.Idx.first h)

omit E in
/-- The forget gate's bias word. -/
abbrev bf (V : (c : Dev nD) → (b : Ref sig .tc) → Buf (Elt Ideal) ((c : Thread nD τ).loc b)) (c : Dev nD) (t : Fin cfg2.N)
    (h : 0 < (Rect.unit (s := S12) (k2_off2 (grid2.coords t)) ![1] (k2_off2_inb (grid2.coords t))).shape.numel) : Elt Ideal .f32 :=
  View.ld (iblk2 V c 0 t : Vec Ideal S12 .f32) (Rect.unit (k2_off2 (grid2.coords t)) ![1] (k2_off2_inb (grid2.coords t))) (Shape.Idx.first h)

omit E in
/-- The input gate's bias word. -/
theorem bi_eq (t : Fin cfg2.N) (h) : bi V c t h = (show FVec Ideal S12 .f32 from V c main_v7) (ix1 ⟨(hd t).val, by omega⟩) := by
  show View.ld (iblk2 V c 0 t : Vec Ideal S12 .f32) _ _ = _
  blk_simp [iblk2, View.ld]
  congr 1
  funext a
  have ha : a = (0 : Fin 1) := Subsingleton.elim (α := Fin 1) _ _
  subst ha
  apply Fin.ext
  blk_simp [idx t]
  show (k2_off1 (grid2.coords t)) 0 + 1 * 0 = _
  rw [(offs t).1]; rfl

omit E in
/-- The forget gate's bias word. -/
theorem bf_eq (t : Fin cfg2.N) (h) : bf V c t h = (show FVec Ideal S12 .f32 from V c main_v7) (ix1 ⟨6 + (hd t).val, by omega⟩) := by
  show View.ld (iblk2 V c 0 t : Vec Ideal S12 .f32) _ _ = _
  blk_simp [iblk2, View.ld]
  congr 1
  funext a
  have ha : a = (0 : Fin 1) := Subsingleton.elim (α := Fin 1) _ _
  subst ha
  apply Fin.ext
  blk_simp [idx t]
  show (k2_off2 (grid2.coords t)) 0 + 1 * 0 = _
  rw [(offs t).2.1]; rfl

omit E in
/-- The input-gate block. -/
theorem blk5 (t : Fin cfg2.N) (s : Fin 256) : iblk2 V c 5 t (ix4 0 0 0 s)
    = (show FVec Ideal S6x32x1x256 .f32 from V c main_v18) (ix4 (hd t) ⟨8 * (sq t).val + t.val % 8, by omega⟩ 0 s) := by
  blk_ext [iblk2, idx t]

omit E in
/-- The forget-gate block. -/
theorem blk6 (t : Fin cfg2.N) (s : Fin 256) : iblk2 V c 6 t (ix4 0 0 0 s)
    = (show FVec Ideal S6x32x1x256 .f32 from V c main_v20) (ix4 (hd t) ⟨8 * (sq t).val + t.val % 8, by omega⟩ 0 s) := by
  blk_ext [iblk2, idx t]

/-- The input gates of a chunk. -/
theorem gateI (t : Fin cfg2.N) (h) (s : Fin 256) : gate (iblk2 V c 5 t) (bi V c t h) s = I (sq t) (hd t) (tok t s) :=
  (congrArg₂ (fun x y : EReal => x + y) (blk5 t s) (bi_eq t h)).trans (E.i (sq t) (hd t) ⟨t.val % 8, by omega⟩ s)

/-- The forget gates of a chunk. -/
theorem gateF (t : Fin cfg2.N) (h) (s : Fin 256) : gate (iblk2 V c 6 t) (bf V c t h) s = F (sq t) (hd t) (tok t s) :=
  (congrArg₂ (fun x y : EReal => x + y) (blk6 t s) (bf_eq t h)).trans (E.f (sq t) (hd t) ⟨t.val % 8, by omega⟩ s)

/-- The first state's block, copied. -/
theorem blk7 (t : Fin cfg2.N) (d : Fin 256) (j : Fin 512) : k2_pay5 (F := Ideal) (iblk2 V c 7 t) (ix4 0 0 d j) = 0 := by
  refine Eq.trans ?_ (E.c0 (ix4 (sq t) (hd t) d j))
  pointwise [k2_pay5]
  blk_ext [iblk2, idx t]

/-- The first normalizer's block, copied. -/
theorem blk8 (t : Fin cfg2.N) (d : Fin 256) : k2_pay6 (F := Ideal) (iblk2 V c 8 t) (ix4 0 0 0 d) = 0 := by
  refine Eq.trans ?_ (E.n0 (ix4 (sq t) (hd t) 0 d))
  pointwise [k2_pay6]
  blk_ext [iblk2, idx t]

/-- The first maximum's block. -/
theorem blk9 (t : Fin cfg2.N) (l : Fin 128) : iblk2 V c 9 t (ix4 0 0 0 l) = (0 : EReal) := by
  refine Eq.trans ?_ (E.m0 (ix4 (sq t) (hd t) 0 l))
  blk_ext [iblk2, idx t]

omit E in
/-- The first maximum, read back from the block it was copied to. -/
abbrev mc (V : (c : Dev nD) → (b : Ref sig .tc) → Buf (Elt Ideal) ((c : Thread nD τ).loc b)) (c : Dev nD) (t : Fin cfg2.N) :
    Vec Ideal S1x1x1x1 .f32 := (ms2_13 t).view.readCov
  [⟨Rect.unit ![0, 0, 0, 0] ![1, 1, 1, 128] inb_S1x1x1x128_S1x1x1x128_0_0_0_0, k2_pay7 (F := Ideal) (iblk2 V c 9 t)⟩]
  (Rect.unit ![0, 0, 0, 0] ![1, 1, 1, 1] inb_S1x1x1x128_S1x1x1x1_0_0_0_0).toLoadRect

/-- The first maximum is zero. -/
theorem mc_eq (t : Fin cfg2.N) : mc V c t (ix4 0 0 0 0) = (0 : EReal) := by
  have := congrFun (View.readCov_fill (Val := Elt Ideal) (ms2_13 t).view inb_S1x1x1x128_S1x1x1x128_0_0_0_0 (k2_pay7 (F := Ideal) (iblk2 V c 9 t)) []
     (Rect.unit ![0, 0, 0, 0] ![1, 1, 1, 1] inb_S1x1x1x128_S1x1x1x1_0_0_0_0) (by intro a; fin_cases a <;> rfl)) (ix4 0 0 0 0)
  refine this.trans (Eq.trans ?_ (blk9 E t 0))
  pointwise [View.ld, k2_pay7]
  blk_ext

omit E in
/-- A maximum loaded from the block of lanes it was stored in. -/
abbrev ml (x : Vec Ideal S1x1x1x128 .f32) : Vec Ideal S1x1x1x1 .f32 :=
  View.ld x (Rect.unit ![0, 0, 0, 0] ![1, 1, 1, 1] inb_S1x1x1x128_S1x1x1x1_0_0_0_0)

omit E in
/-- It is the block's first lane. -/
theorem ld_eq (x : Vec Ideal S1x1x1x128 .f32) : ml x (ix4 0 0 0 0) = x (ix4 0 0 0 0) := by
  pointwise [ml, View.ld]
  blk_ext

/-! ## The state after a chunk -/

/-- An entry of the state carried on from `c0` and `m0` at point `t`. -/
theorem c_pt (t : Fin cfg2.N) (h h') (c0 : Vec Ideal S1x1x256x512 .f32) (m0 : Vec Ideal S1x1x1x1 .f32) (d : Fin 256) (j : Fin 512)
    (hm : m0 (ix4 0 0 0 0) = (StateSpec.m (F (sq t) (hd t)) (I (sq t) (hd t)) (256 * (t.val % 8))))
    (hc : c0 (ix4 0 0 d j) = StateSpec.st (F (sq t) (hd t)) (I (sq t) (hd t)) (K (sq t) (hd t) d) (W (sq t) (hd t) j) (256 * (t.val % 8))) :
    Chunk.cNew (fun s => keys (iblk2 V c 2 t) s d) (fun s => vals (iblk2 V c 3 t) s j) (gate (iblk2 V c 6 t) (bf V c t h')) (gate (iblk2 V c 5 t) (bi V c t h))
        (c0 (ix4 0 0 d j)) (m0 (ix4 0 0 0 0)) 255
      = StateSpec.st (F (sq t) (hd t)) (I (sq t) (hd t)) (K (sq t) (hd t) d) (W (sq t) (hd t) j) (256 * (t.val % 8 + 1)) := by
  rw [hm, hc]
  exact StateSpec.st_step _ _ (E.fr _ _) (t.val % 8) (by omega) _ _ (fun s _ => gateF E t h' s) (fun s _ => gateI E t h s) _ _ _ _ (fun s _ => blk2 E t d s) (fun s _ => blk3 E t j s)

/-- An entry of the normalizer carried on from `n0` and `m0` at point `t`. -/
theorem n_pt (t : Fin cfg2.N) (h h') (n0 : Vec Ideal S1x1x1x256 .f32) (m0 : Vec Ideal S1x1x1x1 .f32) (d : Fin 256)
    (hm : m0 (ix4 0 0 0 0) = (StateSpec.m (F (sq t) (hd t)) (I (sq t) (hd t)) (256 * (t.val % 8))))
    (hn : n0 (ix4 0 0 0 d) = StateSpec.nt (F (sq t) (hd t)) (I (sq t) (hd t)) (K (sq t) (hd t) d) (256 * (t.val % 8))) :
    Chunk.nNew (fun s => keys (iblk2 V c 2 t) s d) (gate (iblk2 V c 6 t) (bf V c t h')) (gate (iblk2 V c 5 t) (bi V c t h))
        (n0 (ix4 0 0 0 d)) (m0 (ix4 0 0 0 0)) 255
      = StateSpec.nt (F (sq t) (hd t)) (I (sq t) (hd t)) (K (sq t) (hd t) d) (256 * (t.val % 8 + 1)) := by
  rw [hm, hn]
  exact StateSpec.nt_step _ _ (E.fr _ _) (t.val % 8) (by omega) _ _ (fun s _ => gateF E t h' s) (fun s _ => gateI E t h s) _ _ (fun s _ => blk2 E t d s)

/-- The maximum carried on from `m0` at point `t`. -/
theorem m_pt (t : Fin cfg2.N) (h h') (m0 : Vec Ideal S1x1x1x1 .f32)
    (hm : m0 (ix4 0 0 0 0) = (StateSpec.m (F (sq t) (hd t)) (I (sq t) (hd t)) (256 * (t.val % 8)))) :
    Chunk.mx (gate (iblk2 V c 6 t) (bf V c t h')) (gate (iblk2 V c 5 t) (bi V c t h)) (m0 (ix4 0 0 0 0)) 255
      = (StateSpec.m (F (sq t) (hd t)) (I (sq t) (hd t)) (256 * (t.val % 8 + 1))) := by
  rw [hm]
  exact StateSpec.m_step _ _ (E.fr _ _) (t.val % 8) (by omega) _ _ (fun s _ => gateF E t h' s) (fun s _ => gateI E t h s)

omit E in
/-- The state after point `t` is the one after its chunk's last token. -/
structure At (V : (c : Dev nD) → (b : Ref sig .tc) → Buf (Elt Ideal) ((c : Thread nD τ).loc b)) (c : Dev nD)
    (K : Fin 4 → Fin 6 → Fin 256 → Fin 2048 → EReal) (W : Fin 4 → Fin 6 → Fin 512 → Fin 2048 → EReal) (I F : Fin 4 → Fin 6 → Fin 2048 → EReal)
    (t : Fin cfg2.N) (b : Fin 4) (h : Fin 6) (n : ℕ) : Prop where
  sc (d : Fin 256) (j : Fin 512) : (outsAt2 V c t.val t.isLt).2.1 (ix4 0 0 d j) = StateSpec.st (F b h) (I b h) (K b h d) (W b h j) n
  sn (d : Fin 256) : (outsAt2 V c t.val t.isLt).2.2.1 (ix4 0 0 0 d) = StateSpec.nt (F b h) (I b h) (K b h d) n
  sm (l : Fin 128) : (outsAt2 V c t.val t.isLt).2.2.2 (ix4 0 0 0 l) = (StateSpec.m (F b h) (I b h) n)

/-- The first chunk of a sequence starts from the empty state. -/
theorem first (t : Fin cfg2.N) (h0 : t.val % 8 = 0) : At V c K W I F t (sq t) (hd t) (256 * (t.val % 8 + 1)) := by
  have z : 256 * (t.val % 8) = 0 := by omega
  have hm : mc V c t (ix4 0 0 0 0) = (StateSpec.m (F (sq t) (hd t)) (I (sq t) (hd t)) (256 * (t.val % 8))) := by
    rw [mc_eq E t, z]; rfl
  refine ⟨fun d j => ?_, fun d => ?_, fun l => ?_⟩
  · rw [outsAt2_A V c t h0]
    dsimp only
    frame_out
    refine (Pay.c_at (iblk2 V c 2 t) (iblk2 V c 3 t) (iblk2 V c 5 t) (iblk2 V c 6 t) (bi V c t _) (bf V c t _)
      (k2_pay5 (iblk2 V c 7 t)) (mc V c t) d j).trans ?_
    exact c_pt E t _ _ _ _ d j hm (by rw [blk7 E t, z]; rfl)
  · rw [outsAt2_A V c t h0]
    dsimp only
    frame_out
    refine (Pay.n_at (iblk2 V c 2 t) (iblk2 V c 5 t) (iblk2 V c 6 t) (bi V c t _) (bf V c t _)
      (k2_pay6 (iblk2 V c 8 t)) (mc V c t) d).trans ?_
    exact n_pt E t _ _ _ _ d hm (by rw [blk8 E t, z]; rfl)
  · rw [outsAt2_A V c t h0]
    dsimp only
    frame_out
    refine (Pay.m_at (iblk2 V c 5 t) (iblk2 V c 6 t) (bi V c t _) (bf V c t _) (mc V c t) l).trans ?_
    exact m_pt E t _ _ _ hm

/-- A later chunk carries the state on from what the one before it left. -/
theorem next_c (t : Fin cfg2.N) (h0 : ¬ t.val % 8 = 0) (d : Fin 256) (j : Fin 512) (c0 : Vec Ideal S1x1x256x512 .f32) (m0 : Vec Ideal S1x1x1x128 .f32)
    (hc0 : c0 = (outsAt2 V c (t.val - 1) (Nat.lt_of_le_of_lt (Nat.sub_le _ _) t.isLt)).2.1)
    (hm0 : m0 = (outsAt2 V c (t.val - 1) (Nat.lt_of_le_of_lt (Nat.sub_le _ _) t.isLt)).2.2.2)
    (hm : m0 (ix4 0 0 0 0) = (StateSpec.m (F (sq t) (hd t)) (I (sq t) (hd t)) (256 * (t.val % 8))))
    (hc : c0 (ix4 0 0 d j) = StateSpec.st (F (sq t) (hd t)) (I (sq t) (hd t)) (K (sq t) (hd t) d) (W (sq t) (hd t) j) (256 * (t.val % 8))) :
    (outsAt2 V c t.val t.isLt).2.1 (ix4 0 0 d j)
      = StateSpec.st (F (sq t) (hd t)) (I (sq t) (hd t)) (K (sq t) (hd t) d) (W (sq t) (hd t) j) (256 * (t.val % 8 + 1)) := by
  rw [outsAt2_B V c t h0]
  dsimp only
  frame_out
  rw [← hc0, ← hm0]
  refine (Pay.c_at (iblk2 V c 2 t) (iblk2 V c 3 t) (iblk2 V c 5 t) (iblk2 V c 6 t) (bi V c t _) (bf V c t _) c0 (ml m0) d j).trans ?_
  exact c_pt E t _ _ _ _ d j ((ld_eq m0).trans hm) hc

/-- A later chunk carries the normalizer on from what the one before it left. -/
theorem next_n (t : Fin cfg2.N) (h0 : ¬ t.val % 8 = 0) (d : Fin 256) (n0 : Vec Ideal S1x1x1x256 .f32) (m0 : Vec Ideal S1x1x1x128 .f32)
    (hn0 : n0 = (outsAt2 V c (t.val - 1) (Nat.lt_of_le_of_lt (Nat.sub_le _ _) t.isLt)).2.2.1)
    (hm0 : m0 = (outsAt2 V c (t.val - 1) (Nat.lt_of_le_of_lt (Nat.sub_le _ _) t.isLt)).2.2.2)
    (hm : m0 (ix4 0 0 0 0) = (StateSpec.m (F (sq t) (hd t)) (I (sq t) (hd t)) (256 * (t.val % 8))))
    (hn : n0 (ix4 0 0 0 d) = StateSpec.nt (F (sq t) (hd t)) (I (sq t) (hd t)) (K (sq t) (hd t) d) (256 * (t.val % 8))) :
    (outsAt2 V c t.val t.isLt).2.2.1 (ix4 0 0 0 d) = StateSpec.nt (F (sq t) (hd t)) (I (sq t) (hd t)) (K (sq t) (hd t) d) (256 * (t.val % 8 + 1)) := by
  rw [outsAt2_B V c t h0]
  dsimp only
  frame_out
  rw [← hn0, ← hm0]
  refine (Pay.n_at (iblk2 V c 2 t) (iblk2 V c 5 t) (iblk2 V c 6 t) (bi V c t _) (bf V c t _) n0 (ml m0) d).trans ?_
  exact n_pt E t _ _ _ _ d ((ld_eq m0).trans hm) hn

/-- A later chunk carries the maximum on from what the one before it left. -/
theorem next_m (t : Fin cfg2.N) (h0 : ¬ t.val % 8 = 0) (l : Fin 128) (m0 : Vec Ideal S1x1x1x128 .f32)
    (hm0 : m0 = (outsAt2 V c (t.val - 1) (Nat.lt_of_le_of_lt (Nat.sub_le _ _) t.isLt)).2.2.2)
    (hm : m0 (ix4 0 0 0 0) = (StateSpec.m (F (sq t) (hd t)) (I (sq t) (hd t)) (256 * (t.val % 8)))) :
    (outsAt2 V c t.val t.isLt).2.2.2 (ix4 0 0 0 l) = (StateSpec.m (F (sq t) (hd t)) (I (sq t) (hd t)) (256 * (t.val % 8 + 1))) := by
  rw [outsAt2_B V c t h0]
  dsimp only
  frame_out
  rw [← hm0]
  refine (Pay.m_at (iblk2 V c 5 t) (iblk2 V c 6 t) (bi V c t _) (bf V c t _) (ml m0) l).trans ?_
  exact m_pt E t _ _ _ ((ld_eq m0).trans hm)

/-- A later chunk starts from the state the one before it left. -/
theorem next (t : Fin cfg2.N) (h0 : ¬ t.val % 8 = 0)
    (P : At V c K W I F ⟨t.val - 1, Nat.lt_of_le_of_lt (Nat.sub_le _ _) t.isLt⟩ (sq t) (hd t) (256 * (t.val % 8))) :
    At V c K W I F t (sq t) (hd t) (256 * (t.val % 8 + 1)) :=
  ⟨fun d j => next_c E t h0 d j _ _ rfl rfl (P.sm 0) (P.sc d j), fun d => next_n E t h0 d _ _ rfl rfl (P.sm 0) (P.sn d),
    fun l => next_m E t h0 l _ rfl (P.sm 0)⟩

/-- The state after every point. -/
theorem inv (n : ℕ) : ∀ t : Fin cfg2.N, t.val % 8 = n → At V c K W I F t (sq t) (hd t) (256 * (t.val % 8 + 1)) := by
  induction n with
  | zero => exact fun t h0 => first E t h0
  | succ n ih =>
    intro t ht
    have q := ih ⟨t.val - 1, Nat.lt_of_le_of_lt (Nat.sub_le _ _) t.isLt⟩ (by show (t.val - 1) % 8 = n; omega)
    have e : sq ⟨t.val - 1, Nat.lt_of_le_of_lt (Nat.sub_le _ _) t.isLt⟩ = sq t := Fin.ext (by show (t.val - 1) / 48 = t.val / 48; omega)
    have e' : hd ⟨t.val - 1, Nat.lt_of_le_of_lt (Nat.sub_le _ _) t.isLt⟩ = hd t := Fin.ext (by show (t.val - 1) / 8 % 6 = t.val / 8 % 6; omega)
    have e'' : 256 * ((t.val - 1) % 8 + 1) = 256 * (t.val % 8) := by omega
    rw [e, e'] at q
    refine next E t (by omega) ?_
    rw [← e'']
    exact q

/-- The state when its block is written back. -/
theorem done (t : Fin cfg2.N) (h7 : t.val % 8 = 7) : At V c K W I F t (sq t) (hd t) 2048 := by
  have q := inv E _ t rfl
  rw [h7] at q
  exact q

/-! ## The arrays -/

omit E in
/-- The states after all tokens. -/
def cArr (K : Fin 4 → Fin 6 → Fin 256 → Fin 2048 → EReal) (W : Fin 4 → Fin 6 → Fin 512 → Fin 2048 → EReal) (I F : Fin 4 → Fin 6 → Fin 2048 → EReal)
    (i : S4x6x256x512.Idx) : EReal := StateSpec.st (F (i 0) (i 1)) (I (i 0) (i 1)) (K (i 0) (i 1) (i 2)) (W (i 0) (i 1) (i 3)) 2048

omit E in
/-- The normalizers after all tokens. -/
def nArr (K : Fin 4 → Fin 6 → Fin 256 → Fin 2048 → EReal) (I F : Fin 4 → Fin 6 → Fin 2048 → EReal)
    (i : S4x6x1x256.Idx) : EReal := StateSpec.nt (F (i 0) (i 1)) (I (i 0) (i 1)) (K (i 0) (i 1) (i 3)) 2048

omit E in
/-- The maxima after all tokens. -/
def mArr (I F : Fin 4 → Fin 6 → Fin 2048 → EReal) (i : S4x6x1x128.Idx) : EReal := (StateSpec.m (F (i 0) (i 1)) (I (i 0) (i 1)) 2048)

omit E in
/-- A stored block of the states, in the whole array. -/
theorem c_at (t : Fin cfg2.N) (d : Fin 256) (j : Fin 512) :
    cArr K W I F (((View.whole main_v24_1).slice (win2_11.rect t)).emb (ix4 0 0 d j))
      = StateSpec.st (F (sq t) (hd t)) (I (sq t) (hd t)) (K (sq t) (hd t) d) (W (sq t) (hd t) j) 2048 := by
  have e : ((View.whole main_v24_1).slice (win2_11.rect t)).emb (ix4 0 0 d j) = ix4 (sq t) (hd t) d j :=
    funext fun a => Fin.ext (by fin_cases a <;> (blk_simp [idx t]; try first | omega | rfl))
  rw [e]; rfl

omit E in
/-- A stored block of the normalizers, in the whole array. -/
theorem n_at (t : Fin cfg2.N) (d : Fin 256) :
    nArr K I F (((View.whole main_v24_2).slice (win2_12.rect t)).emb (ix4 0 0 0 d))
      = StateSpec.nt (F (sq t) (hd t)) (I (sq t) (hd t)) (K (sq t) (hd t) d) 2048 := by
  have e : ((View.whole main_v24_2).slice (win2_12.rect t)).emb (ix4 0 0 0 d) = ix4 (sq t) (hd t) 0 d :=
    funext fun a => Fin.ext (by fin_cases a <;> (blk_simp [idx t]; try first | omega | rfl))
  rw [e]; rfl

omit E in
/-- A stored block of the maxima, in the whole array. -/
theorem m_at (t : Fin cfg2.N) (l : Fin 128) :
    mArr I F (((View.whole main_v24_3).slice (win2_13.rect t)).emb (ix4 0 0 0 l))
      = (StateSpec.m (F (sq t) (hd t)) (I (sq t) (hd t)) 2048) := by
  have e : ((View.whole main_v24_3).slice (win2_13.rect t)).emb (ix4 0 0 0 l) = ix4 (sq t) (hd t) 0 l :=
    funext fun a => Fin.ext (by fin_cases a <;> (blk_simp [idx t]; try first | omega | rfl))
  rw [e]; rfl

/-- The states after the run. -/
theorem final11 : (dat2 V c).arrAt 11 cfg2.N = cArr K W I F := by
  refine (dat2 V c).arrAt_eq_of_covers 11 _ (by decide +kernel) fun t hf y => ?_
  have P := done E t ((flush t).1 hf)
  blk_simp
  rw [after2_11]
  idx_vars y
  obtain rfl : y0 = 0 := Subsingleton.elim _ _
  obtain rfl : y1 = 0 := Subsingleton.elim _ _
  exact (P.sc y2 y3).trans (c_at t y2 y3).symm

/-- The normalizers after the run. -/
theorem final12 : (dat2 V c).arrAt 12 cfg2.N = nArr K I F := by
  refine (dat2 V c).arrAt_eq_of_covers 12 _ (by decide +kernel) fun t hf y => ?_
  have P := done E t ((flush t).2.1 hf)
  blk_simp
  rw [after2_12]
  idx_vars y
  obtain rfl : y0 = 0 := Subsingleton.elim _ _
  obtain rfl : y1 = 0 := Subsingleton.elim _ _
  obtain rfl : y2 = 0 := Subsingleton.elim _ _
  exact (P.sn y3).trans (n_at t y3).symm

/-- The maxima after the run. -/
theorem final13 : (dat2 V c).arrAt 13 cfg2.N = mArr I F := by
  refine (dat2 V c).arrAt_eq_of_covers 13 _ (by decide +kernel) fun t hf y => ?_
  have P := done E t ((flush t).2.2 hf)
  blk_simp
  rw [after2_13]
  idx_vars y
  obtain rfl : y0 = 0 := Subsingleton.elim _ _
  obtain rfl : y1 = 0 := Subsingleton.elim _ _
  obtain rfl : y2 = 0 := Subsingleton.elim _ _
  exact (P.sm y3).trans (m_at t y3).symm

end Cert.StateIdeal.Rec
-- ==== Proof.StateRun.lean ====
/- The prompt group's mixer: the three arrays of its state as functions of its three arguments. -/
module
public import proofs.«01_k».proof.Proof.StateArr
public import proofs.«01_k».proof.Proof.StateRec
public import Idealize.ShloMosaic.Lib.Claim
public import Idealize.ShloMosaic.Lib.KernelVsHost
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.StateIdeal.Run
open Idealize.ShloMosaic.Rounds
open Cert.StateIdeal Cert.StateIdeal.Gen Cert.StateIdeal.Arr

local notation "𝕄" => MT nD τ sig Unit (Elt Ideal) ℕ (UR sig nD τ) ℕ

variable (m : (ℓ : Loc nD τ sig) → Buf (Elt Ideal) ℓ) (ρ : Dev nD → PrngReg)

/-- The stream. -/
abbrev ax (c : Dev nD) : FVec Ideal S4x2048x4096 .f32 := m ((c : Thread nD τ).loc main_arg0)
/-- The mixer's weight. -/
abbrev aw (c : Dev nD) : FVec Ideal S1x4096x10252 .f32 := m ((c : Thread nD τ).loc main_arg1)
/-- The gates' bias. -/
abbrev ab (c : Dev nD) : FVec Ideal S1x12 .f32 := m ((c : Thread nD τ).loc main_arg2)

/-! ## What the projections are entered with -/

/-- The rows of the stream. -/
theorem entry_x (c : Dev nD) (b : Fin 4) (s : Fin 2048) (a : Fin 4096) :
    (show FVec Ideal S8192x4096 .f32 from V3 m ρ c main_v11) (ix2 ⟨2048 * b.val + s.val, by omega⟩ a) = ax m c (ix3 b s a) := by
  dsimp only [V3, W3, W2, W1]
  after_results_simp
  pointwise

/-- The narrowed rows of the stream. -/
theorem entry_xb (c : Dev nD) (b : Fin 4) (s : Fin 2048) (a : Fin 4096) :
    (show FVec Ideal S8192x4096 .bf16 from V3 m ρ c main_v12) (ix2 ⟨2048 * b.val + s.val, by omega⟩ a) = ax m c (ix3 b s a) := by
  dsimp only [V3, W3, W2, W1]
  after_results_simp
  pointwise
  refine congrArg (ax m c) (funext fun k => Fin.ext ?_)
  fin_cases k
  · show (2048 * b.val + s.val) / 2048 = b.val; omega
  · show (2048 * b.val + s.val) % 2048 = s.val; omega
  · rfl

/-- The weight of the token projections. -/
theorem entry_wt (c : Dev nD) (n : Fin 9216) (a : Fin 4096) :
    (show FVec Ideal S9216x4096 .bf16 from V3 m ρ c main_v3) (ix2 n a) = aw m c (ix3 0 a ⟨n.val, by omega⟩) := by
  dsimp only [V3, W3, W2, W1]
  after_results_simp
  pointwise

/-- The weight of the gates, before it is padded to whole lanes. -/
theorem entry_w12 (c : Dev nD) (g : Fin 12) (a : Fin 4096) :
    (show FVec Ideal S12x4096 .f32 from W1 m ρ c (Proc.devRef .tc main_v5)) (ix2 g a) = aw m c (ix3 0 a ⟨9216 + g.val, by omega⟩) := by
  dsimp only [W1]
  after_results_simp
  pointwise

/-- The weight of the gates: the first twelve rows of the padded array. -/
theorem entry_wg (c : Dev nD) (g : Fin 12) (a : Fin 4096) :
    V3 m ρ c main_v6 (ix2 ⟨g.val, by omega⟩ a) = aw m c (ix3 0 a ⟨9216 + g.val, by omega⟩) := by
  dsimp only [V3, W3, W2, W1]
  after_results_simp
  change pad S128x4096 ![0, 0] ![116, 0] ![0, 0] (_ : S12x4096.Idx → EReal) _ pads_S12x4096_S128x4096_01160_000 h_S_ _ = _
  refine (pad_apply_of_inside ![0, 0] ![116, 0] ![0, 0] _ _ _ h_S_ _ (ix2 g a) fun k => ?_).trans ?_
  · match k with
    | ⟨0, _⟩ => show g.val = 0 + g.val * (0 + 1); omega
    | ⟨1, _⟩ => show a.val = 0 + a.val * (0 + 1); omega
  exact entry_w12 m ρ c g a

/-- The bias. -/
theorem entry_b (c : Dev nD) (g : Fin 12) : (show FVec Ideal S12 .f32 from V3 m ρ c main_v7) (ix1 g) = ab m c (ix2 0 g) := by
  dsimp only [V3, W3, W2, W1]
  after_results_simp
  pointwise

/-- The constant zero. -/
theorem hz : (FloatOps.ofBits (F := Ideal) FTy.f32 0#32) = (0 : EReal) := by
  show Ideal.ofBits .f32 0#32 = 0
  simp [Ideal.ofBits, Ideal.ieee]

/-- The states are first empty. -/
theorem entry_c (c : Dev nD) (i : S4x6x256x512.Idx) : (show FVec Ideal S4x6x256x512 .f32 from V3 m ρ c main_v8) i = (0 : EReal) := by
  dsimp only [V3, W3, W2, W1]
  after_results_simp
  exact hz

/-- The normalizers are first zero. -/
theorem entry_n (c : Dev nD) (i : S4x6x256.Idx) : (show FVec Ideal S4x6x256 .f32 from V3 m ρ c main_v9) i = (0 : EReal) := by
  dsimp only [V3, W3, W2, W1]
  after_results_simp
  exact hz

/-- The maxima are first zero. -/
theorem entry_m (c : Dev nD) (i : S4x6.Idx) : (show FVec Ideal S4x6 .f32 from V3 m ρ c main_v10) i = (0 : EReal) := by
  dsimp only [V3, W3, W2, W1]
  after_results_simp
  exact hz

/-! ## What the recurrence is entered with -/

/-- The token projections at the recurrence's entry. -/
theorem proj_tok (c : Dev nD) (b : Fin 4) (s : Fin 2048) (n : Fin 9216) :
    (show FVec Ideal S8192x9216 .f32 from V6 m ρ c main_v13) (ix2 ⟨2048 * b.val + s.val, by omega⟩ n)
      = StateSpec.proj (ax m c) (aw m c) b s ⟨n.val, by omega⟩ := by
  refine (congrFun ((W6_of m ρ c main_v13 (by decide)).trans ((W5_of m ρ c main_v13 (by decide)).trans
    ((W4_arr m ρ c 2).trans (final0 (V3 m ρ) c)))) _).trans ?_
  exact Finset.sum_congr (M := EReal) rfl fun (a : Fin 4096) _ => congrArg₂ (fun x y : EReal => x * y) (entry_xb m ρ c b s a) (entry_wt m ρ c n a)

/-- The gates' projections when the last projection is done. -/
theorem proj_gate (c : Dev nD) (g : Fin 12) (b : Fin 4) (s : Fin 2048) :
    (show FVec Ideal S8192x128 .f32 from W5 m ρ c (Proc.devRef .tc main_v14)) (ix2 ⟨2048 * b.val + s.val, by omega⟩ ⟨g.val, by omega⟩)
      = StateSpec.proj (ax m c) (aw m c) b s ⟨9216 + g.val, by omega⟩ := by
  refine (congrFun ((W5_arr m ρ c 2).trans (final1 (V4 m ρ) c)) _).trans ?_
  exact Finset.sum_congr (M := EReal) rfl fun (a : Fin 4096) _ => congrArg₂ (fun x y : EReal => x * y)
    ((congrFun (W4_of m ρ c main_v11 (by decide)) _).trans (entry_x m ρ c b s a))
    ((congrFun (W4_of m ρ c main_v6 (by decide)) _).trans (entry_wg m ρ c g a))

/-- An array the projections leave alone, when they are done. -/
theorem kept (c : Dev nD) (r : Ref sig .tc) (h4 : ∀ w : Fin cfg0.W, Pipeline.arrRef spec0 w = r → (cfg0.win w).isOut = false)
    (h5 : ∀ w : Fin cfg1.W, Pipeline.arrRef spec1 w = r → (cfg1.win w).isOut = false) :
    W5 m ρ c (Proc.devRef .tc r) = V3 m ρ c r :=
  (W5_of m ρ c r h5).trans (W4_of m ρ c r h4)

/-- The input gates' blocks. -/
theorem found_i (c : Dev nD) (b : Fin 4) (h : Fin 6) (ch : Fin 8) (s : Fin 256) :
    (show FVec Ideal S6x32x1x256 .f32 from V6 m ρ c main_v18) (ix4 h ⟨8 * b.val + ch.val, by omega⟩ 0 s)
      = StateSpec.proj (ax m c) (aw m c) b ⟨256 * ch.val + s.val, by omega⟩ ⟨9216 + h.val, by omega⟩ := by
  refine Eq.trans ?_ (proj_gate m ρ c ⟨h.val, by omega⟩ b ⟨256 * ch.val + s.val, by omega⟩)
  dsimp only [V6, W6]
  after_results_simp
  pointwise
  rw [show (⟨2048 * b.val + (256 * ch.val + s.val), by omega⟩ : Fin 8192) = ⟨(8 * b.val + ch.val) * 256 + s.val, by omega⟩ from Fin.ext (by show 2048 * b.val + (256 * ch.val + s.val) = (8 * b.val + ch.val) * 256 + s.val; omega)]

/-- The forget gates' blocks. -/
theorem found_f (c : Dev nD) (b : Fin 4) (h : Fin 6) (ch : Fin 8) (s : Fin 256) :
    (show FVec Ideal S6x32x1x256 .f32 from V6 m ρ c main_v20) (ix4 h ⟨8 * b.val + ch.val, by omega⟩ 0 s)
      = StateSpec.proj (ax m c) (aw m c) b ⟨256 * ch.val + s.val, by omega⟩ ⟨9216 + (6 + h.val), by omega⟩ := by
  refine Eq.trans ?_ (proj_gate m ρ c ⟨6 + h.val, by omega⟩ b ⟨256 * ch.val + s.val, by omega⟩)
  dsimp only [V6, W6]
  after_results_simp
  pointwise
  rw [show (⟨2048 * b.val + (256 * ch.val + s.val), by omega⟩ : Fin 8192) = ⟨(8 * b.val + ch.val) * 256 + s.val, by omega⟩ from Fin.ext (by show 2048 * b.val + (256 * ch.val + s.val) = (8 * b.val + ch.val) * 256 + s.val; omega)]

/-- The bias at the recurrence's entry. -/
theorem found_b (c : Dev nD) (g : Fin 12) : (show FVec Ideal S12 .f32 from V6 m ρ c main_v7) (ix1 g) = ab m c (ix2 0 g) :=
  (congrFun ((W6_of m ρ c main_v7 (by decide)).trans (kept m ρ c main_v7 (by decide) (by decide))) _).trans (entry_b m ρ c g)

/-- The recurrence finds the sequences' keys, values and gates, and an empty state. -/
theorem entry (c : Dev nD) (R : StateSpec.Open (ax m c) (aw m c) (ab m c)) :
    Rec.Entry (V6 m ρ) c (StateSpec.key (ax m c) (aw m c)) (StateSpec.val (ax m c) (aw m c)) (StateSpec.ig (ax m c) (aw m c) (ab m c))
      (StateSpec.fg (ax m c) (aw m c) (ab m c)) where
  k b h d s := congrArg (fun x : EReal => x * _) (proj_tok m ρ c b s ⟨1536 + (256 * h.val + d.val), by omega⟩)
  v b h j s := proj_tok m ρ c b s ⟨3072 + (512 * h.val + j.val), by omega⟩
  i b h ch s := congrArg₂ (fun x y : EReal => x + y) (found_i m ρ c b h ch s) (found_b m ρ c ⟨h.val, by omega⟩)
  f b h ch s := congrArg₂ (fun x y : EReal => x + y) (found_f m ρ c b h ch s) (found_b m ρ c ⟨6 + h.val, by omega⟩)
  c0 i := (congrFun ((W6_of m ρ c main_v8 (by decide)).trans (kept m ρ c main_v8 (by decide) (by decide))) _).trans (entry_c m ρ c i)
  n0 i := by
    refine Eq.trans ?_ ((congrFun (kept m ρ c main_v9 (by decide) (by decide)) (ix3 (i 0) (i 1) (i 3))).trans (entry_n m ρ c _))
    dsimp only [V6, W6]
    after_results_simp
    idx_vars i
    obtain rfl : i2 = 0 := Subsingleton.elim _ _
    pointwise
  m0 i := by
    refine Eq.trans ?_ ((congrFun (kept m ρ c main_v10 (by decide) (by decide)) (ix2 (i 0) (i 1))).trans (entry_m m ρ c _))
    dsimp only [V6, W6]
    after_results_simp
    idx_vars i
    obtain rfl : i2 = 0 := Subsingleton.elim _ _
    pointwise
  fr b h s := R b h s

/-! ## What the last boundary holds at the three results -/

/-- The states. -/
def cR (c : Dev nD) : FVec Ideal S4x6x256x512 .f32 :=
  Rec.cArr (StateSpec.key (ax m c) (aw m c)) (StateSpec.val (ax m c) (aw m c)) (StateSpec.ig (ax m c) (aw m c) (ab m c)) (StateSpec.fg (ax m c) (aw m c) (ab m c))

/-- The normalizers. -/
def nR (c : Dev nD) : FVec Ideal S4x6x1x256 .f32 :=
  Rec.nArr (StateSpec.key (ax m c) (aw m c)) (StateSpec.ig (ax m c) (aw m c) (ab m c)) (StateSpec.fg (ax m c) (aw m c) (ab m c))

/-- The maxima. -/
def mR (c : Dev nD) : FVec Ideal S4x6x1x128 .f32 :=
  Rec.mArr (StateSpec.ig (ax m c) (aw m c) (ab m c)) (StateSpec.fg (ax m c) (aw m c) (ab m c))

section
variable (c : Dev nD) (R : StateSpec.Open (ax m c) (aw m c) (ab m c))
include R

/-- The states at the end. -/
theorem last_c : W8 m ρ c (Proc.devRef .tc main_v25) = fun i => cR m c (ix4 (i 1) (i 2) (i 3) (i 4)) := by
  have e : W7 m ρ c (Proc.devRef .tc main_v24_1) = cR m c := (W7_arr m ρ c 11).trans (Rec.final11 (entry m ρ c R))
  rw [← e]
  funext i
  dsimp only [W8]
  after_results_simp
  pointwise

/-- The normalizers at the end. -/
theorem last_n : W8 m ρ c (Proc.devRef .tc main_v27) = fun i => nR m c (ix4 (i 1) (i 2) 0 (i 3)) := by
  have e : W7 m ρ c (Proc.devRef .tc main_v24_2) = nR m c := (W7_arr m ρ c 12).trans (Rec.final12 (entry m ρ c R))
  rw [← e]
  funext i
  dsimp only [W8]
  after_results_simp
  pointwise

/-- The maxima at the end. -/
theorem last_m : W8 m ρ c (Proc.devRef .tc main_v30) = fun i => mR m c (ix4 (i 1) (i 2) 0 0) := by
  have e : W7 m ρ c (Proc.devRef .tc main_v24_3) = mR m c := (W7_arr m ρ c 13).trans (Rec.final13 (entry m ρ c R))
  rw [← e]
  funext i
  dsimp only [W8]
  after_results_simp
  pointwise
end

/-! ## The run -/

set_option backward.isDefEq.respectTransparency.types false in
/-- Every execution ends with each buffer at the contents of the last boundary. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

/-- Every execution with forget gates above -∞ ends with the three results at their functions of the arguments, and the arguments as they were. -/
theorem run (R : ∀ c, StateSpec.Open (ax m c) (aw m c) (ab m c)) :
    θ_run defs (onTc (τ := τ) (main (F := Ideal))) ⟨m, fun _ => 0, ρ⟩ (fun r => ∀ c : Dev nD,
      r.2.mem ((c.tc : Thread nD τ).loc main_v25) = (fun i => cR m c (ix4 (i 1) (i 2) (i 3) (i 4)))
      ∧ r.2.mem ((c.tc : Thread nD τ).loc main_v27) = (fun i => nR m c (ix4 (i 1) (i 2) 0 (i 3)))
      ∧ r.2.mem ((c.tc : Thread nD τ).loc main_v30) = (fun i => mR m c (ix4 (i 1) (i 2) 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨(h c _ (mem_uc main_v25 (by decide))).trans (last_c m ρ c (R c)),
      (h c _ (mem_uc main_v27 (by decide))).trans (last_n m ρ c (R c)),
      (h c _ (mem_uc main_v30 (by decide))).trans (last_m m ρ c (R c)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c)⟩) (run_all m ρ)

end Cert.StateIdeal.Run
-- ==== Proof.StateRef.lean ====
/- The reference's three results are the state after 2048 tokens. -/
module
public import proofs.«01_k».proof.Proof.StateSpec
public import proofs.«01_k».proof.Proof.MlstmRef
public import proofs.«01_k».proof.Proof.Gen.StateRefIdeal.Read
public import Idealize.ShloMosaic.Lib.Pipeline.ValueKit
public import Idealize.ShloMosaic.Lib.IdealHost
@[expose] public section
set_option maxRecDepth 16384
noncomputable section
open Idealize.ShloMosaic Cert.StateRefIdeal Cert.StateRefIdeal.Gen Cert.StateRefIdeal.Read
namespace Cert.StateRefIdeal.Ref

/-! ## The running sum -/

/-- The entries a window ending at `t` meets are the entries up to and including `t`. -/
theorem window_sum (y : ℕ → EReal) (t : ℕ) (ht : t < 2048) :
    (∑ w ∈ Finset.range 2048, if 2047 ≤ t + w then y (t + w - 2047) else 0) = ∑ s ∈ Finset.range 2048, if s ≤ t then y s else 0 := by
  have h1 : (∑ w ∈ Finset.range 2048, if 2047 ≤ t + w then y (t + w - 2047) else 0) = ∑ s ∈ Finset.range (t + 1), y s := by
    rw [show 2048 = (2047 - t) + (t + 1) by omega, Finset.sum_range_add, Finset.sum_eq_zero (s := Finset.range (2047 - t)) (fun w hw => if_neg (by have := Finset.mem_range.mp hw; omega)), zero_add]
    exact Finset.sum_congr rfl fun s hs => by
      rw [if_pos (by omega), show t + (2047 - t + s) - 2047 = s by omega]
  have h2 : (∑ s ∈ Finset.range 2048, if s ≤ t then y s else 0) = ∑ s ∈ Finset.range (t + 1), y s := by
    rw [show 2048 = (t + 1) + (2047 - t) by omega, Finset.sum_range_add, Finset.sum_eq_zero (s := Finset.range (2047 - t)) (fun w hw => if_neg (by omega)), add_zero]
    exact Finset.sum_congr rfl fun s hs => if_pos (by have := Finset.mem_range.mp hs; omega)
  rw [h1, h2]

/-- The indices of a window of 2048 along the last of three axes. -/
def win : (⟨3, ![1, 1, 2048]⟩ : Shape).Idx ≃ Fin 2048 where
  toFun q := q 2
  invFun w := ix3 (0 : Fin 1) (0 : Fin 1) w
  left_inv q := funext fun a => by
    match a with
    | ⟨0, _⟩ => exact Subsingleton.elim (α := Fin 1) _ _
    | ⟨1, _⟩ => exact Subsingleton.elim (α := Fin 1) _ _
    | ⟨2, _⟩ => rfl
  right_inv w := rfl

/-- A running sum along the last axis: the entries up to and including `t`. -/
theorem cumsum_at (x : FVec Ideal S4x6x2048 .f32) (init : FVec Ideal S_ .f32) (h0 : ∀ i, init i = (0 : EReal))
    (b : Fin 4) (h : Fin 6) (t : Fin 2048) :
    Host.reduceWindowAdd ![1, 1, 2048] ![1, 1, 1] ![0, 0, 2047] ![0, 0, 0] x init
        reduceWindows_S4x6x2048_S4x6x2048_w1s1p0_0_w1s1p0_0_w2048s1p2047_0 h_S_ (ix3 b h t)
      = ∑ s, if s ≤ t then x (ix3 b h s) else 0 := by
  have hw : ∀ w : Fin 2048, (∀ a : Fin 3, (![0, 0, 2047] : Fin 3 → ℕ) a ≤ ((ix3 b h t : S4x6x2048.Idx) a).val * (![1, 1, 1] : Fin 3 → ℕ) a + ((win.symm w) a).val
      ∧ ((ix3 b h t : S4x6x2048.Idx) a).val * (![1, 1, 1] : Fin 3 → ℕ) a + ((win.symm w) a).val - (![0, 0, 2047] : Fin 3 → ℕ) a < S4x6x2048.size a) ↔ 2047 ≤ t.val + w.val := by
    intro w
    constructor
    · intro q
      have := (q 2).1
      change 2047 ≤ t.val * 1 + w.val at this
      omega
    · intro q a
      match a with
      | ⟨0, _⟩ => show 0 ≤ b.val * 1 + 0 ∧ b.val * 1 + 0 - 0 < 4; omega
      | ⟨1, _⟩ => show 0 ≤ h.val * 1 + 0 ∧ h.val * 1 + 0 - 0 < 6; omega
      | ⟨2, _⟩ => show 2047 ≤ t.val * 1 + w.val ∧ t.val * 1 + w.val - 2047 < 2048; omega
  unfold Host.reduceWindowAdd
  rw [Ideal.hostReduceWindowAdd_def]
  unfold Ideal.hostReduceWindowAdd Host.reduceWindow
  dsimp only [Fin.cast_eq_self]
  refine (Cert.MlstmRefIdeal.Ref.foldl_add _ _ _).trans ?_
  rw [← Fin.sum_univ_def, h0, zero_add]
  refine (Finset.sum_congr rfl fun n _ => ?_).trans ((Equiv.sum_comp (Shape.rowMajor ⟨3, ![1, 1, 2048]⟩).symm (fun q => if hin : ∀ a : Fin 3, (![0, 0, 2047] : Fin 3 → ℕ) a ≤ ((ix3 b h t : S4x6x2048.Idx) a).val * (![1, 1, 1] : Fin 3 → ℕ) a + (q a).val
      ∧ ((ix3 b h t : S4x6x2048.Idx) a).val * (![1, 1, 1] : Fin 3 → ℕ) a + (q a).val - (![0, 0, 2047] : Fin 3 → ℕ) a < S4x6x2048.size a
      then x (fun a => ⟨_, (hin a).2⟩) else (0 : EReal))).trans ?_)
  · congr
  rw [← Equiv.sum_comp win.symm]
  have step : ∀ w : Fin 2048, (if hin : ∀ a : Fin 3, (![0, 0, 2047] : Fin 3 → ℕ) a ≤ ((ix3 b h t : S4x6x2048.Idx) a).val * (![1, 1, 1] : Fin 3 → ℕ) a + ((win.symm w) a).val
      ∧ ((ix3 b h t : S4x6x2048.Idx) a).val * (![1, 1, 1] : Fin 3 → ℕ) a + ((win.symm w) a).val - (![0, 0, 2047] : Fin 3 → ℕ) a < S4x6x2048.size a
      then x (fun a => ⟨_, (hin a).2⟩) else (0 : EReal))
      = if hq : 2047 ≤ t.val + w.val then x (ix3 b h ⟨t.val + w.val - 2047, by omega⟩) else 0 := by
    intro w
    by_cases hq : 2047 ≤ t.val + w.val
    · rw [dif_pos ((hw w).2 hq), dif_pos hq]
      refine congrArg x (funext fun a => Fin.ext ?_)
      match a with
      | ⟨0, _⟩ => show b.val * 1 + 0 - 0 = b.val; omega
      | ⟨1, _⟩ => show h.val * 1 + 0 - 0 = h.val; omega
      | ⟨2, _⟩ => show t.val * 1 + w.val - 2047 = t.val + w.val - 2047; omega
    · rw [dif_neg (fun z => hq ((hw w).1 z)), dif_neg hq]
  rw [Finset.sum_congr rfl fun w _ => step w]
  have e : ∀ s : Fin 2048, x (ix3 b h s) = StateSpec.ext (fun s => x (ix3 b h s)) s.val := fun s => (StateSpec.ext_of (fun s => x (ix3 b h s)) s.val s.isLt).symm
  generalize hy : StateSpec.ext (fun s => x (ix3 b h s)) = y at e
  have l : ∀ w : Fin 2048, (if hq : 2047 ≤ t.val + w.val then x (ix3 b h ⟨t.val + w.val - 2047, by omega⟩) else 0)
      = if 2047 ≤ t.val + w.val then y (t.val + w.val - 2047) else 0 := fun w => by
    by_cases hq : 2047 ≤ t.val + w.val
    · rw [dif_pos hq, if_pos hq]; exact e _
    · rw [dif_neg hq, if_neg hq]
  have r : ∀ s : Fin 2048, (if s ≤ t then x (ix3 b h s) else 0) = if s.val ≤ t.val then y s.val else 0 := fun s => by
    rw [e]; rfl
  rw [Finset.sum_congr rfl fun w _ => l w, Finset.sum_congr rfl fun s _ => r s,
    Fin.sum_univ_eq_sum_range (fun w => if 2047 ≤ t.val + w then y (t.val + w - 2047) else 0) 2048,
    Fin.sum_univ_eq_sum_range (fun s => if s ≤ t.val then y s else 0) 2048]
  exact window_sum y t.val t.isLt

/-! ## The gates, keys and values -/

variable (x0 : FVec Ideal S4x2048x4096 .f32) (x1 : FVec Ideal S1x4096x10252 .f32) (x2 : FVec Ideal S1x12 .f32)

/-- The projections. -/
theorem proj_at (i : S4x2048x10252.Idx) (b : Fin 4) (s : Fin 2048) (n : Fin 10252) (h0 : (i 0).val = b.val) (h1 : (i 1).val = s.val)
    (h2 : (i 2).val = n.val) : val_main_v1 (F := Ideal) x0 x1 i = StateSpec.proj x0 x1 b s n := by
  rw [val_main_v1_apply]
  unfold StateSpec.proj
  refine Finset.sum_congr rfl fun k _ => ?_
  rw [val_main_v0_apply]
  have hk := k.isLt
  have hn := n.isLt
  refine congrArg₂ (fun x y : EReal => x * y) (congrArg x0 (funext fun a => Fin.ext ?_)) (congrArg x1 (funext fun a => Fin.ext ?_))
  · match a with
    | ⟨0, _⟩ => exact h0
    | ⟨1, _⟩ => exact h1
    | ⟨2, _⟩ => rfl
  · match a with
    | ⟨0, _⟩ => rfl
    | ⟨1, _⟩ => show (k.val * 10252 + (i 2).val) / 10252 % 4096 = k.val; omega
    | ⟨2, _⟩ => show (k.val * 10252 + (i 2).val) % 10252 = n.val; omega

/-- The keys, scaled. -/
theorem k_at (i : S4x6x2048x256.Idx) : val_main_v20 (F := Ideal) x0 x1 i = StateSpec.key x0 x1 (i 0) (i 1) (i 3) (i 2) := by
  rw [val_main_v20_apply, val_main_v5_apply, val_main_v3_apply, val_main_v2_apply, val_main_v4_apply]
  have h0 : (i 0).val < 4 := (i 0).isLt; have h1 : (i 1).val < 6 := (i 1).isLt
  have h2 : (i 2).val < 2048 := (i 2).isLt; have h3 : (i 3).val < 256 := (i 3).isLt
  refine congrArg (fun x : EReal => x * Ideal.ofBits .f32 0x3D800000#32) (proj_at x0 x1 _ (i 0) (i 2) _ ?_ ?_ ?_)
  · show ((((i 0).val * 2048 + (i 2).val) * 6 + (i 1).val) * 256 + (i 3).val) / 3145728 = (i 0).val; omega
  · show ((((i 0).val * 2048 + (i 2).val) * 6 + (i 1).val) * 256 + (i 3).val) / 1536 % 2048 = (i 2).val; omega
  · show 1536 + ((((i 0).val * 2048 + (i 2).val) * 6 + (i 1).val) * 256 + (i 3).val) % 1536 = 1536 + (256 * (i 1).val + (i 3).val); omega

/-- The values. -/
theorem v_at (i : S4x6x2048x512.Idx) : val_main_v21 (F := Ideal) x0 x1 i = StateSpec.val x0 x1 (i 0) (i 1) (i 3) (i 2) := by
  rw [val_main_v21_apply, val_main_v7_apply, val_main_v6_apply]
  have h0 : (i 0).val < 4 := (i 0).isLt; have h1 : (i 1).val < 6 := (i 1).isLt
  have h2 : (i 2).val < 2048 := (i 2).isLt; have h3 : (i 3).val < 512 := (i 3).isLt
  refine proj_at x0 x1 _ (i 0) (i 2) _ ?_ ?_ ?_
  · show ((((i 0).val * 2048 + (i 2).val) * 6 + (i 1).val) * 512 + (i 3).val) / 6291456 = (i 0).val; omega
  · show ((((i 0).val * 2048 + (i 2).val) * 6 + (i 1).val) * 512 + (i 3).val) / 3072 % 2048 = (i 2).val; omega
  · show 3072 + ((((i 0).val * 2048 + (i 2).val) * 6 + (i 1).val) * 512 + (i 3).val) % 3072 = 3072 + (512 * (i 1).val + (i 3).val); omega

/-- The input gates. -/
theorem i_at (i : S4x6x2048.Idx) : val_main_v22 (F := Ideal) x0 x1 x2 i = StateSpec.ig x0 x1 x2 (i 0) (i 1) (i 2) := by
  rw [val_main_v22_apply, val_main_v13_apply, val_main_v8_apply, val_main_v12_apply, val_main_v11_apply, val_main_v10_apply, val_main_v9_apply]
  refine congrArg₂ (fun x y : EReal => x + y) (proj_at x0 x1 _ (i 0) (i 2) _ rfl rfl rfl) (congrArg x2 (funext fun a => Fin.ext ?_))
  match a with
  | ⟨0, _⟩ => rfl
  | ⟨1, _⟩ => exact Nat.mod_eq_of_lt (show (i 1).val < 6 from (i 1).isLt)

/-- The forget gates. -/
theorem f_at (i : S4x6x2048.Idx) : val_main_v23 (F := Ideal) x0 x1 x2 i = StateSpec.fg x0 x1 x2 (i 0) (i 1) (i 2) := by
  rw [val_main_v23_apply, val_main_v19_apply, val_main_v14_apply, val_main_v18_apply, val_main_v17_apply, val_main_v16_apply, val_main_v15_apply]
  refine congrArg₂ (fun x y : EReal => x + y) (proj_at x0 x1 _ (i 0) (i 2) _ rfl rfl ?_) (congrArg x2 (funext fun a => Fin.ext ?_))
  · show 9222 + (i 1).val = 9216 + (6 + (i 1).val); omega
  · match a with
    | ⟨0, _⟩ => rfl
    | ⟨1, _⟩ => exact congrArg (6 + ·) (Nat.mod_eq_of_lt (show (i 1).val < 6 from (i 1).isLt))

/-- The zero constant. -/
theorem zero_bits : FloatOps.ofBits (F := Ideal) .f32 0x00000000#32 = (0 : EReal) := by
  show Ideal.ofBits .f32 0x00000000#32 = 0
  simp [Ideal.ofBits, Ideal.ieee]

/-- The constant for -∞. -/
theorem ninf_bits : FloatOps.ofBits (F := Ideal) .f32 0xFF800000#32 = (⊥ : EReal) := by
  show Ideal.ofBits .f32 0xFF800000#32 = ⊥
  simp [Ideal.ofBits, Ideal.ieee]

/-- The log forget gates. -/
theorem lf_at (i : S4x6x2048.Idx) : val_main_v27 (F := Ideal) x0 x1 x2 i = Chunk.lsg (StateSpec.fg x0 x1 x2 (i 0) (i 1) (i 2)) := by
  rw [val_main_v27_apply, val_main_call0_v1_apply, val_main_call0_call0_v4_apply, val_main_call0_call0_v11_apply,
    val_main_call0_call0_v1_apply, val_main_call0_call0_v10_apply, val_main_call0_call0_v9_apply,
    val_main_call0_call0_v8_apply, val_main_call0_call0_v7_apply, val_main_call0_call0_v3_apply,
    val_main_call0_call0_v2_apply, val_main_call0_call0_v0_apply, val_main_call0_call0_cst_apply,
    val_main_call0_v0_apply, f_at, zero_bits]
  rw [← Cert.MlstmRefIdeal.Ref.lsg_eq]
  generalize StateSpec.fg x0 x1 x2 (i 0) (i 1) (i 2) = x
  have hs : FloatOps.cmpf (F := Ideal) (φ := .f32) .une (FloatOps.subf (FloatOps.hostNegf x) (0 : EReal)) (FloatOps.subf (FloatOps.hostNegf x) (0 : EReal)) = 0#1 := by
    simp [Ideal.cmpf_def, Ideal.cmp]
  rw [hs]
  have e : FloatOps.subf (F := Ideal) (φ := .f32) (FloatOps.hostNegf x) (0 : EReal) = -x := sub_zero (-x)
  rw [e]
  rfl

/-- The running sums of the log forget gates. -/
theorem cum_at (i : S4x6x2048.Idx) : val_main_v28 (F := Ideal) x0 x1 x2 i = Chunk.cum (StateSpec.fg x0 x1 x2 (i 0) (i 1)) (i 2) := by
  rw [eq_ix3 i]
  unfold val_main_v28
  refine (cumsum_at _ _ (fun i => ?_) (i 0) (i 1) (i 2)).trans ?_
  · rw [val_main_call1_call0_v0_apply, val_main_call1_call0_cst_apply, zero_bits]
  · unfold Chunk.cum
    exact Finset.sum_congr rfl fun s _ => by rw [lf_at]; rfl

/-- The last row of a sequence. -/
abbrev last : Fin 2048 := 2047

/-- It is the greatest. -/
theorem le_last (s : Fin 2048) : s ≤ last := Fin.le_def.mpr (by show s.val ≤ 2047; omega)

/-- The running sum of the whole sequence. -/
theorem tot_at (i : S4x6.Idx) (j : S4x6x2048.Idx) (h0 : (j 0).val = (i 0).val) (h1 : (j 1).val = (i 1).val) (h2 : (j 2).val = 2047) :
    val_main_v28 (F := Ideal) x0 x1 x2 j = Chunk.cum (StateSpec.fg x0 x1 x2 (i 0) (i 1)) last := by
  rw [cum_at, show j 0 = i 0 from Fin.ext h0, show j 1 = i 1 from Fin.ext h1, show j 2 = last from Fin.ext h2]

/-- The log weights at the end of the sequence. -/
theorem ld_at (i : S4x6x2048.Idx) :
    val_main_v35 (F := Ideal) x0 x1 x2 i = Chunk.ld (StateSpec.fg x0 x1 x2 (i 0) (i 1)) (StateSpec.ig x0 x1 x2 (i 0) (i 1)) last (i 2) := by
  rw [val_main_v35_apply, val_main_v34_apply, val_main_v33_apply, val_main_v32_apply, tot_at x0 x1 x2 (ix2 (i 0) (i 1)) (idx_main_v32 (idx_main_v33 i)) rfl rfl rfl, cum_at, i_at]
  unfold Chunk.ld
  exact (if_pos (le_last _)).symm

/-- The maxima. -/
theorem m_at (i : S4x6.Idx) :
    val_main_v37 (F := Ideal) x0 x1 x2 i = Chunk.mx (StateSpec.fg x0 x1 x2 (i 0) (i 1)) (StateSpec.ig x0 x1 x2 (i 0) (i 1)) 0 last := by
  have h0 : (i 0).val < 4 := (i 0).isLt
  have h1 : (i 1).val < 6 := (i 1).isLt
  have e : val_main_v36 (F := Ideal) x0 x1 x2 i = Finset.univ.fold max ⊥ fun s : Fin 2048 => Chunk.ld (StateSpec.fg x0 x1 x2 (i 0) (i 1)) (StateSpec.ig x0 x1 x2 (i 0) (i 1)) last s := by
    unfold val_main_v36
    refine (Host.reduce_eq_fold_single (FloatOps.maximumf (F := Ideal) (φ := .f32)) _ _ _ (by decide) h_S_ i).trans ?_
    rw [val_main_cst_3_apply, ninf_bits]
    refine congrArg (fun g : Fin 2048 → EReal => (Finset.univ : Finset (Fin 2048)).fold max ⊥ g) (funext fun s => ?_)
    exact ld_at x0 x1 x2 _
  rw [val_main_v37_apply, e, val_main_v31_apply, val_main_v30_apply, val_main_v29_apply, val_main_v26_apply, val_main_cst_2_apply, zero_bits,
    tot_at x0 x1 x2 i _ (by show ((i 0).val * 6 + (i 1).val) / 6 = (i 0).val; omega) (by show ((i 0).val * 6 + (i 1).val) / 1 % 6 = (i 1).val; omega) rfl]
  rfl

/-- The weights of the rows at the end of the sequence. -/
theorem we_at (i : S4x6x2048.Idx) : val_main_v45 (F := Ideal) x0 x1 x2 i
    = Chunk.we (StateSpec.fg x0 x1 x2 (i 0) (i 1)) (StateSpec.ig x0 x1 x2 (i 0) (i 1)) 0 last (i 2) := by
  rw [val_main_v45_apply, val_main_v44_apply, val_main_v41_apply, val_main_v40_apply, val_main_v39_apply, val_main_v38_apply,
    val_main_v43_apply, val_main_v42_apply, m_at, i_at, tot_at x0 x1 x2 (ix2 (i 0) (i 1)) (idx_main_v38 (idx_main_v39 i)) rfl rfl rfl, cum_at]
  rfl

/-- The weight of the first state at the end of the sequence. -/
theorem decay_at (i : S4x6.Idx) : val_main_v50 (F := Ideal) x0 x1 x2 i
    = Chunk.wi (StateSpec.fg x0 x1 x2 (i 0) (i 1)) (StateSpec.ig x0 x1 x2 (i 0) (i 1)) 0 last := by
  have h0 : (i 0).val < 4 := (i 0).isLt
  have h1 : (i 1).val < 6 := (i 1).isLt
  rw [val_main_v50_apply, val_main_v49_apply, val_main_v48_apply, val_main_v47_apply, val_main_v46_apply, m_at, val_main_v26_apply,
    val_main_cst_2_apply, zero_bits,
    tot_at x0 x1 x2 i _ (by show ((i 0).val * 6 + (i 1).val) / 6 = (i 0).val; omega) (by show ((i 0).val * 6 + (i 1).val) / 1 % 6 = (i 1).val; omega) rfl]
  rfl

/-! ## The results -/

/-- The states. -/
theorem c_at (i : S4x6x256x512.Idx) : val_main_v58 (F := Ideal) x0 x1 x2 i
    = Chunk.cNew (StateSpec.key x0 x1 (i 0) (i 1) (i 2)) (StateSpec.val x0 x1 (i 0) (i 1) (i 3)) (StateSpec.fg x0 x1 x2 (i 0) (i 1))
        (StateSpec.ig x0 x1 x2 (i 0) (i 1)) 0 0 last := by
  rw [val_main_v58_apply, val_main_v53_apply, val_main_v52_apply, val_main_v51_apply, decay_at, val_main_v24_apply, val_main_cst_0_apply,
    zero_bits, val_main_v57_apply]
  unfold Chunk.cNew
  refine congrArg₂ (fun x y : EReal => x + y) rfl (Finset.sum_congr rfl fun s _ => ?_)
  rw [val_main_v56_apply, val_main_v55_apply, val_main_v54_apply, we_at, k_at, v_at]
  exact congrArg (fun z : EReal => z * _) (mul_comm _ _)

/-- The normalizers. -/
theorem n_at (i : S4x6x256.Idx) : val_main_v66 (F := Ideal) x0 x1 x2 i
    = Chunk.nNew (StateSpec.key x0 x1 (i 0) (i 1) (i 2)) (StateSpec.fg x0 x1 x2 (i 0) (i 1)) (StateSpec.ig x0 x1 x2 (i 0) (i 1)) 0 0 last := by
  rw [val_main_v66_apply, val_main_v61_apply, val_main_v60_apply, val_main_v59_apply, decay_at, val_main_v25_apply, val_main_cst_1_apply,
    zero_bits, val_main_v65_apply, val_main_cst_4_apply, zero_bits, zero_add]
  unfold Chunk.nNew
  refine congrArg₂ (fun x y : EReal => x + y) rfl (Finset.sum_congr rfl fun s _ => ?_)
  rw [val_main_v64_apply, val_main_v63_apply, val_main_v62_apply, we_at, k_at]
  exact mul_comm _ _

section
variable (R : StateSpec.Open x0 x1 x2)
include R

/-- The states, after 2048 tokens. -/
theorem c_eq : val_main_v67 (F := Ideal) x0 x1 x2 = fun i : S1x4x6x256x512.Idx =>
    StateSpec.st (StateSpec.fg x0 x1 x2 (i 1) (i 2)) (StateSpec.ig x0 x1 x2 (i 1) (i 2)) (StateSpec.key x0 x1 (i 1) (i 2) (i 3)) (StateSpec.val x0 x1 (i 1) (i 2) (i 4)) 2048 := by
  funext i
  rw [val_main_v67_apply, c_at]
  exact StateSpec.st_whole _ _ (fun s => R _ _ s) last le_last _ _

/-- The normalizers, after 2048 tokens. -/
theorem n_eq : val_main_v68 (F := Ideal) x0 x1 x2 = fun i : S1x4x6x256.Idx =>
    StateSpec.nt (StateSpec.fg x0 x1 x2 (i 1) (i 2)) (StateSpec.ig x0 x1 x2 (i 1) (i 2)) (StateSpec.key x0 x1 (i 1) (i 2) (i 3)) 2048 := by
  funext i
  rw [val_main_v68_apply, n_at]
  exact StateSpec.nt_whole _ _ (fun s => R _ _ s) last le_last _

/-- The maxima, after 2048 tokens. -/
theorem m_eq : val_main_v69 (F := Ideal) x0 x1 x2 = fun i : S1x4x6.Idx =>
    StateSpec.m (StateSpec.fg x0 x1 x2 (i 1) (i 2)) (StateSpec.ig x0 x1 x2 (i 1) (i 2)) 2048 := by
  funext i
  rw [val_main_v69_apply, m_at]
  exact StateSpec.m_whole _ _ (fun s => R _ _ s) last le_last
end

end Cert.StateRefIdeal.Ref
-- ==== Proof.StatePre.lean ====
/- What the precondition says: no forget gate is -∞. -/
module
public import proofs.«01_k».proof.Proof.StateSpec
public import proofs.«01_k».proof.Proof.Gen.Pre_forget_gates_open
public import Idealize.ShloMosaic.Lib.Pipeline.ValueKit
public import Idealize.ShloMosaic.Lib.IdealHost
@[expose] public section
set_option maxRecDepth 16384
noncomputable section
open Idealize.ShloMosaic Cert.Pre_forget_gates_open Cert.Pre_forget_gates_open.Gen
namespace Cert.StatePre

/-- A comparison whose bit is one holds. -/
theorem lt_of_bit (p q : EReal) (h : BitVec.ofBool (decide (p < q)) = 1#1) : p < q := by
  by_contra hn
  rw [decide_eq_false hn] at h
  exact absurd h (by decide)

/-- The constant for -∞. -/
theorem ninf_bits : FloatOps.ofBits (F := Ideal) .f32 0xFF800000#32 = (⊥ : EReal) := by
  show Ideal.ofBits .f32 0xFF800000#32 = ⊥
  simp [Ideal.ofBits, Ideal.ieee]

/-- A sum over the contracted axis is one over its entries. -/
theorem dot_at (x : FVec Ideal S4x2048x4096 .f32) (y : FVec Ideal S4096x6 .f32) (b : Fin 4) (s : Fin 2048) (h : Fin 6) :
    Host.dotGeneral dot_S4x2048x4096_S4096x6_S4x2048x6_2_0_01_1_n_n none x y (ix3 b s h) = ∑ a : Fin 4096, x (ix3 b s a) * y (ix2 a h) := by
  simp only [Host.dotGeneral]
  rw [Ideal.dotGeneral_apply, ← Equiv.sum_comp (ValueIdx.contrEquiv1 dot_S4x2048x4096_S4096x6_S4x2048x6_2_0_01_1_n_n 4096 rfl rfl).symm]
  refine Finset.sum_congr rfl fun k _ => ?_
  have hk := ValueIdx.contrEquiv1_symm_val dot_S4x2048x4096_S4096x6_S4x2048x6_2_0_01_1_n_n 4096 rfl rfl k
  refine congrArg₂ (fun p q : EReal => p * q) (congrArg x (funext fun a => Fin.ext ?_)) (congrArg y (funext fun a => Fin.ext ?_))
  · match a with
    | ⟨0, _⟩ => simp [DotDims.lhsIdx, dot_S4x2048x4096_S4096x6_S4x2048x6_2_0_01_1_n_n]; rfl
    | ⟨1, _⟩ => simp [DotDims.lhsIdx, dot_S4x2048x4096_S4096x6_S4x2048x6_2_0_01_1_n_n]; rfl
    | ⟨2, _⟩ => exact (DotDims.lhsIdx_val_of_single _ rfl _ _).trans hk
  · match a with
    | ⟨0, _⟩ => exact (DotDims.rhsIdx_val_of_single _ rfl _ _).trans hk
    | ⟨1, _⟩ => simp [DotDims.rhsIdx, dot_S4x2048x4096_S4096x6_S4x2048x6_2_0_01_1_n_n]; rfl

/-- The forget gates' columns of the weight. -/
theorem w_at (w : FVec Ideal S1x4096x10252 .f32) (a : Fin 4096) (h : Fin 6) :
    shapeCast S4096x6 (extractStridedSlice S1x4096x6 ![0, 0, 9222] w slices_S1x4096x10252_S1x4096x6_0_0_9222) shapeCasts_S1x4096x6_S4096x6 (ix2 a h)
      = w (ix3 0 a ⟨9222 + h.val, by omega⟩) := by
  refine (shapeCast_apply _ shapeCasts_S1x4096x6_S4096x6 (ix2 a h) (ix3 0 a h) ?_).trans ?_
  · rw [Shape.rowMajor_val_three, Shape.rowMajor_val_two]
    show (0 * 4096 + a.val) * 6 + h.val = a.val * 6 + h.val; omega
  · refine extractStridedSlice_apply ![0, 0, 9222] w slices_S1x4096x10252_S1x4096x6_0_0_9222 (ix3 0 a h) _ fun k => ?_
    match k with
    | ⟨0, _⟩ => rfl
    | ⟨1, _⟩ => show a.val = 0 + a.val; omega
    | ⟨2, _⟩ => rfl

/-- The forget gates' bias, repeated over the tokens. -/
theorem b_at (v : FVec Ideal S1x12 .f32) (b : Fin 4) (s : Fin 2048) (h : Fin 6) :
    broadcastInDim S4x2048x6 ![0, 1, 2] bcast_S1x1x6_S4x2048x6_0_1_2 (broadcastInDim S1x1x6 ![2] bcast_S6_S1x1x6_2
      (shapeCast S6 (extractStridedSlice S1x6 ![0, 6] v slices_S1x12_S1x6_0_6) shapeCasts_S1x6_S6)) (ix3 b s h)
      = v (ix2 0 ⟨6 + h.val, by omega⟩) := by
  refine (broadcastInDim_apply _ _ _ (ix3 b s h) (ix3 0 0 h) fun k => ?_).trans ?_
  · match k with
    | ⟨0, _⟩ => rfl
    | ⟨1, _⟩ => rfl
    | ⟨2, _⟩ => rfl
  refine (broadcastInDim_apply _ _ _ (ix3 0 0 h) (ix1 h) fun k => ?_).trans ?_
  · match k with
    | ⟨0, _⟩ => rfl
  refine (shapeCast_apply _ shapeCasts_S1x6_S6 (ix1 h) (ix2 0 h) ?_).trans ?_
  · rw [Shape.rowMajor_val_two, Shape.rowMajor_val_one]
    show 0 * 6 + h.val = h.val; omega
  refine extractStridedSlice_apply ![0, 6] v slices_S1x12_S1x6_0_6 (ix2 0 h) _ fun k => ?_
  match k with
  | ⟨0, _⟩ => rfl
  | ⟨1, _⟩ => rfl

/-- Under the precondition no forget gate of a token is -∞. -/
theorem all_open (x : FVec Ideal S4x2048x4096 .f32) (w : FVec Ideal S1x4096x10252 .f32) (v : FVec Ideal S1x12 .f32)
    (hp : Cert.Pre_forget_gates_open.fn (F := Ideal) x w v = fun _ => 1#1) : StateSpec.Open x w v := by
  intro b h s
  have e := congrFun hp (ix3 b s h)
  have l : Host.dotGeneral dot_S4x2048x4096_S4096x6_S4x2048x6_2_0_01_1_n_n none x
        (shapeCast S4096x6 (extractStridedSlice S1x4096x6 ![0, 0, 9222] w slices_S1x4096x10252_S1x4096x6_0_0_9222) shapeCasts_S1x4096x6_S4096x6) (ix3 b s h)
      + broadcastInDim S4x2048x6 ![0, 1, 2] bcast_S1x1x6_S4x2048x6_0_1_2 (broadcastInDim S1x1x6 ![2] bcast_S6_S1x1x6_2
          (shapeCast S6 (extractStridedSlice S1x6 ![0, 6] v slices_S1x12_S1x6_0_6) shapeCasts_S1x6_S6)) (ix3 b s h)
      = StateSpec.fg x w v b h s := by
    rw [dot_at, b_at]
    refine congrArg (fun z : EReal => z + _) (Finset.sum_congr rfl fun a _ => congrArg (fun z : EReal => _ * z) ((w_at w a h).trans ?_))
    exact congrArg w (congrArg (ix3 0 a) (Fin.ext (by show 9222 + h.val = 9216 + (6 + h.val); omega)))
  have t : broadcastInDim S4x2048x6 ![] bcast_S_S4x2048x6 (constant (F := Ideal) S_ .f32 0xFF800000#32) (ix3 b s h) = (⊥ : EReal) := ninf_bits
  rw [← l, ← t]
  exact (lt_of_bit _ _ e).ne'

end Cert.StatePre
-- ==== Proof.StateClaim.lean ====
/- The claims about the first layer's state of the prompt group. -/
module
public import proofs.«01_k».proof.Defs
public import proofs.«01_k».proof.Proof.StateRun
public import proofs.«01_k».proof.Proof.StateRef
public import proofs.«01_k».proof.Proof.StatePre
public import proofs.«01_k».proof.Proof.Gen.StateRefIdeal.Run
public import Idealize.ShloMosaic.Lib.Claim
@[expose] public section
set_option maxRecDepth 16384
noncomputable section
open Idealize.ShloMosaic Idealize.ShloMosaic.Rounds Idealize.SL.Sem
namespace Cert.Proof.StateClaim

/-- The reference runs, leaves its arguments as they were and its counters at zero. -/
theorem frame_ref : Cert.quiescent_StateRefIdeal (hStateRefIdeal := Cert.StateRefIdeal.Gen.facts) := by
  intro m g _
  refine (θ_run _ _ _).mono (fun r h => ⟨fun c => ?_, sem_eq_zero_of_no_sems (by decide) r.2⟩) (Cert.StateRefIdeal.Value.run m g)
  exact (h c).2.2.2

/-- A function of three arguments, at equal arguments. -/
theorem arg3 {A B C D : Sort _} (f : A → B → C → D) {a a' : A} {b b' : B} {c c' : C} (h : a = a') (k : b = b') (l : c = c') :
    f a b c = f a' b' c' := by
  rw [h, k, l]

/-- Where no forget gate is -∞, the kernel's three results are the reference's, as functions of the three arguments. -/
theorem algebraic : Cert.algebraic_StateIdeal_StateRefIdeal_pre_forget_gates_open (hStateIdeal := Cert.StateIdeal.Gen.facts)
    (hStateRefIdeal := Cert.StateRefIdeal.Gen.facts) (hPre_forget_gates_open := Cert.Pre_forget_gates_open.Gen.facts) := by
  intro m g m' g' hpre hagree
  have R : ∀ c, StateSpec.Open (Cert.StateIdeal.Run.ax m c) (Cert.StateIdeal.Run.aw m c) (Cert.StateIdeal.Run.ab m c) :=
    fun c => StatePre.all_open _ _ _ (hpre c)
  refine ⟨fun c i => Cert.StateIdeal.Run.cR m c (ix4 (i 1) (i 2) (i 3) (i 4)), fun c i => Cert.StateIdeal.Run.nR m c (ix4 (i 1) (i 2) 0 (i 3)),
    fun c i => Cert.StateIdeal.Run.mR m c (ix4 (i 1) (i 2) 0 0), Cert.StateIdeal.Run.run m g R, ?_⟩
  refine (θ_run _ _ _).mono (fun r h c => ?_) (Cert.StateRefIdeal.Value.run m' g')
  obtain ⟨a0, a1, a2⟩ := hagree c
  obtain ⟨h0, h1, h2, hargs⟩ := h c
  refine ⟨h0.trans ?_, h1.trans ?_, h2.trans ?_, hargs⟩
  · refine (Cert.StateRefIdeal.Read.val_main_v67_eq ..).trans (Eq.trans ?_ (Cert.StateRefIdeal.Ref.c_eq _ _ _ (R c)))
    exact arg3 (Cert.StateRefIdeal.Read.val_main_v67 (F := Ideal)) a0 a1 a2
  · refine (Cert.StateRefIdeal.Read.val_main_v68_eq ..).trans (Eq.trans ?_ (Cert.StateRefIdeal.Ref.n_eq _ _ _ (R c)))
    exact arg3 (Cert.StateRefIdeal.Read.val_main_v68 (F := Ideal)) a0 a1 a2
  · refine (Cert.StateRefIdeal.Read.val_main_v69_eq ..).trans (Eq.trans ?_ (Cert.StateRefIdeal.Ref.m_eq _ _ _ (R c)))
    exact arg3 (Cert.StateRefIdeal.Read.val_main_v69 (F := Ideal)) a0 a1 a2

end Cert.Proof.StateClaim
-- ==== Proof.lean ====
module

public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmIdeal.Value
public import proofs.«01_k».proof.Proof.Gen.MlstmRefIdeal
public import proofs.«01_k».proof.Proof.Gen.MlstmRefIdeal.Run
public import proofs.«01_k».proof.Proof.Gen.MlstmRefIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InARefIdeal
public import proofs.«01_k».proof.Proof.Gen.InARefIdeal.Run
public import proofs.«01_k».proof.Proof.Gen.InARefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.Shared
public import proofs.«01_k».proof.Proof.Gen.Shared.Skeleton
public import proofs.«01_k».proof.Proof.Gen.Shared.Launch
public import proofs.«01_k».proof.Proof.Gen.Shared.Points
public import proofs.«01_k».proof.Proof.Gen.Shared.Frame
public import proofs.«01_k».proof.Proof.Gen.SharedIdeal
public import proofs.«01_k».proof.Proof.Gen.SharedIdeal.Skeleton
public import proofs.«01_k».proof.Proof.Gen.SharedIdeal.Launch
public import proofs.«01_k».proof.Proof.Gen.SharedIdeal.Points
public import proofs.«01_k».proof.Proof.Gen.SharedIdeal.Frame
public import proofs.«01_k».proof.Proof.Gen.SharedRefIdeal
public import proofs.«01_k».proof.Proof.Gen.SharedRefIdeal.Run
public import proofs.«01_k».proof.Proof.Gen.SharedRefIdeal.Read
public import proofs.«01_k».proof.Proof.Gen.MemAttend
public import proofs.«01_k».proof.Proof.Gen.MemAttend.Skeleton
public import proofs.«01_k».proof.Proof.Gen.MemAttend.Launch
public import proofs.«01_k».proof.Proof.Gen.MemAttend.Points
public import proofs.«01_k».proof.Proof.Gen.MemAttend.Frame
public import proofs.«01_k».proof.Proof.Gen.MemAttendIdeal
public import proofs.«01_k».proof.Proof.Gen.MemAttendIdeal.Skeleton
public import proofs.«01_k».proof.Proof.Gen.MemAttendIdeal.Launch
public import proofs.«01_k».proof.Proof.Gen.MemAttendIdeal.Points
public import proofs.«01_k».proof.Proof.Gen.MemAttendIdeal.Frame
public import proofs.«01_k».proof.Proof.Gen.MemAttendRefIdeal
public import proofs.«01_k».proof.Proof.Gen.MemAttendRefIdeal.Run
public import proofs.«01_k».proof.Proof.Gen.MemAttendRefIdeal.Read
public import proofs.«01_k».proof.Proof.Gen.State
public import proofs.«01_k».proof.Proof.Gen.State.Skeleton
public import proofs.«01_k».proof.Proof.Gen.State.Launch
public import proofs.«01_k».proof.Proof.Gen.State.Points
public import proofs.«01_k».proof.Proof.Gen.State.Frame
public import proofs.«01_k».proof.Proof.Gen.StateIdeal
public import proofs.«01_k».proof.Proof.Gen.StateIdeal.Skeleton
public import proofs.«01_k».proof.Proof.Gen.StateIdeal.Launch
public import proofs.«01_k».proof.Proof.Gen.StateIdeal.Points
public import proofs.«01_k».proof.Proof.Gen.StateIdeal.Frame
public import proofs.«01_k».proof.Proof.Gen.StateRefIdeal
public import proofs.«01_k».proof.Proof.Gen.StateRefIdeal.Run
public import proofs.«01_k».proof.Proof.Gen.StateRefIdeal.Read
public import proofs.«01_k».proof.Proof.Gen.Pre_forget_gates_open
public import proofs.«01_k».proof.Proof.MlstmClaim
public import proofs.«01_k».proof.Proof.MemKvClaim
public import proofs.«01_k».proof.Proof.InAClaim
public import proofs.«01_k».proof.Proof.OutProjClaim
public import proofs.«01_k».proof.Proof.QueryClaim
public import proofs.«01_k».proof.Proof.SharedClaim
public import proofs.«01_k».proof.Proof.MemAttendClaim
public import proofs.«01_k».proof.Proof.StateClaim
public import Idealize.ShloMosaic.Adequacy
public import Idealize.ShloMosaic.Init

@[expose] public section

noncomputable section

namespace Cert.Proof

open Idealize.ShloMosaic Idealize.SL.Sem

/-- Every claim of this problem. -/
theorem claim : Cert.Claim := ⟨Cert.Mlstm.Gen.facts, Cert.MlstmIdeal.Gen.facts, Cert.MlstmRefIdeal.Gen.facts, Cert.MemKv.Gen.facts, Cert.MemKvIdeal.Gen.facts, Cert.MemKvRefIdeal.Gen.facts, Cert.InA.Gen.facts, Cert.InAIdeal.Gen.facts, Cert.InARefIdeal.Gen.facts, Cert.OutProj.Gen.facts, Cert.OutProjIdeal.Gen.facts, Cert.OutProjRefIdeal.Gen.facts, Cert.Query.Gen.facts, Cert.QueryIdeal.Gen.facts, Cert.QueryRefIdeal.Gen.facts, Cert.Shared.Gen.facts, Cert.SharedIdeal.Gen.facts, Cert.SharedRefIdeal.Gen.facts, Cert.MemAttend.Gen.facts, Cert.MemAttendIdeal.Gen.facts, Cert.MemAttendRefIdeal.Gen.facts, Cert.State.Gen.facts, Cert.StateIdeal.Gen.facts, Cert.StateRefIdeal.Gen.facts, Cert.Pre_forget_gates_open.Gen.facts,
  fun m ρ _ => Cert.Mlstm.Gen.frame m ρ,
  fun m ρ _ => Cert.MlstmIdeal.Gen.frame m ρ,
  MlstmClaim.frame_ref,
  fun m ρ _ => Cert.MemKv.Gen.frame m ρ,
  fun m ρ _ => Cert.MemKvIdeal.Gen.frame m ρ,
  MemKvClaim.frame_ref,
  fun m ρ _ => Cert.InA.Gen.frame m ρ,
  fun m ρ _ => Cert.InAIdeal.Gen.frame m ρ,
  InAClaim.frame_ref,
  fun m ρ _ => Cert.OutProj.Gen.frame m ρ,
  fun m ρ _ => Cert.OutProjIdeal.Gen.frame m ρ,
  OutProjClaim.frame_ref,
  fun m ρ _ => Cert.Query.Gen.frame m ρ,
  fun m ρ _ => Cert.QueryIdeal.Gen.frame m ρ,
  QueryClaim.frame_ref,
  fun m ρ _ => Cert.Shared.Gen.frame m ρ,
  fun m ρ _ => Cert.SharedIdeal.Gen.frame m ρ,
  SharedClaim.frame_ref,
  fun m ρ _ => Cert.MemAttend.Gen.frame m ρ,
  fun m ρ _ => Cert.MemAttendIdeal.Gen.frame m ρ,
  MemAttendClaim.frame_ref,
  fun m ρ _ => Cert.State.Gen.frame m ρ,
  fun m ρ _ => Cert.StateIdeal.Gen.frame m ρ,
  fun m ρ _ => Cert.StateIdeal.Gen.frame m ρ,
  StateClaim.frame_ref,
  fun m ρ _ => StateClaim.frame_ref m ρ trivial,
  MlstmClaim.preserves,
  MlstmClaim.algebraic,
  trivial,
  MemKvClaim.algebraic,
  InAClaim.preserves,
  InAClaim.algebraic,
  trivial,
  OutProjClaim.algebraic,
  trivial,
  QueryClaim.algebraic,
  trivial,
  SharedClaim.algebraic,
  trivial,
  MemAttendClaim.algebraic,
  trivial,
  StateClaim.algebraic⟩

end Cert.Proof

end
